-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_255" .f32 0x3B808081#32 ((1 / 255 : ℝ) : EReal)
  ∧ IdealRules.named_const.Statement Cert.KernelIdeal.κ "inv_sqrt_147" .f32 0x3DA8EA8C#32 (((Real.sqrt 147)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S1024x64x64x3 : Shape := ⟨4, ![1024, 64, 64, 3]⟩
abbrev S3x147 : Shape := ⟨2, ![3, 147]⟩
abbrev S3 : Shape := ⟨1, ![3]⟩
abbrev S5x147 : Shape := ⟨2, ![5, 147]⟩
abbrev S5 : Shape := ⟨1, ![5]⟩
abbrev S3x5 : Shape := ⟨2, ![3, 5]⟩
abbrev S20x40 : Shape := ⟨2, ![20, 40]⟩
abbrev S20 : Shape := ⟨1, ![20]⟩
abbrev S15x20 : Shape := ⟨2, ![15, 20]⟩
abbrev S15 : Shape := ⟨1, ![15]⟩
abbrev S15x15 : Shape := ⟨2, ![15, 15]⟩
abbrev S_ : Shape := ⟨0, ![]⟩

class Facts : Prop where
  bcast_S_S1024x64x64x3 : S_.BroadcastsInDim S1024x64x64x3 (![] : Fin 0 → Fin S1024x64x64x3.rank)
  reducesTo_S1024x64x64x3_S_d0_1_2_3 : S1024x64x64x3.ReducesTo [0, 1, 2, 3] S_
  h_S_ : 0 < S_.numel
  bcast_S_S3x147 : S_.BroadcastsInDim S3x147 (![] : Fin 0 → Fin S3x147.rank)
  reducesTo_S3x147_S_d0_1 : S3x147.ReducesTo [0, 1] S_
  bcast_S_S3 : S_.BroadcastsInDim S3 (![] : Fin 0 → Fin S3.rank)
  reducesTo_S3_S_d0 : S3.ReducesTo [0] S_
  bcast_S_S15x15 : S_.BroadcastsInDim S15x15 (![] : Fin 0 → Fin S15x15.rank)
  reducesTo_S15x15_S_d0_1 : S15x15.ReducesTo [0, 1] S_
  bcast_S_S15 : S_.BroadcastsInDim S15 (![] : Fin 0 → Fin S15.rank)
  reducesTo_S15_S_d0 : S15.ReducesTo [0] S_

variable [Facts]

def fn_part1 {F : FTy → Type} [FloatOps F] (main_arg13 : FVec F S15x15 .f32) (main_arg14 : FVec F S15 .f32) (main_v3 : IVec S_ 1) (main_v7 : IVec S_ 1) (main_v11 : IVec S_ 1) (main_v15 : IVec S_ 1) : IVec S_ 1 :=
  let main_v16 : FVec F S15x15 .f32 := Host.absf main_arg13
  let main_cst_6 : FVec F S_ .f32 := constant S_ .f32 0x7F800000#32
  let main_v17 : FVec F S15x15 .f32 := broadcastInDim S15x15 ![] bcast_S_S15x15 main_cst_6
  let main_v18 : IVec S15x15 1 := cmpf .olt main_v16 main_v17
  let main_c_7 : IVec S_ 1 := constantI S_ 1 1#1
  let main_v19 : IVec S_ 1 := (fun x v => Host.reduce IntOp.andi x v reducesTo_S15x15_S_d0_1 h_S_) main_v18 main_c_7
  let main_v20 : FVec F S15 .f32 := Host.absf main_arg14
  let main_cst_8 : FVec F S_ .f32 := constant S_ .f32 0x7F800000#32
  let main_v21 : FVec F S15 .f32 := broadcastInDim S15 ![] bcast_S_S15 main_cst_8
  let main_v22 : IVec S15 1 := cmpf .olt main_v20 main_v21
  let main_c_9 : IVec S_ 1 := constantI S_ 1 1#1
  let main_v23 : IVec S_ 1 := (fun x v => Host.reduce IntOp.andi x v reducesTo_S15_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1024x64x64x3 .f32) (main_arg1 : FVec F S3x147 .f32) (main_arg2 : FVec F S3 .f32) (main_arg3 : FVec F S3x147 .f32) (main_arg4 : FVec F S3 .f32) (main_arg5 : FVec F S5x147 .f32) (main_arg6 : FVec F S5 .f32) (main_arg7 : FVec F S3x5 .f32) (main_arg8 : FVec F S3 .f32) (main_arg9 : FVec F S20x40 .f32) (main_arg10 : FVec F S20 .f32) (main_arg11 : FVec F S15x20 .f32) (main_arg12 : FVec F S15 .f32) (main_arg13 : FVec F S15x15 .f32) (main_arg14 : FVec F S15 .f32) : IVec S_ 1 :=
  let main_v0 : FVec F S1024x64x64x3 .f32 := Host.absf main_arg0
  let main_cst : FVec F S_ .f32 := constant S_ .f32 0x7F800000#32
  let main_v1 : FVec F S1024x64x64x3 .f32 := broadcastInDim S1024x64x64x3 ![] bcast_S_S1024x64x64x3 main_cst
  let main_v2 : IVec S1024x64x64x3 1 := cmpf .olt main_v0 main_v1
  let main_c : IVec S_ 1 := constantI S_ 1 1#1
  let main_v3 : IVec S_ 1 := (fun x v => Host.reduce IntOp.andi x v reducesTo_S1024x64x64x3_S_d0_1_2_3 h_S_) main_v2 main_c
  let main_v4 : FVec F S3x147 .f32 := Host.absf main_arg1
  let main_cst_0 : FVec F S_ .f32 := constant S_ .f32 0x7F800000#32
  let main_v5 : FVec F S3x147 .f32 := broadcastInDim S3x147 ![] bcast_S_S3x147 main_cst_0
  let main_v6 : IVec S3x147 1 := cmpf .olt main_v4 main_v5
  let main_c_1 : IVec S_ 1 := constantI S_ 1 1#1
  let main_v7 : IVec S_ 1 := (fun x v => Host.reduce IntOp.andi x v reducesTo_S3x147_S_d0_1 h_S_) main_v6 main_c_1
  let main_v8 : FVec F S3x147 .f32 := Host.absf main_arg3
  let main_cst_2 : FVec F S_ .f32 := constant S_ .f32 0x7F800000#32
  let main_v9 : FVec F S3x147 .f32 := broadcastInDim S3x147 ![] bcast_S_S3x147 main_cst_2
  let main_v10 : IVec S3x147 1 := cmpf .olt main_v8 main_v9
  let main_c_3 : IVec S_ 1 := constantI S_ 1 1#1
  let main_v11 : IVec S_ 1 := (fun x v => Host.reduce IntOp.andi x v reducesTo_S3x147_S_d0_1 h_S_) main_v10 main_c_3
  let main_v12 : FVec F S3 .f32 := Host.absf main_arg4
  let main_cst_4 : FVec F S_ .f32 := constant S_ .f32 0x7F800000#32
  let main_v13 : FVec F S3 .f32 := broadcastInDim S3 ![] bcast_S_S3 main_cst_4
  let main_v14 : IVec S3 1 := cmpf .olt main_v12 main_v13
  let main_c_5 : IVec S_ 1 := constantI S_ 1 1#1
  let main_v15 : IVec S_ 1 := (fun x v => Host.reduce IntOp.andi x v reducesTo_S3_S_d0 h_S_) main_v14 main_c_5
  fn_part1 (F := F) main_arg13 main_arg14 main_v3 main_v7 main_v11 main_v15
-- ==== Kernel.lean ====
abbrev S1024x64x64x3 : Shape := ⟨4, ![1024, 64, 64, 3]⟩
abbrev S3x147 : Shape := ⟨2, ![3, 147]⟩
abbrev S3 : Shape := ⟨1, ![3]⟩
abbrev S5x147 : Shape := ⟨2, ![5, 147]⟩
abbrev S5 : Shape := ⟨1, ![5]⟩
abbrev S3x5 : Shape := ⟨2, ![3, 5]⟩
abbrev S20x40 : Shape := ⟨2, ![20, 40]⟩
abbrev S20 : Shape := ⟨1, ![20]⟩
abbrev S15x20 : Shape := ⟨2, ![15, 20]⟩
abbrev S15 : Shape := ⟨1, ![15]⟩
abbrev S15x15 : Shape := ⟨2, ![15, 15]⟩
abbrev S192x315 : Shape := ⟨2, ![192, 315]⟩
abbrev S225x225 : Shape := ⟨2, ![225, 225]⟩
abbrev S11x147 : Shape := ⟨2, ![11, 147]⟩
abbrev S11x3x49 : Shape := ⟨3, ![11, 3, 49]⟩
abbrev S49x3x11 : Shape := ⟨3, ![49, 3, 11]⟩
abbrev S49x11x3 : Shape := ⟨3, ![49, 11, 3]⟩
abbrev S49x1x11x3x1 : Shape := ⟨5, ![49, 1, 11, 3, 1]⟩
abbrev S1x15x1x1x15 : Shape := ⟨5, ![1, 15, 1, 1, 15]⟩
abbrev S49x15x11x3x15 : Shape := ⟨5, ![49, 15, 11, 3, 15]⟩
abbrev S49x15x3x11x15 : Shape := ⟨5, ![49, 15, 3, 11, 15]⟩
abbrev S49x45x165 : Shape := ⟨3, ![49, 45, 165]⟩
abbrev S7x315x165 : Shape := ⟨3, ![7, 315, 165]⟩
abbrev S11 : Shape := ⟨1, ![11]⟩
abbrev S11x15 : Shape := ⟨2, ![11, 15]⟩
abbrev S165 : Shape := ⟨1, ![165]⟩
abbrev S1x165 : Shape := ⟨2, ![1, 165]⟩
abbrev S1024x16x768 : Shape := ⟨3, ![1024, 16, 768]⟩
abbrev S5x3 : Shape := ⟨2, ![5, 3]⟩
abbrev S1x3 : Shape := ⟨2, ![1, 3]⟩
abbrev S40x20 : Shape := ⟨2, ![40, 20]⟩
abbrev S1x20 : Shape := ⟨2, ![1, 20]⟩
abbrev S20x15 : Shape := ⟨2, ![20, 15]⟩
abbrev S1x15 : Shape := ⟨2, ![1, 15]⟩
abbrev S32x1x32 : Shape := ⟨3, ![32, 1, 32]⟩
abbrev S32x16x768 : Shape := ⟨3, ![32, 16, 768]⟩
abbrev S1x1x32 : Shape := ⟨3, ![1, 1, 32]⟩
abbrev S480x165 : Shape := ⟨2, ![480, 165]⟩
abbrev S32x15x192 : Shape := ⟨3, ![32, 15, 192]⟩
abbrev S480x192 : Shape := ⟨2, ![480, 192]⟩
abbrev S480x315 : Shape := ⟨2, ![480, 315]⟩
abbrev S1x315x165 : Shape := ⟨3, ![1, 315, 165]⟩
abbrev S315x165 : Shape := ⟨2, ![315, 165]⟩
abbrev S32x15x11x15 : Shape := ⟨4, ![32, 15, 11, 15]⟩
abbrev S32x15x15x11 : Shape := ⟨4, ![32, 15, 15, 11]⟩
abbrev S32x225x11 : Shape := ⟨3, ![32, 225, 11]⟩
abbrev S32x225x3 : Shape := ⟨3, ![32, 225, 3]⟩
abbrev S32x225x5 : Shape := ⟨3, ![32, 225, 5]⟩
abbrev S32x75x3 : Shape := ⟨3, ![32, 75, 3]⟩
abbrev S32x75x1 : Shape := ⟨3, ![32, 75, 1]⟩
abbrev S32x75 : Shape := ⟨2, ![32, 75]⟩
abbrev S32x225 : Shape := ⟨2, ![32, 225]⟩
abbrev S32x1x225 : Shape := ⟨3, ![32, 1, 225]⟩
abbrev S32x3x225 : Shape := ⟨3, ![32, 3, 225]⟩
abbrev S32x225x225 : Shape := ⟨3, ![32, 225, 225]⟩
abbrev S32x225x1 : Shape := ⟨3, ![32, 225, 1]⟩
abbrev S32 : Shape := ⟨1, ![32]⟩
abbrev S32x1 : Shape := ⟨2, ![32, 1]⟩
abbrev S32x8 : Shape := ⟨2, ![32, 8]⟩
abbrev S32x8x225 : Shape := ⟨3, ![32, 8, 225]⟩
abbrev S32x8x1 : Shape := ⟨3, ![32, 8, 1]⟩
abbrev S32x8x5 : Shape := ⟨3, ![32, 8, 5]⟩
abbrev S32x8x3 : Shape := ⟨3, ![32, 8, 3]⟩
abbrev S1x1x3 : Shape := ⟨3, ![1, 1, 3]⟩
abbrev S32x1x3 : Shape := ⟨3, ![32, 1, 3]⟩
abbrev S32x3 : Shape := ⟨2, ![32, 3]⟩
abbrev S32x24 : Shape := ⟨2, ![32, 24]⟩
abbrev S32x16 : Shape := ⟨2, ![32, 16]⟩
abbrev S32x40 : Shape := ⟨2, ![32, 40]⟩
abbrev S32x20 : Shape := ⟨2, ![32, 20]⟩
abbrev S32x15 : Shape := ⟨2, ![32, 15]⟩

abbrev nBuf : Space → Nat
  | .hbm => 44
  | .vmem => 16
  | .smem => 0
  | _ => 0

abbrev bufTy : (tb : Table) → Fin (tcTables nBuf tb) → BufTy
  | .hbm, ⟨0, _⟩ => ⟨S1024x64x64x3, .f32⟩
  | .hbm, ⟨1, _⟩ => ⟨S3x147, .f32⟩
  | .hbm, ⟨2, _⟩ => ⟨S3, .f32⟩
  | .hbm, ⟨3, _⟩ => ⟨S3x147, .f32⟩
  | .hbm, ⟨4, _⟩ => ⟨S3, .f32⟩
  | .hbm, ⟨5, _⟩ => ⟨S5x147, .f32⟩
  | .hbm, ⟨6, _⟩ => ⟨S5, .f32⟩
  | .hbm, ⟨7, _⟩ => ⟨S3x5, .f32⟩
  | .hbm, ⟨8, _⟩ => ⟨S3, .f32⟩
  | .hbm, ⟨9, _⟩ => ⟨S20x40, .f32⟩
  | .hbm, ⟨10, _⟩ => ⟨S20, .f32⟩
  | .hbm, ⟨11, _⟩ => ⟨S15x20, .f32⟩
  | .hbm, ⟨12, _⟩ => ⟨S15, .f32⟩
  | .hbm, ⟨13, _⟩ => ⟨S15x15, .f32⟩
  | .hbm, ⟨14, _⟩ => ⟨S15, .f32⟩
  | .hbm, ⟨15, _⟩ => ⟨S192x315, .f32⟩
  | .hbm, ⟨16, _⟩ => ⟨S225x225, .f32⟩
  | .hbm, ⟨17, _⟩ => ⟨S15x15, .f32⟩
  | .hbm, ⟨18, _⟩ => ⟨S11x147, .f32⟩
  | .hbm, ⟨19, _⟩ => ⟨S11x3x49, .f32⟩
  | .hbm, ⟨20, _⟩ => ⟨S49x3x11, .f32⟩
  | .hbm, ⟨21, _⟩ => ⟨S49x11x3, .f32⟩
  | .hbm, ⟨22, _⟩ => ⟨S49x1x11x3x1, .f32⟩
  | .hbm, ⟨23, _⟩ => ⟨S1x15x1x1x15, .f32⟩
  | .hbm, ⟨24, _⟩ => ⟨S49x15x11x3x15, .f32⟩
  | .hbm, ⟨25, _⟩ => ⟨S49x15x11x3x15, .f32⟩
  | .hbm, ⟨26, _⟩ => ⟨S49x15x11x3x15, .f32⟩
  | .hbm, ⟨27, _⟩ => ⟨S49x15x3x11x15, .f32⟩
  | .hbm, ⟨28, _⟩ => ⟨S49x45x165, .f32⟩
  | .hbm, ⟨29, _⟩ => ⟨S7x315x165, .f32⟩
  | .hbm, ⟨30, _⟩ => ⟨S11, .f32⟩
  | .hbm, ⟨31, _⟩ => ⟨S11x15, .f32⟩
  | .hbm, ⟨32, _⟩ => ⟨S165, .f32⟩
  | .hbm, ⟨33, _⟩ => ⟨S1x165, .f32⟩
  | .hbm, ⟨34, _⟩ => ⟨S1024x16x768, .f32⟩
  | .hbm, ⟨35, _⟩ => ⟨S5x3, .f32⟩
  | .hbm, ⟨36, _⟩ => ⟨S1x3, .f32⟩
  | .hbm, ⟨37, _⟩ => ⟨S40x20, .f32⟩
  | .hbm, ⟨38, _⟩ => ⟨S1x20, .f32⟩
  | .hbm, ⟨39, _⟩ => ⟨S20x15, .f32⟩
  | .hbm, ⟨40, _⟩ => ⟨S1x15, .f32⟩
  | .hbm, ⟨41, _⟩ => ⟨S15x15, .f32⟩
  | .hbm, ⟨42, _⟩ => ⟨S1x15, .f32⟩
  | .hbm, ⟨43, _⟩ => ⟨S32x1x32, .i32⟩
  | .local _ .vmem, ⟨0, _⟩ => ⟨S32x16x768, .f32⟩
  | .local _ .vmem, ⟨1, _⟩ => ⟨S32x16x768, .f32⟩
  | .local _ .vmem, ⟨2, _⟩ => ⟨S192x315, .f32⟩
  | .local _ .vmem, ⟨3, _⟩ => ⟨S7x315x165, .f32⟩
  | .local _ .vmem, ⟨4, _⟩ => ⟨S1x165, .f32⟩
  | .local _ .vmem, ⟨5, _⟩ => ⟨S225x225, .f32⟩
  | .local _ .vmem, ⟨6, _⟩ => ⟨S5x3, .f32⟩
  | .local _ .vmem, ⟨7, _⟩ => ⟨S1x3, .f32⟩
  | .local _ .vmem, ⟨8, _⟩ => ⟨S40x20, .f32⟩
  | .local _ .vmem, ⟨9, _⟩ => ⟨S1x20, .f32⟩
  | .local _ .vmem, ⟨10, _⟩ => ⟨S20x15, .f32⟩
  | .local _ .vmem, ⟨11, _⟩ => ⟨S1x15, .f32⟩
  | .local _ .vmem, ⟨12, _⟩ => ⟨S15x15, .f32⟩
  | .local _ .vmem, ⟨13, _⟩ => ⟨S1x15, .f32⟩
  | .local _ .vmem, ⟨14, _⟩ => ⟨S1x1x32, .i32⟩
  | .local _ .vmem, ⟨15, _⟩ => ⟨S1x1x32, .i32⟩
  | _, _ => ⟨S1024x64x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_cst_1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x315 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x315x165 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x165 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S225x225 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x15 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S15x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x15 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x32 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv_255" => some ((1 / 255 : ℝ) : EReal)
  | "inv_sqrt_147" => some (((Real.sqrt 147)⁻¹ : ℝ) : EReal)
  | _ => none
-- ==== ReferenceIdeal.lean ====
abbrev S1024x64x64x3 : Shape := ⟨4, ![1024, 64, 64, 3]⟩
abbrev S3x147 : Shape := ⟨2, ![3, 147]⟩
abbrev S3 : Shape := ⟨1, ![3]⟩
abbrev S5x147 : Shape := ⟨2, ![5, 147]⟩
abbrev S5 : Shape := ⟨1, ![5]⟩
abbrev S3x5 : Shape := ⟨2, ![3, 5]⟩
abbrev S20x40 : Shape := ⟨2, ![20, 40]⟩
abbrev S20 : Shape := ⟨1, ![20]⟩
abbrev S15x20 : Shape := ⟨2, ![15, 20]⟩
abbrev S15 : Shape := ⟨1, ![15]⟩
abbrev S15x15 : Shape := ⟨2, ![15, 15]⟩
abbrev S_ : Shape := ⟨0, ![]⟩
abbrev S1024x15x64x3 : Shape := ⟨4, ![1024, 15, 64, 3]⟩
abbrev S1024x15x1x64x3 : Shape := ⟨5, ![1024, 15, 1, 64, 3]⟩
abbrev S1024x15x7x64x3 : Shape := ⟨5, ![1024, 15, 7, 64, 3]⟩
abbrev S1024x15x7x15x3 : Shape := ⟨5, ![1024, 15, 7, 15, 3]⟩
abbrev S1024x15x7x15x1x3 : Shape := ⟨6, ![1024, 15, 7, 15, 1, 3]⟩
abbrev S1024x15x7x15x7x3 : Shape := ⟨6, ![1024, 15, 7, 15, 7, 3]⟩
abbrev S1024x15x15x3x7x7 : Shape := ⟨6, ![1024, 15, 15, 3, 7, 7]⟩
abbrev S1024x225x147 : Shape := ⟨3, ![1024, 225, 147]⟩
abbrev S147x3 : Shape := ⟨2, ![147, 3]⟩
abbrev S1024x225x3 : Shape := ⟨3, ![1024, 225, 3]⟩
abbrev S1x1x3 : Shape := ⟨3, ![1, 1, 3]⟩
abbrev S1024x3x225 : Shape := ⟨3, ![1024, 3, 225]⟩
abbrev S1024x225x225 : Shape := ⟨3, ![1024, 225, 225]⟩
abbrev S1024x225 : Shape := ⟨2, ![1024, 225]⟩
abbrev S1024x225x1 : Shape := ⟨3, ![1024, 225, 1]⟩
abbrev S1024x8 : Shape := ⟨2, ![1024, 8]⟩
abbrev S1024 : Shape := ⟨1, ![1024]⟩
abbrev S8192 : Shape := ⟨1, ![8192]⟩
abbrev S8192x1 : Shape := ⟨2, ![8192, 1]⟩
abbrev S8192x2 : Shape := ⟨2, ![8192, 2]⟩
abbrev S8192x147 : Shape := ⟨2, ![8192, 147]⟩
abbrev S1024x8x147 : Shape := ⟨3, ![1024, 8, 147]⟩
abbrev S147x5 : Shape := ⟨2, ![147, 5]⟩
abbrev S1024x8x5 : Shape := ⟨3, ![1024, 8, 5]⟩
abbrev S1x1x5 : Shape := ⟨3, ![1, 1, 5]⟩
abbrev S5x3 : Shape := ⟨2, ![5, 3]⟩
abbrev S1024x8x3 : Shape := ⟨3, ![1024, 8, 3]⟩
abbrev S1024x24 : Shape := ⟨2, ![1024, 24]⟩
abbrev S1024x16 : Shape := ⟨2, ![1024, 16]⟩
abbrev S1024x40 : Shape := ⟨2, ![1024, 40]⟩
abbrev S40x20 : Shape := ⟨2, ![40, 20]⟩
abbrev S1024x20 : Shape := ⟨2, ![1024, 20]⟩
abbrev S1x20 : Shape := ⟨2, ![1, 20]⟩
abbrev S20x15 : Shape := ⟨2, ![20, 15]⟩
abbrev S1024x15 : Shape := ⟨2, ![1024, 15]⟩
abbrev S1x15 : Shape := ⟨2, ![1, 15]⟩
abbrev S1024x1 : Shape := ⟨2, ![1024, 1]⟩
abbrev S32x1x32 : Shape := ⟨3, ![32, 1, 32]⟩

abbrev nBuf : Space → Nat
  | .hbm => 230
  | .vmem => 0
  | .smem => 0
  | _ => 0

abbrev hbmTy0_0 (i : Nat) : BufTy := match i % 128 with
  | 0 => ⟨S1024x64x64x3, .f32⟩
  | 1 => ⟨S3x147, .f32⟩
  | 2 => ⟨S3, .f32⟩
  | 3 => ⟨S3x147, .f32⟩
  | 4 => ⟨S3, .f32⟩
  | 5 => ⟨S5x147, .f32⟩
  | 6 => ⟨S5, .f32⟩
  | 7 => ⟨S3x5, .f32⟩
  | 8 => ⟨S3, .f32⟩
  | 9 => ⟨S20x40, .f32⟩
  | 10 => ⟨S20, .f32⟩
  | 11 => ⟨S15x20, .f32⟩
  | 12 => ⟨S15, .f32⟩
  | 13 => ⟨S15x15, .f32⟩
  | 14 => ⟨S15, .f32⟩
  | 15 => ⟨S_, .f32⟩
  | 16 => ⟨S1024x64x64x3, .f32⟩
  | 17 => ⟨S1024x64x64x3, .f32⟩
  | 18 => ⟨S1024x15x64x3, .f32⟩
  | 19 => ⟨S1024x15x64x3, .f32⟩
  | 20 => ⟨S1024x15x64x3, .f32⟩
  | 21 => ⟨S1024x15x64x3, .f32⟩
  | 22 => ⟨S1024x15x64x3, .f32⟩
  | 23 => ⟨S1024x15x64x3, .f32⟩
  | 24 => ⟨S1024x15x64x3, .f32⟩
  | 25 => ⟨S1024x15x1x64x3, .f32⟩
  | 26 => ⟨S1024x15x1x64x3, .f32⟩
  | 27 => ⟨S1024x15x1x64x3, .f32⟩
  | 28 => ⟨S1024x15x1x64x3, .f32⟩
  | 29 => ⟨S1024x15x1x64x3, .f32⟩
  | 30 => ⟨S1024x15x1x64x3, .f32⟩
  | 31 => ⟨S1024x15x1x64x3, .f32⟩
  | 32 => ⟨S1024x15x7x64x3, .f32⟩
  | 33 => ⟨S1024x15x7x15x3, .f32⟩
  | 34 => ⟨S1024x15x7x15x3, .f32⟩
  | 35 => ⟨S1024x15x7x15x3, .f32⟩
  | 36 => ⟨S1024x15x7x15x3, .f32⟩
  | 37 => ⟨S1024x15x7x15x3, .f32⟩
  | 38 => ⟨S1024x15x7x15x3, .f32⟩
  | 39 => ⟨S1024x15x7x15x3, .f32⟩
  | 40 => ⟨S1024x15x7x15x1x3, .f32⟩
  | 41 => ⟨S1024x15x7x15x1x3, .f32⟩
  | 42 => ⟨S1024x15x7x15x1x3, .f32⟩
  | 43 => ⟨S1024x15x7x15x1x3, .f32⟩
  | 44 => ⟨S1024x15x7x15x1x3, .f32⟩
  | 45 => ⟨S1024x15x7x15x1x3, .f32⟩
  | 46 => ⟨S1024x15x7x15x1x3, .f32⟩
  | 47 => ⟨S1024x15x7x15x7x3, .f32⟩
  | 48 => ⟨S1024x15x15x3x7x7, .f32⟩
  | 49 => ⟨S1024x225x147, .f32⟩
  | 50 => ⟨S147x3, .f32⟩
  | 51 => ⟨S1024x225x3, .f32⟩
  | 52 => ⟨S1x1x3, .f32⟩
  | 53 => ⟨S1024x225x3, .f32⟩
  | 54 => ⟨S1024x225x3, .f32⟩
  | 55 => ⟨S147x3, .f32⟩
  | 56 => ⟨S1024x225x3, .f32⟩
  | 57 => ⟨S1x1x3, .f32⟩
  | 58 => ⟨S1024x225x3, .f32⟩
  | 59 => ⟨S1024x225x3, .f32⟩
  | 60 => ⟨S1024x3x225, .f32⟩
  | 61 => ⟨S1024x225x225, .f32⟩
  | 62 => ⟨S_, .f32⟩
  | 63 => ⟨S_, .f32⟩
  | 64 => ⟨S1024x225x225, .f32⟩
  | 65 => ⟨S1024x225x225, .f32⟩
  | 66 => ⟨S_, .f32⟩
  | 67 => ⟨S1024x225, .f32⟩
  | 68 => ⟨S_, .f32⟩
  | 69 => ⟨S1024x225, .f32⟩
  | 70 => ⟨S1024x225, .f32⟩
  | 71 => ⟨S1024x225x1, .f32⟩
  | 72 => ⟨S1024x225x225, .f32⟩
  | 73 => ⟨S1024x225x225, .f32⟩
  | 74 => ⟨S1024x225x225, .f32⟩
  | 75 => ⟨S_, .f32⟩
  | 76 => ⟨S1024x225, .f32⟩
  | 77 => ⟨S1024x225x1, .f32⟩
  | 78 => ⟨S1024x225x225, .f32⟩
  | 79 => ⟨S1024x225x225, .f32⟩
  | 80 => ⟨S_, .f32⟩
  | 81 => ⟨S1024x225, .f32⟩
  | 82 => ⟨S1024x8, .f32⟩
  | 83 => ⟨S1024x8, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S1024x8, .i32⟩
  | 91 => ⟨S1024x8, .i32⟩
  | 92 => ⟨S_, .i32⟩
  | 93 => ⟨S1024x8, .i32⟩
  | 94 => ⟨S1024x8, .i1⟩
  | 95 => ⟨S_, .i32⟩
  | 96 => ⟨S1024x8, .i32⟩
  | 97 => ⟨S1024x8, .i1⟩
  | 98 => ⟨S_, .i32⟩
  | 99 => ⟨S_, .i1⟩
  | 100 => ⟨S1024x8, .i1⟩
  | 101 => ⟨S1024x8, .i1⟩
  | 102 => ⟨S1024x8, .i1⟩
  | 103 => ⟨S1024x8, .i32⟩
  | 104 => ⟨S1024x8, .i32⟩
  | 105 => ⟨S1024x8, .i32⟩
  | 106 => ⟨S_, .i32⟩
  | 107 => ⟨S_, .i32⟩
  | 108 => ⟨S1024x8, .i32⟩
  | 109 => ⟨S1024x8, .i32⟩
  | 110 => ⟨S1024x8, .i32⟩
  | 111 => ⟨S_, .i32⟩
  | 112 => ⟨S1024x8, .i32⟩
  | 113 => ⟨S1024x8, .i1⟩
  | 114 => ⟨S1024x8, .i32⟩
  | 115 => ⟨S1024x8, .i32⟩
  | 116 => ⟨S_, .i32⟩
  | 117 => ⟨S1024x8, .i32⟩
  | 118 => ⟨S1024x8, .i1⟩
  | 119 => ⟨S1024x8, .i1⟩
  | 120 => ⟨S_, .i32⟩
  | 121 => ⟨S1024x8, .i32⟩
  | 122 => ⟨S1024x8, .i32⟩
  | 123 => ⟨S1024x8, .i32⟩
  | 124 => ⟨S1024, .i32⟩
  | 125 => ⟨S1024x8, .i32⟩
  | 126 => ⟨S8192, .i32⟩
  | 127 => ⟨S8192, .i32⟩
  | _ => ⟨S1024x64x64x3, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x1, .i32⟩
  | 16 => ⟨S8192x2, .i32⟩
  | 17 => ⟨S8192x147, .f32⟩
  | 18 => ⟨S1024x8x147, .f32⟩
  | 19 => ⟨S147x5, .f32⟩
  | 20 => ⟨S1024x8x5, .f32⟩
  | 21 => ⟨S1x1x5, .f32⟩
  | 22 => ⟨S1024x8x5, .f32⟩
  | 23 => ⟨S1024x8x5, .f32⟩
  | 24 => ⟨S_, .f32⟩
  | 25 => ⟨S1024x8x5, .f32⟩
  | 26 => ⟨S1024x8x5, .f32⟩
  | 27 => ⟨S5x3, .f32⟩
  | 28 => ⟨S1024x8x3, .f32⟩
  | 29 => ⟨S1x1x3, .f32⟩
  | 30 => ⟨S1024x8x3, .f32⟩
  | 31 => ⟨S1024x8x3, .f32⟩
  | 32 => ⟨S1024x24, .f32⟩
  | 33 => ⟨S_, .i32⟩
  | 34 => ⟨S1024x8, .i32⟩
  | 35 => ⟨S1024x8, .i32⟩
  | 36 => ⟨S_, .i32⟩
  | 37 => ⟨S1024x8, .i32⟩
  | 38 => ⟨S1024x8, .i32⟩
  | 39 => ⟨S_, .i32⟩
  | 40 => ⟨S1024x8, .i32⟩
  | 41 => ⟨S1024x8, .i32⟩
  | 42 => ⟨S_, .i32⟩
  | 43 => ⟨S1024x8, .i32⟩
  | 44 => ⟨S1024x8, .i32⟩
  | 45 => ⟨S1024x16, .i32⟩
  | 46 => ⟨S1024x16, .f32⟩
  | 47 => ⟨S_, .f32⟩
  | 48 => ⟨S1024x16, .f32⟩
  | 49 => ⟨S1024x16, .f32⟩
  | 50 => ⟨S1024x40, .f32⟩
  | 51 => ⟨S40x20, .f32⟩
  | 52 => ⟨S1024x20, .f32⟩
  | 53 => ⟨S1x20, .f32⟩
  | 54 => ⟨S1024x20, .f32⟩
  | 55 => ⟨S1024x20, .f32⟩
  | 56 => ⟨S1024x20, .f32⟩
  | 57 => ⟨S1024x20, .f32⟩
  | 58 => ⟨S_, .f32⟩
  | 59 => ⟨S1024x20, .f32⟩
  | 60 => ⟨S1024x20, .f32⟩
  | 61 => ⟨S_, .f32⟩
  | 62 => ⟨S1024x20, .f32⟩
  | 63 => ⟨S1024x20, .f32⟩
  | 64 => ⟨S20x15, .f32⟩
  | 65 => ⟨S1024x15, .f32⟩
  | 66 => ⟨S1x15, .f32⟩
  | 67 => ⟨S1024x15, .f32⟩
  | 68 => ⟨S1024x15, .f32⟩
  | 69 => ⟨S1024x15, .f32⟩
  | 70 => ⟨S1024x15, .f32⟩
  | 71 => ⟨S_, .f32⟩
  | 72 => ⟨S1024x15, .f32⟩
  | 73 => ⟨S1024x15, .f32⟩
  | 74 => ⟨S_, .f32⟩
  | 75 => ⟨S1024x15, .f32⟩
  | 76 => ⟨S1024x15, .f32⟩
  | 77 => ⟨S15x15, .f32⟩
  | 78 => ⟨S1024x15, .f32⟩
  | 79 => ⟨S1x15, .f32⟩
  | 80 => ⟨S1024x15, .f32⟩
  | 81 => ⟨S1024x15, .f32⟩
  | 82 => ⟨S_, .f32⟩
  | 83 => ⟨S1024, .f32⟩
  | 84 => ⟨S_, .f32⟩
  | 85 => ⟨S1024, .f32⟩
  | 86 => ⟨S1024, .f32⟩
  | 87 => ⟨S1024x1, .f32⟩
  | 88 => ⟨S1024x15, .f32⟩
  | 89 => ⟨S1024x15, .f32⟩
  | 90 => ⟨S1024x15, .f32⟩
  | 91 => ⟨S_, .f32⟩
  | 92 => ⟨S1024, .f32⟩
  | 93 => ⟨S1024x1, .f32⟩
  | 94 => ⟨S1024x15, .f32⟩
  | 95 => ⟨S1024x15, .f32⟩
  | 96 => ⟨S1024x15, .i32⟩
  | 97 => ⟨S_, .f32⟩
  | 98 => ⟨S_, .i32⟩
  | 99 => ⟨S1024, .f32⟩
  | 100 => ⟨S1024, .i32⟩
  | 101 => ⟨S32x1x32, .i32⟩
  | _ => ⟨S1024x64x64x3, .f32⟩

abbrev hbmTy (i : Nat) : BufTy := match i / 128 with
  | 0 => hbmTy0_0 i
  | 1 => hbmTy0_1 i
  | _ => ⟨S1024x64x64x3, .f32⟩

abbrev bufTy : (tb : Table) → Fin (tcTables nBuf tb) → BufTy
  | .hbm, ⟨i, _⟩ => hbmTy i
  | _, _ => ⟨S1024x64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_1 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_4 : Ref sig .tc := ⟨.hbm, 80, rfl⟩
abbrev main_v60 : Ref sig .tc := ⟨.hbm, 81, rfl⟩
abbrev main_values : Ref sig .tc := ⟨.hbm, 82, rfl⟩
abbrev main_indices : Ref sig .tc := ⟨.hbm, 83, rfl⟩
abbrev main_c : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_c_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_1 : Ref sig .tc := ⟨.hbm, 92, rfl⟩
abbrev main_call0_v5 : Ref sig .tc := ⟨.hbm, 93, rfl⟩
abbrev main_call0_v6 : Ref sig .tc := ⟨.hbm, 94, rfl⟩
abbrev main_call0_c_2 : Ref sig .tc := ⟨.hbm, 95, rfl⟩
abbrev main_call0_v7 : Ref sig .tc := ⟨.hbm, 96, rfl⟩
abbrev main_call0_v8 : Ref sig .tc := ⟨.hbm, 97, rfl⟩
abbrev main_call0_c_3 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_v12 : Ref sig .tc := ⟨.hbm, 102, rfl⟩
abbrev main_call0_v13 : Ref sig .tc := ⟨.hbm, 103, rfl⟩
abbrev main_call0_v14 : Ref sig .tc := ⟨.hbm, 104, rfl⟩
abbrev main_v61 : Ref sig .tc := ⟨.hbm, 105, rfl⟩
abbrev main_c_5 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_c : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_c_0 : Ref sig .tc := ⟨.hbm, 120, rfl⟩
abbrev main_call1_v12 : Ref sig .tc := ⟨.hbm, 121, rfl⟩
abbrev main_call1_v13 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_c_6 : Ref sig .tc := ⟨.hbm, 128, rfl⟩
abbrev main_v67 : Ref sig .tc := ⟨.hbm, 129, rfl⟩
abbrev main_v68 : Ref sig .tc := ⟨.hbm, 130, rfl⟩
abbrev main_c_7 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_c_8 : Ref sig .tc := ⟨.hbm, 135, rfl⟩
abbrev main_v72 : Ref sig .tc := ⟨.hbm, 136, rfl⟩
abbrev main_v73 : Ref sig .tc := ⟨.hbm, 137, rfl⟩
abbrev main_c_9 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_call2_cst : Ref sig .tc := ⟨.hbm, 152, rfl⟩
abbrev main_call2_v0 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_10 : Ref sig .tc := ⟨.hbm, 161, rfl⟩
abbrev main_v94 : Ref sig .tc := ⟨.hbm, 162, rfl⟩
abbrev main_v95 : Ref sig .tc := ⟨.hbm, 163, rfl⟩
abbrev main_c_11 : Ref sig .tc := ⟨.hbm, 164, rfl⟩
abbrev main_v96 : Ref sig .tc := ⟨.hbm, 165, rfl⟩
abbrev main_v97 : Ref sig .tc := ⟨.hbm, 166, rfl⟩
abbrev main_c_12 : Ref sig .tc := ⟨.hbm, 167, rfl⟩
abbrev main_v98 : Ref sig .tc := ⟨.hbm, 168, rfl⟩
abbrev main_v99 : Ref sig .tc := ⟨.hbm, 169, rfl⟩
abbrev main_c_13 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_14 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_15 : Ref sig .tc := ⟨.hbm, 186, rfl⟩
abbrev main_v114 : Ref sig .tc := ⟨.hbm, 187, rfl⟩
abbrev main_v115 : Ref sig .tc := ⟨.hbm, 188, rfl⟩
abbrev main_cst_16 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_cst_17 : Ref sig .tc := ⟨.hbm, 199, rfl⟩
abbrev main_v125 : Ref sig .tc := ⟨.hbm, 200, rfl⟩
abbrev main_v126 : Ref sig .tc := ⟨.hbm, 201, rfl⟩
abbrev main_cst_18 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_cst_19 : Ref sig .tc := ⟨.hbm, 210, rfl⟩
abbrev main_v134 : Ref sig .tc := ⟨.hbm, 211, rfl⟩
abbrev main_cst_20 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_21 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_call3_v0 : Ref sig .tc := ⟨.hbm, 224, rfl⟩
abbrev main_call3_cst : Ref sig .tc := ⟨.hbm, 225, rfl⟩
abbrev main_call3_c : Ref sig .tc := ⟨.hbm, 226, rfl⟩
abbrev main_call3_v1_0 : Ref sig .tc := ⟨.hbm, 227, rfl⟩
abbrev main_v145 : Ref sig .tc := ⟨.hbm, 228, rfl⟩
abbrev main_v146 : Ref sig .tc := ⟨.hbm, 229, rfl⟩

abbrev nD : Nat := 1
abbrev τ : Topo := Topo.v7x

variable {F : FTy → Type} [FloatOps F]
-- ==== Proof.RefStages.lean ====
/- The reference's ideal reading, stage by stage: each stage is a function of the arrays that it reads, spelt in the
   reference's own host operations. -/
module

public import proofs.«01_k».proof.ReferenceIdeal
public import proofs.«01_k».proof.Proof.Gen.ReferenceIdeal
public import Idealize.ShloMosaic.PureOps.Ideal

@[expose] public section

set_option maxRecDepth 16384

noncomputable section

namespace Cert.ReferenceIdeal.Stage

open Idealize.ShloMosaic Idealize.ShloMosaic.StableHlo Cert.ReferenceIdeal Cert.ReferenceIdeal.Gen

/-- An array of the element type `e` over the shape `s`. -/
abbrev Arr (s : Shape) (e : EltTy) : Type := s.Idx → Elt Ideal e

/-- The observation divided by 255. -/
def refScaled (x : Arr S1024x64x64x3 .f32) : Arr S1024x64x64x3 .f32 :=
  Host.divf (F := Ideal) x (broadcastInDim S1024x64x64x3 ![] bcast_S_S1024x64x64x3 (constant (F := Ideal) S_ .f32
    0x437F0000#32))

/-- The seven row slices, stacked. -/
def refRows (x : Arr S1024x64x64x3 .f32) : Arr S1024x15x7x64x3 .f32 :=
  concatenate S1024x15x7x64x3 2 [⟨S1024x15x1x64x3, ((broadcastInDim S1024x15x1x64x3 ![0, 1, 3, 4]
    bcast_S1024x15x64x3_S1024x15x1x64x3_0_1_3_4 (Host.slice S1024x15x64x3 ![0, 0, 0, 0] ![1, 4, 1, 1] x
    slicesBy_S1024x64x64x3_S1024x15x64x3_0s1_0s4_0s1_0s1)))⟩, ⟨S1024x15x1x64x3, ((broadcastInDim S1024x15x1x64x3
    ![0, 1, 3, 4] bcast_S1024x15x64x3_S1024x15x1x64x3_0_1_3_4 (Host.slice S1024x15x64x3 ![0, 1, 0, 0] ![1, 4, 1,
    1] x slicesBy_S1024x64x64x3_S1024x15x64x3_0s1_1s4_0s1_0s1)))⟩, ⟨S1024x15x1x64x3, ((broadcastInDim
    S1024x15x1x64x3 ![0, 1, 3, 4] bcast_S1024x15x64x3_S1024x15x1x64x3_0_1_3_4 (Host.slice S1024x15x64x3 ![0, 2, 0,
    0] ![1, 4, 1, 1] x slicesBy_S1024x64x64x3_S1024x15x64x3_0s1_2s4_0s1_0s1)))⟩, ⟨S1024x15x1x64x3,
    ((broadcastInDim S1024x15x1x64x3 ![0, 1, 3, 4] bcast_S1024x15x64x3_S1024x15x1x64x3_0_1_3_4 (Host.slice
    S1024x15x64x3 ![0, 3, 0, 0] ![1, 4, 1, 1] x slicesBy_S1024x64x64x3_S1024x15x64x3_0s1_3s4_0s1_0s1)))⟩,
    ⟨S1024x15x1x64x3, ((broadcastInDim S1024x15x1x64x3 ![0, 1, 3, 4] bcast_S1024x15x64x3_S1024x15x1x64x3_0_1_3_4
    (Host.slice S1024x15x64x3 ![0, 4, 0, 0] ![1, 4, 1, 1] x
    slicesBy_S1024x64x64x3_S1024x15x64x3_0s1_4s4_0s1_0s1)))⟩, ⟨S1024x15x1x64x3, ((broadcastInDim S1024x15x1x64x3
    ![0, 1, 3, 4] bcast_S1024x15x64x3_S1024x15x1x64x3_0_1_3_4 (Host.slice S1024x15x64x3 ![0, 5, 0, 0] ![1, 4, 1,
    1] x slicesBy_S1024x64x64x3_S1024x15x64x3_0s1_5s4_0s1_0s1)))⟩, ⟨S1024x15x1x64x3, ((broadcastInDim
    S1024x15x1x64x3 ![0, 1, 3, 4] bcast_S1024x15x64x3_S1024x15x1x64x3_0_1_3_4 (Host.slice S1024x15x64x3 ![0, 6, 0,
    0] ![1, 4, 1, 1] x slicesBy_S1024x64x64x3_S1024x15x64x3_0s1_6s4_0s1_0s1)))⟩]
    concatenates_S1024x15x1x64x3_S1024x15x1x64x3_S1024x15x1x64x3_S1024x15x1x64x3_S1024x15x1x64x3_S1024x15x1x64x3_S1024x15x1x64x3_S1024x15x7x64x3_d2

/-- The seven column slices of the row stack, stacked. -/
def refTaps (x : Arr S1024x15x7x64x3 .f32) : Arr S1024x15x7x15x7x3 .f32 :=
  concatenate S1024x15x7x15x7x3 4 [⟨S1024x15x7x15x1x3, ((broadcastInDim S1024x15x7x15x1x3 ![0, 1, 2, 3, 5]
    bcast_S1024x15x7x15x3_S1024x15x7x15x1x3_0_1_2_3_5 (Host.slice S1024x15x7x15x3 ![0, 0, 0, 0, 0] ![1, 1, 1, 4,
    1] x slicesBy_S1024x15x7x64x3_S1024x15x7x15x3_0s1_0s1_0s1_0s4_0s1)))⟩, ⟨S1024x15x7x15x1x3, ((broadcastInDim
    S1024x15x7x15x1x3 ![0, 1, 2, 3, 5] bcast_S1024x15x7x15x3_S1024x15x7x15x1x3_0_1_2_3_5 (Host.slice
    S1024x15x7x15x3 ![0, 0, 0, 1, 0] ![1, 1, 1, 4, 1] x
    slicesBy_S1024x15x7x64x3_S1024x15x7x15x3_0s1_0s1_0s1_1s4_0s1)))⟩, ⟨S1024x15x7x15x1x3, ((broadcastInDim
    S1024x15x7x15x1x3 ![0, 1, 2, 3, 5] bcast_S1024x15x7x15x3_S1024x15x7x15x1x3_0_1_2_3_5 (Host.slice
    S1024x15x7x15x3 ![0, 0, 0, 2, 0] ![1, 1, 1, 4, 1] x
    slicesBy_S1024x15x7x64x3_S1024x15x7x15x3_0s1_0s1_0s1_2s4_0s1)))⟩, ⟨S1024x15x7x15x1x3, ((broadcastInDim
    S1024x15x7x15x1x3 ![0, 1, 2, 3, 5] bcast_S1024x15x7x15x3_S1024x15x7x15x1x3_0_1_2_3_5 (Host.slice
    S1024x15x7x15x3 ![0, 0, 0, 3, 0] ![1, 1, 1, 4, 1] x
    slicesBy_S1024x15x7x64x3_S1024x15x7x15x3_0s1_0s1_0s1_3s4_0s1)))⟩, ⟨S1024x15x7x15x1x3, ((broadcastInDim
    S1024x15x7x15x1x3 ![0, 1, 2, 3, 5] bcast_S1024x15x7x15x3_S1024x15x7x15x1x3_0_1_2_3_5 (Host.slice
    S1024x15x7x15x3 ![0, 0, 0, 4, 0] ![1, 1, 1, 4, 1] x
    slicesBy_S1024x15x7x64x3_S1024x15x7x15x3_0s1_0s1_0s1_4s4_0s1)))⟩, ⟨S1024x15x7x15x1x3, ((broadcastInDim
    S1024x15x7x15x1x3 ![0, 1, 2, 3, 5] bcast_S1024x15x7x15x3_S1024x15x7x15x1x3_0_1_2_3_5 (Host.slice
    S1024x15x7x15x3 ![0, 0, 0, 5, 0] ![1, 1, 1, 4, 1] x
    slicesBy_S1024x15x7x64x3_S1024x15x7x15x3_0s1_0s1_0s1_5s4_0s1)))⟩, ⟨S1024x15x7x15x1x3, ((broadcastInDim
    S1024x15x7x15x1x3 ![0, 1, 2, 3, 5] bcast_S1024x15x7x15x3_S1024x15x7x15x1x3_0_1_2_3_5 (Host.slice
    S1024x15x7x15x3 ![0, 0, 0, 6, 0] ![1, 1, 1, 4, 1] x
    slicesBy_S1024x15x7x64x3_S1024x15x7x15x3_0s1_0s1_0s1_6s4_0s1)))⟩]
    concatenates_S1024x15x7x15x1x3_S1024x15x7x15x1x3_S1024x15x7x15x1x3_S1024x15x7x15x1x3_S1024x15x7x15x1x3_S1024x15x7x15x1x3_S1024x15x7x15x1x3_S1024x15x7x15x7x3_d4

/-- The 225 patches of 147 numbers each. -/
def refPatches (x : Arr S1024x15x7x15x7x3 .f32) : Arr S1024x225x147 .f32 :=
  shapeCast S1024x225x147 (transpose S1024x15x15x3x7x7 [0, 1, 3, 5, 2, 4] x
    transposes_S1024x15x7x15x7x3_S1024x15x15x3x7x7_0_1_3_5_2_4) shapeCasts_S1024x15x15x3x7x7_S1024x225x147

/-- A projection of every patch to three numbers. -/
def refProj (p : Arr S1024x225x147 .f32) (w : Arr S3x147 .f32) (b : Arr S3 .f32) : Arr S1024x225x3 .f32 :=
  addf (F := Ideal) (Host.dotGeneral (F := Ideal) (φ₁ := .f32) (φ₂ := .f32)
    dot_S1024x225x147_S147x3_S1024x225x3_2_0_01_1_n_n none p (transpose S147x3 [1, 0] w
    transposes_S3x147_S147x3_1_0)) (broadcastInDim S1024x225x3 ![0, 1, 2] bcast_S1x1x3_S1024x225x3_0_1_2
    (broadcastInDim S1x1x3 ![2] bcast_S3_S1x1x3_2 b))

/-- The scaled scores. -/
def refScores (q : Arr S1024x225x3 .f32) (k : Arr S1024x225x3 .f32) : Arr S1024x225x225 .f32 :=
  Host.divf (F := Ideal) (Host.dotGeneral (F := Ideal) (φ₁ := .f32) (φ₂ := .f32)
    dot_S1024x225x3_S1024x3x225_S1024x225x225_2_1_1_2_0_0 none q (shapeCast S1024x3x225 k
    shapeCasts_S1024x225x3_S1024x3x225)) (broadcastInDim S1024x225x225 ![] bcast_S_S1024x225x225 (Host.sqrt (F :=
    Ideal) (constant (F := Ideal) S_ .f32 0x43130000#32)))

/-- Each row's greatest score. -/
def refRowTop (s : Arr S1024x225x225 .f32) : Arr S1024x225 .f32 :=
  Host.reduce (FloatOps.maximumf (F := Ideal) (φ := .f32)) s (constant (F := Ideal) S_ .f32
    0xFF800000#32) reducesTo_S1024x225x225_S1024x225_d2 h_S_

/-- The greater of −∞ and each row's number. -/
def refFloor (m : Arr S1024x225 .f32) : Arr S1024x225 .f32 :=
  maximumf (F := Ideal) (φ := .f32) (broadcastInDim S1024x225 ![] bcast_S_S1024x225 (constant (F := Ideal) S_ .f32
    0xFF800000#32)) m

/-- The exponentials of the scores less a number for each row. -/
def refShifted (s : Arr S1024x225x225 .f32) (m : Arr S1024x225 .f32) : Arr S1024x225x225 .f32 :=
  Host.exp (F := Ideal) (φ := .f32) (subf (F := Ideal) (φ := .f32) s (broadcastInDim S1024x225x225 ![0, 1, 2]
    bcast_S1024x225x1_S1024x225x225_0_1_2 (broadcastInDim S1024x225x1 ![0, 1] bcast_S1024x225_S1024x225x1_0_1 m)))

/-- The exponentials of the scores less their row maximum. -/
def refExps (s : Arr S1024x225x225 .f32) : Arr S1024x225x225 .f32 := refShifted s (refFloor (refRowTop s))

/-- The softmax rows added over the first patch. -/
def refVotes (e : Arr S1024x225x225 .f32) : Arr S1024x225 .f32 :=
  Host.reduceAdd (F := Ideal) (Host.divf (F := Ideal) e (broadcastInDim S1024x225x225 ![0, 1, 2]
    bcast_S1024x225x1_S1024x225x225_0_1_2 (broadcastInDim S1024x225x1 ![0, 1] bcast_S1024x225_S1024x225x1_0_1
    (Host.reduceAdd (F := Ideal) e (constant (F := Ideal) S_ .f32 0x00000000#32)
    reducesTo_S1024x225x225_S1024x225_d2 h_S_)))) (constant (F := Ideal) S_ .f32 0x00000000#32)
    reducesTo_S1024x225x225_S1024x225_d1 h_S_

/-- The eight best patches. -/
def refIdx (v : Arr S1024x225 .f32) : Arr S1024x8 .i32 :=
  (Host.topK S1024x8 1 (FloatOps.cmpfTotal (F := Ideal) (φ := .f32) .gt) v sliceFits_S1024x225_S1024x8).2

/-- The truncated remainder by 25. -/
def refRem (i : Arr S1024x8 .i32) : Arr S1024x8 .i32 :=
  Host.remsi i (broadcastInDim S1024x8 ![] bcast_S_S1024x8 (select (cmpi .eq (constantI S_ 32 25#32) (constantI S_
    32 0#32)) (constantI S_ 32 1#32) (constantI S_ 32 25#32)))

/-- The column number: the remainder by 25. -/
def refCol (r : Arr S1024x8 .i32) : Arr S1024x8 .i32 :=
  select (andi (cmpi .ne (cmpi .slt r (broadcastInDim S1024x8 ![] bcast_S_S1024x8 (constantI S_ 32 0#32)))
    (broadcastInDim S1024x8 ![] bcast_S_S1024x8 (cmpi .slt (select (cmpi .eq (constantI S_ 32 25#32) (constantI S_
    32 0#32)) (constantI S_ 32 1#32) (constantI S_ 32 25#32)) (constantI S_ 32 0#32)))) (cmpi .ne r
    (broadcastInDim S1024x8 ![] bcast_S_S1024x8 (constantI S_ 32 0#32)))) (addi r (broadcastInDim S1024x8 ![]
    bcast_S_S1024x8 (select (cmpi .eq (constantI S_ 32 25#32) (constantI S_ 32 0#32)) (constantI S_ 32 1#32)
    (constantI S_ 32 25#32)))) r

/-- The row number: the quotient by 25. -/
def refRow (i : Arr S1024x8 .i32) : Arr S1024x8 .i32 :=
  select (andi (cmpi .ne (signi i) (broadcastInDim S1024x8 ![] bcast_S_S1024x8 (signi (constantI S_ 32 25#32))))
    (cmpi .ne (Host.remsi i (broadcastInDim S1024x8 ![] bcast_S_S1024x8 (constantI S_ 32 25#32))) (broadcastInDim
    S1024x8 ![] bcast_S_S1024x8 (constantI S_ 32 0#32)))) (subi (Host.divsi i (broadcastInDim S1024x8 ![]
    bcast_S_S1024x8 (constantI S_ 32 25#32))) (broadcastInDim S1024x8 ![] bcast_S_S1024x8 (constantI S_ 32 1#32)))
    (Host.divsi i (broadcastInDim S1024x8 ![] bcast_S_S1024x8 (constantI S_ 32 25#32)))

/-- Image number and patch number side by side. -/
def refPairs (i : Arr S1024x8 .i32) : Arr S8192x2 .i32 :=
  concatenate S8192x2 1 [⟨S8192x1, (broadcastInDim S8192x1 ![0] bcast_S8192_S8192x1_0 (select (cmpi .slt
    (shapeCast S8192 (broadcastInDim S1024x8 ![0] bcast_S1024_S1024x8_0 (iotaInDim S1024 32 0))
    shapeCasts_S1024x8_S8192) (broadcastInDim S8192 ![] bcast_S_S8192 (constantI S_ 32 0#32))) (addi (shapeCast
    S8192 (broadcastInDim S1024x8 ![0] bcast_S1024_S1024x8_0 (iotaInDim S1024 32 0)) shapeCasts_S1024x8_S8192)
    (broadcastInDim S8192 ![] bcast_S_S8192 (constantI S_ 32 1024#32))) (shapeCast S8192 (broadcastInDim S1024x8
    ![0] bcast_S1024_S1024x8_0 (iotaInDim S1024 32 0)) shapeCasts_S1024x8_S8192)))⟩, ⟨S8192x1, (broadcastInDim
    S8192x1 ![0] bcast_S8192_S8192x1_0 (select (cmpi .slt (shapeCast S8192 i shapeCasts_S1024x8_S8192)
    (broadcastInDim S8192 ![] bcast_S_S8192 (constantI S_ 32 0#32))) (addi (shapeCast S8192 i
    shapeCasts_S1024x8_S8192) (broadcastInDim S8192 ![] bcast_S_S8192 (constantI S_ 32 225#32))) (shapeCast S8192
    i shapeCasts_S1024x8_S8192)))⟩] concatenates_S8192x1_S8192x1_S8192x2_d1

/-- The chosen patches. -/
def refChosen (p : Arr S1024x225x147 .f32) (i : Arr S8192x2 .i32) : Arr S1024x8x147 .f32 :=
  shapeCast S1024x8x147 (Host.gather gather_S1024x225x147_S8192x2_S8192x147_1_01_n_n_01_1_11147 p i)
    shapeCasts_S8192x147_S1024x8x147

/-- The first layer on the chosen patches, its positive part, the second layer. -/
def refExtract (p : Arr S1024x8x147 .f32) (w : Arr S5x147 .f32) (b : Arr S5 .f32) (u : Arr S3x5 .f32) (c : Arr
    S3 .f32) : Arr S1024x24 .f32 :=
  shapeCast S1024x24 (addf (F := Ideal) (Host.dotGeneral (F := Ideal) (φ₁ := .f32) (φ₂ := .f32)
    dot_S1024x8x5_S5x3_S1024x8x3_2_0_01_1_n_n none (maximumf (F := Ideal) (addf (F := Ideal) (Host.dotGeneral (F
    := Ideal) (φ₁ := .f32) (φ₂ := .f32) dot_S1024x8x147_S147x5_S1024x8x5_2_0_01_1_n_n none p (transpose S147x5 [1,
    0] w transposes_S5x147_S147x5_1_0)) (broadcastInDim S1024x8x5 ![0, 1, 2] bcast_S1x1x5_S1024x8x5_0_1_2
    (broadcastInDim S1x1x5 ![2] bcast_S5_S1x1x5_2 b))) (broadcastInDim S1024x8x5 ![] bcast_S_S1024x8x5 (constant
    (F := Ideal) S_ .f32 0x00000000#32))) (transpose S5x3 [1, 0] u transposes_S3x5_S5x3_1_0)) (broadcastInDim
    S1024x8x3 ![0, 1, 2] bcast_S1x1x3_S1024x8x3_0_1_2 (broadcastInDim S1x1x3 ![2] bcast_S3_S1x1x3_2 c)))
    shapeCasts_S1024x8x3_S1024x24

/-- Positions and extracted numbers side by side. -/
def refFeatures (r : Arr S1024x8 .i32) (c : Arr S1024x8 .i32) (e : Arr S1024x24 .f32) : Arr S1024x40 .f32 :=
  concatenate S1024x40 1 [⟨S1024x16, (Host.divf (F := Ideal) (sitofp (F := Ideal) .f32 (concatenate S1024x16 1
    [⟨S1024x8, (addi (muli r (broadcastInDim S1024x8 ![] bcast_S_S1024x8 (constantI S_ 32 4#32))) (broadcastInDim
    S1024x8 ![] bcast_S_S1024x8 (constantI S_ 32 4#32)))⟩, ⟨S1024x8, (addi (muli c (broadcastInDim S1024x8 ![]
    bcast_S_S1024x8 (constantI S_ 32 4#32))) (broadcastInDim S1024x8 ![] bcast_S_S1024x8 (constantI S_ 32
    4#32)))⟩] concatenates_S1024x8_S1024x8_S1024x16_d1)) (broadcastInDim S1024x16 ![] bcast_S_S1024x16 (constant
    (F := Ideal) S_ .f32 0x42800000#32)))⟩, ⟨S1024x24, e⟩] concatenates_S1024x16_S1024x24_S1024x40_d1

/-- The first layer of the controller. -/
def refLayer0 (x : Arr S1024x40 .f32) (w : Arr S20x40 .f32) (b : Arr S20 .f32) : Arr S1024x20 .f32 :=
  Host.divf (F := Ideal) (broadcastInDim S1024x20 ![] bcast_S_S1024x20 (constant (F := Ideal) S_ .f32
    0x3F800000#32)) (addf (F := Ideal) (broadcastInDim S1024x20 ![] bcast_S_S1024x20 (constant (F := Ideal) S_
    .f32 0x3F800000#32)) (Host.exp (F := Ideal) (Host.negf (F := Ideal) (addf (F := Ideal) (Host.dotGeneral (F :=
    Ideal) (φ₁ := .f32) (φ₂ := .f32) dot_S1024x40_S40x20_S1024x20_1_0_0_1_n_n none x (transpose S40x20 [1, 0] w
    transposes_S20x40_S40x20_1_0)) (broadcastInDim S1024x20 ![0, 1] bcast_S1x20_S1024x20_0_1 (broadcastInDim S1x20
    ![1] bcast_S20_S1x20_1 b))))))

/-- The second layer of the controller. -/
def refLayer1 (x : Arr S1024x20 .f32) (w : Arr S15x20 .f32) (b : Arr S15 .f32) : Arr S1024x15 .f32 :=
  Host.divf (F := Ideal) (broadcastInDim S1024x15 ![] bcast_S_S1024x15 (constant (F := Ideal) S_ .f32
    0x3F800000#32)) (addf (F := Ideal) (broadcastInDim S1024x15 ![] bcast_S_S1024x15 (constant (F := Ideal) S_
    .f32 0x3F800000#32)) (Host.exp (F := Ideal) (Host.negf (F := Ideal) (addf (F := Ideal) (Host.dotGeneral (F :=
    Ideal) (φ₁ := .f32) (φ₂ := .f32) dot_S1024x20_S20x15_S1024x15_1_0_0_1_n_n none x (transpose S20x15 [1, 0] w
    transposes_S15x20_S20x15_1_0)) (broadcastInDim S1024x15 ![0, 1] bcast_S1x15_S1024x15_0_1 (broadcastInDim S1x15
    ![1] bcast_S15_S1x15_1 b))))))

/-- The last layer of the controller. -/
def refLogits (x : Arr S1024x15 .f32) (w : Arr S15x15 .f32) (b : Arr S15 .f32) : Arr S1024x15 .f32 :=
  addf (F := Ideal) (Host.dotGeneral (F := Ideal) (φ₁ := .f32) (φ₂ := .f32)
    dot_S1024x15_S15x15_S1024x15_1_0_0_1_n_n none x (transpose S15x15 [1, 0] w transposes_S15x15_S15x15_1_0))
    (broadcastInDim S1024x15 ![0, 1] bcast_S1x15_S1024x15_0_1 (broadcastInDim S1x15 ![1] bcast_S15_S1x15_1 b))

/-- Each image's greatest logit. -/
def refRowTop15 (s : Arr S1024x15 .f32) : Arr S1024 .f32 :=
  Host.reduce (FloatOps.maximumf (F := Ideal) (φ := .f32)) s (constant (F := Ideal) S_ .f32 0xFF800000#32)
    reducesTo_S1024x15_S1024_d1 h_S_

/-- The greater of −∞ and each image's number. -/
def refFloor15 (m : Arr S1024 .f32) : Arr S1024 .f32 :=
  maximumf (F := Ideal) (φ := .f32) (broadcastInDim S1024 ![] bcast_S_S1024 (constant (F := Ideal) S_ .f32
    0xFF800000#32)) m

/-- The exponentials of the logits less a number for each image. -/
def refShifted15 (s : Arr S1024x15 .f32) (m : Arr S1024 .f32) : Arr S1024x15 .f32 :=
  Host.exp (F := Ideal) (φ := .f32) (subf (F := Ideal) (φ := .f32) s (broadcastInDim S1024x15 ![0, 1] bcast_S1024x1_S1024x15_0_1
    (broadcastInDim S1024x1 ![0] bcast_S1024_S1024x1_0 m)))

/-- The exponentials of the logits less their maximum. -/
def refExps15 (s : Arr S1024x15 .f32) : Arr S1024x15 .f32 := refShifted15 s (refFloor15 (refRowTop15 s))

/-- The softmax of the logits. -/
def refSoft15 (e : Arr S1024x15 .f32) : Arr S1024x15 .f32 :=
  Host.divf (F := Ideal) e (broadcastInDim S1024x15 ![0, 1] bcast_S1024x1_S1024x15_0_1 (broadcastInDim S1024x1
    ![0] bcast_S1024_S1024x1_0 (Host.reduceAdd (F := Ideal) e (constant (F := Ideal) S_ .f32 0x00000000#32)
    reducesTo_S1024x15_S1024_d1 h_S_)))

/-- The position of the greatest entry. -/
def refBest (a : Arr S1024x15 .f32) : Arr S1024 .i32 :=
  (fun x y u v j => (Host.argReduce (reducer_argmax_f32_i32 (F := Ideal)) x y u v reducesTo_S1024x15_S1024_d1 h_S_
    j).2) a (iotaInDim S1024x15 32 1) (constant (F := Ideal) S_ .f32 0xFF800000#32) (constantI S_ 32 0#32)

/-- The result, in blocks of 32. -/
def refOut (a : Arr S1024 .i32) : Arr S32x1x32 .i32 :=
  shapeCast S32x1x32 a shapeCasts_S1024_S32x1x32

end Cert.ReferenceIdeal.Stage

end
-- ==== Proof.RefSegs.lean ====
/- The reference's run: its operations in 23 groups, one to a stage; what each group leaves in its result and that it
   leaves every other array alone; and the run of the whole line. -/
module

public import proofs.«01_k».proof.Proof.RefStages
public import Idealize.ShloMosaic.Lib.StableHlo.Run
public import Idealize.ShloMosaic.Lib.StableHlo.RunHlo
public import Idealize.ShloMosaic.Lib.StableHlo.RunRead
public import Idealize.ShloMosaic.Adequacy
public import Idealize.ShloMosaic.Init
public import Idealize.ShloMosaic.Lib.Claim
public import Idealize.ShloMosaic.Lib.Pipeline.Frame

@[expose] public section

set_option maxRecDepth 16384

noncomputable section

namespace Cert.ReferenceIdeal.Stage

open Idealize.ShloMosaic Idealize.ShloMosaic.TcCoe Idealize.ShloMosaic.StableHlo Idealize.SL.Sem Cert.ReferenceIdeal Cert.ReferenceIdeal.Gen

variable {F : FTy → Type} [FloatOps F]

/-- The operations of stage 0. -/
def seg0 : List (HloOp τ sig (Elt F)) :=
  [StableHlo.nullary main_cst (constant S_ .f32 0x437F0000#32),
   StableHlo.unary main_cst main_v0 (broadcastInDim S1024x64x64x3 ![] bcast_S_S1024x64x64x3 : (⟨S_, .f32⟩ : BufTy).Contents (Elt F) → (⟨S1024x64x64x3, .f32⟩ : BufTy).Contents (Elt F)),
   StableHlo.binary main_arg0 main_v0 main_v1 (Host.divf : (⟨S1024x64x64x3, .f32⟩ : BufTy).Contents (Elt F) → (⟨S1024x64x64x3, .f32⟩ : BufTy).Contents (Elt F) → (⟨S1024x64x64x3, .f32⟩ : BufTy).Contents (Elt F))]

/-- What they write. -/
abbrev writes0 : List (Ref sig .tc) :=
  [main_cst, main_v0, main_v1]

/-- What stage 0 leaves in its result. -/
theorem seg0_out (V : Valuation τ sig (Elt Ideal)) :
    after (seg0 (F := Ideal)) V (Proc.devRef .tc main_v1) = refScaled (V (Proc.devRef .tc main_arg0)) := by
  unfold seg0
  after_results
  rfl

/-- Stage 0 writes nothing else. -/
theorem seg0_keep (V : Valuation τ sig (Elt Ideal)) {r : Ref sig .tc} (hr : r ∉ writes0) :
    after (seg0 (F := Ideal)) V (Proc.devRef .tc r) = V (Proc.devRef .tc r) :=
  after_unwritten writes0 rfl hr V

/-- Its operations stay within the main thread's arrays. -/
theorem seg0_sub : (seg0 (F := F)).Forall fun op => op.bufs ⊆ tcRefs τ sig := by
  simp [seg0]

/-- Each operation determines its result. -/
theorem seg0_fresh : ∀ op ∈ seg0 (F := F), op.fresh = ∅ := by
  intro _ h
  unfold seg0 at h
  (repeat (cases h with | head => rfl | tail _ h => ?_))
  exact nomatch h

/-- The operations of stage 1. -/
def seg1 : List (HloOp τ sig (Elt F)) :=
  [StableHlo.unary main_v1 main_v2 ((Host.slice S1024x15x64x3 ![0, 0, 0, 0] ![1, 4, 1, 1] · slicesBy_S1024x64x64x3_S1024x15x64x3_0s1_0s4_0s1_0s1) : (⟨S1024x64x64x3, .f32⟩ : BufTy).Contents (Elt F) → (⟨S1024x15x64x3, .f32⟩ : BufTy).Contents (Elt F)),
   StableHlo.unary main_v1 main_v3 ((Host.slice S1024x15x64x3 ![0, 1, 0, 0] ![1, 4, 1, 1] · slicesBy_S1024x64x64x3_S1024x15x64x3_0s1_1s4_0s1_0s1) : (⟨S1024x64x64x3, .f32⟩ : BufTy).Contents (Elt F) → (⟨S1024x15x64x3, .f32⟩ : BufTy).Contents (Elt F)),
   StableHlo.unary main_v1 main_v4 ((Host.slice S1024x15x64x3 ![0, 2, 0, 0] ![1, 4, 1, 1] · slicesBy_S1024x64x64x3_S1024x15x64x3_0s1_2s4_0s1_0s1) : (⟨S1024x64x64x3, .f32⟩ : BufTy).Contents (Elt F) → (⟨S1024x15x64x3, .f32⟩ : BufTy).Contents (Elt F)),
   StableHlo.unary main_v1 main_v5 ((Host.slice S1024x15x64x3 ![0, 3, 0, 0] ![1, 4, 1, 1] · slicesBy_S1024x64x64x3_S1024x15x64x3_0s1_3s4_0s1_0s1) : (⟨S1024x64x64x3, .f32⟩ : BufTy).Contents (Elt F) → (⟨S1024x15x64x3, .f32⟩ : BufTy).Contents (Elt F)),
   StableHlo.unary main_v1 main_v6 ((Host.slice S1024x15x64x3 ![0, 4, 0, 0] ![1, 4, 1, 1] · slicesBy_S1024x64x64x3_S1024x15x64x3_0s1_4s4_0s1_0s1) : (⟨S1024x64x64x3, .f32⟩ : BufTy).Contents (Elt F) → (⟨S1024x15x64x3, .f32⟩ : BufTy).Contents (Elt F)),
   StableHlo.unary main_v1 main_v7 ((Host.slice S1024x15x64x3 ![0, 5, 0, 0] ![1, 4, 1, 1] · slicesBy_S1024x64x64x3_S1024x15x64x3_0s1_5s4_0s1_0s1) : (⟨S1024x64x64x3, .f32⟩ : BufTy).Contents (Elt F) → (⟨S1024x15x64x3, .f32⟩ : BufTy).Contents (Elt F)),
   StableHlo.unary main_v1 main_v8 ((Host.slice S1024x15x64x3 ![0, 6, 0, 0] ![1, 4, 1, 1] · slicesBy_S1024x64x64x3_S1024x15x64x3_0s1_6s4_0s1_0s1) : (⟨S1024x64x64x3, .f32⟩ : BufTy).Contents (Elt F) → (⟨S1024x15x64x3, .f32⟩ : BufTy).Contents (Elt F)),
   StableHlo.unary main_v2 main_v9 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.unary main_v3 main_v10 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.unary main_v4 main_v11 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.unary main_v5 main_v12 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.unary main_v6 main_v13 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.unary main_v7 main_v14 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.unary main_v8 main_v15 (broadcastInDim S1024x15x1x64x3 ![0, 1, 3, 4] bcast_S1024x15x64x3_S1024x15x1x64x3_0_1_3_4 : (⟨S1024x15x64x3, .f32⟩ : BufTy).Contents (Elt F) → (⟨S1024x15x1x64x3, .f32⟩ : BufTy).Contents (Elt F)),
   StableHlo.nary ![main_v9, main_v10, main_v11, main_v12, main_v13, main_v14, main_v15] main_v16 (fun u => (concatenate S1024x15x7x64x3 2 [⟨S1024x15x1x64x3, (u 0 : (⟨S1024x15x1x64x3, .f32⟩ : BufTy).Contents (Elt F))⟩, ⟨S1024x15x1x64x3, (u 1 : (⟨S1024x15x1x64x3, .f32⟩ : BufTy).Contents (Elt F))⟩, ⟨S1024x15x1x64x3, (u 2 : (⟨S1024x15x1x64x3, .f32⟩ : BufTy).Contents (Elt F))⟩, ⟨S1024x15x1x64x3, (u 3 : (⟨S1024x15x1x64x3, .f32⟩ : BufTy).Contents (Elt F))⟩, ⟨S1024x15x1x64x3, (u 4 : (⟨S1024x15x1x64x3, .f32⟩ : BufTy).Contents (Elt F))⟩, ⟨S1024x15x1x64x3, (u 5 : (⟨S1024x15x1x64x3, .f32⟩ : BufTy).Contents (Elt F))⟩, ⟨S1024x15x1x64x3, (u 6 : (⟨S1024x15x1x64x3, .f32⟩ : BufTy).Contents (Elt F))⟩] concatenates_S1024x15x1x64x3_S1024x15x1x64x3_S1024x15x1x64x3_S1024x15x1x64x3_S1024x15x1x64x3_S1024x15x1x64x3_S1024x15x1x64x3_S1024x15x7x64x3_d2 : (⟨S1024x15x7x64x3, .f32⟩ : BufTy).Contents (Elt F)))]

/-- What they write. -/
abbrev writes1 : List (Ref sig .tc) :=
  [main_v2, main_v3, main_v4, main_v5, main_v6, main_v7, main_v8, main_v9, main_v10, main_v11, main_v12, main_v13, main_v14, main_v15, main_v16]

/-- What stage 1 leaves in its result. -/
theorem seg1_out (V : Valuation τ sig (Elt Ideal)) :
    after (seg1 (F := Ideal)) V (Proc.devRef .tc main_v16) = refRows (V (Proc.devRef .tc main_v1)) := by
  unfold seg1
  after_results
  rfl

/-- Stage 1 writes nothing else. -/
theorem seg1_keep (V : Valuation τ sig (Elt Ideal)) {r : Ref sig .tc} (hr : r ∉ writes1) :
    after (seg1 (F := Ideal)) V (Proc.devRef .tc r) = V (Proc.devRef .tc r) :=
  after_unwritten writes1 rfl hr V

/-- Its operations stay within the main thread's arrays. -/
theorem seg1_sub : (seg1 (F := F)).Forall fun op => op.bufs ⊆ tcRefs τ sig := by
  simp [seg1]

/-- Each operation determines its result. -/
theorem seg1_fresh : ∀ op ∈ seg1 (F := F), op.fresh = ∅ := by
  intro _ h
  unfold seg1 at h
  (repeat (cases h with | head => rfl | tail _ h => ?_))
  exact nomatch h

/-- The operations of stage 2. -/
def seg2 : List (HloOp τ sig (Elt F)) :=
  [StableHlo.unary main_v16 main_v17 ((Host.slice S1024x15x7x15x3 ![0, 0, 0, 0, 0] ![1, 1, 1, 4, 1] · slicesBy_S1024x15x7x64x3_S1024x15x7x15x3_0s1_0s1_0s1_0s4_0s1) : (⟨S1024x15x7x64x3, .f32⟩ : BufTy).Contents (Elt F) → (⟨S1024x15x7x15x3, .f32⟩ : BufTy).Contents (Elt F)),
   StableHlo.unary main_v16 main_v18 ((Host.slice S1024x15x7x15x3 ![0, 0, 0, 1, 0] ![1, 1, 1, 4, 1] · slicesBy_S1024x15x7x64x3_S1024x15x7x15x3_0s1_0s1_0s1_1s4_0s1) : (⟨S1024x15x7x64x3, .f32⟩ : BufTy).Contents (Elt F) → (⟨S1024x15x7x15x3, .f32⟩ : BufTy).Contents (Elt F)),
   StableHlo.unary main_v16 main_v19 ((Host.slice S1024x15x7x15x3 ![0, 0, 0, 2, 0] ![1, 1, 1, 4, 1] · slicesBy_S1024x15x7x64x3_S1024x15x7x15x3_0s1_0s1_0s1_2s4_0s1) : (⟨S1024x15x7x64x3, .f32⟩ : BufTy).Contents (Elt F) → (⟨S1024x15x7x15x3, .f32⟩ : BufTy).Contents (Elt F)),
   StableHlo.unary main_v16 main_v20 ((Host.slice S1024x15x7x15x3 ![0, 0, 0, 3, 0] ![1, 1, 1, 4, 1] · slicesBy_S1024x15x7x64x3_S1024x15x7x15x3_0s1_0s1_0s1_3s4_0s1) : (⟨S1024x15x7x64x3, .f32⟩ : BufTy).Contents (Elt F) → (⟨S1024x15x7x15x3, .f32⟩ : BufTy).Contents (Elt F)),
   StableHlo.unary main_v16 main_v21 ((Host.slice S1024x15x7x15x3 ![0, 0, 0, 4, 0] ![1, 1, 1, 4, 1] · slicesBy_S1024x15x7x64x3_S1024x15x7x15x3_0s1_0s1_0s1_4s4_0s1) : (⟨S1024x15x7x64x3, .f32⟩ : BufTy).Contents (Elt F) → (⟨S1024x15x7x15x3, .f32⟩ : BufTy).Contents (Elt F)),
   StableHlo.unary main_v16 main_v22 ((Host.slice S1024x15x7x15x3 ![0, 0, 0, 5, 0] ![1, 1, 1, 4, 1] · slicesBy_S1024x15x7x64x3_S1024x15x7x15x3_0s1_0s1_0s1_5s4_0s1) : (⟨S1024x15x7x64x3, .f32⟩ : BufTy).Contents (Elt F) → (⟨S1024x15x7x15x3, .f32⟩ : BufTy).Contents (Elt F)),
   StableHlo.unary main_v16 main_v23 ((Host.slice S1024x15x7x15x3 ![0, 0, 0, 6, 0] ![1, 1, 1, 4, 1] · slicesBy_S1024x15x7x64x3_S1024x15x7x15x3_0s1_0s1_0s1_6s4_0s1) : (⟨S1024x15x7x64x3, .f32⟩ : BufTy).Contents (Elt F) → (⟨S1024x15x7x15x3, .f32⟩ : BufTy).Contents (Elt F)),
   StableHlo.unary main_v17 main_v24 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.unary main_v18 main_v25 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.unary main_v19 main_v26 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.unary main_v20 main_v27 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.unary main_v21 main_v28 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.unary main_v22 main_v29 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.unary main_v23 main_v30 (broadcastInDim S1024x15x7x15x1x3 ![0, 1, 2, 3, 5] bcast_S1024x15x7x15x3_S1024x15x7x15x1x3_0_1_2_3_5 : (⟨S1024x15x7x15x3, .f32⟩ : BufTy).Contents (Elt F) → (⟨S1024x15x7x15x1x3, .f32⟩ : BufTy).Contents (Elt F)),
   StableHlo.nary ![main_v24, main_v25, main_v26, main_v27, main_v28, main_v29, main_v30] main_v31 (fun u => (concatenate S1024x15x7x15x7x3 4 [⟨S1024x15x7x15x1x3, (u 0 : (⟨S1024x15x7x15x1x3, .f32⟩ : BufTy).Contents (Elt F))⟩, ⟨S1024x15x7x15x1x3, (u 1 : (⟨S1024x15x7x15x1x3, .f32⟩ : BufTy).Contents (Elt F))⟩, ⟨S1024x15x7x15x1x3, (u 2 : (⟨S1024x15x7x15x1x3, .f32⟩ : BufTy).Contents (Elt F))⟩, ⟨S1024x15x7x15x1x3, (u 3 : (⟨S1024x15x7x15x1x3, .f32⟩ : BufTy).Contents (Elt F))⟩, ⟨S1024x15x7x15x1x3, (u 4 : (⟨S1024x15x7x15x1x3, .f32⟩ : BufTy).Contents (Elt F))⟩, ⟨S1024x15x7x15x1x3, (u 5 : (⟨S1024x15x7x15x1x3, .f32⟩ : BufTy).Contents (Elt F))⟩, ⟨S1024x15x7x15x1x3, (u 6 : (⟨S1024x15x7x15x1x3, .f32⟩ : BufTy).Contents (Elt F))⟩] concatenates_S1024x15x7x15x1x3_S1024x15x7x15x1x3_S1024x15x7x15x1x3_S1024x15x7x15x1x3_S1024x15x7x15x1x3_S1024x15x7x15x1x3_S1024x15x7x15x1x3_S1024x15x7x15x7x3_d4 : (⟨S1024x15x7x15x7x3, .f32⟩ : BufTy).Contents (Elt F)))]

/-- What they write. -/
abbrev writes2 : List (Ref sig .tc) :=
  [main_v17, main_v18, main_v19, main_v20, main_v21, main_v22, main_v23, main_v24, main_v25, main_v26, main_v27, main_v28, main_v29, main_v30, main_v31]

/-- What stage 2 leaves in its result. -/
theorem seg2_out (V : Valuation τ sig (Elt Ideal)) :
    after (seg2 (F := Ideal)) V (Proc.devRef .tc main_v31) = refTaps (V (Proc.devRef .tc main_v16)) := by
  unfold seg2
  after_results
  rfl

/-- Stage 2 writes nothing else. -/
theorem seg2_keep (V : Valuation τ sig (Elt Ideal)) {r : Ref sig .tc} (hr : r ∉ writes2) :
    after (seg2 (F := Ideal)) V (Proc.devRef .tc r) = V (Proc.devRef .tc r) :=
  after_unwritten writes2 rfl hr V

/-- Its operations stay within the main thread's arrays. -/
theorem seg2_sub : (seg2 (F := F)).Forall fun op => op.bufs ⊆ tcRefs τ sig := by
  simp [seg2]

/-- Each operation determines its result. -/
theorem seg2_fresh : ∀ op ∈ seg2 (F := F), op.fresh = ∅ := by
  intro _ h
  unfold seg2 at h
  (repeat (cases h with | head => rfl | tail _ h => ?_))
  exact nomatch h

/-- The operations of stage 3. -/
def seg3 : List (HloOp τ sig (Elt F)) :=
  [StableHlo.unary main_v31 main_v32 ((transpose S1024x15x15x3x7x7 [0, 1, 3, 5, 2, 4] · transposes_S1024x15x7x15x7x3_S1024x15x15x3x7x7_0_1_3_5_2_4) : (⟨S1024x15x7x15x7x3, .f32⟩ : BufTy).Contents (Elt F) → (⟨S1024x15x15x3x7x7, .f32⟩ : BufTy).Contents (Elt F)),
   StableHlo.reshape main_v32 main_v33 (rfl : (.f32 : EltTy) = .f32) shapeCasts_S1024x15x15x3x7x7_S1024x225x147]

/-- What they write. -/
abbrev writes3 : List (Ref sig .tc) :=
  [main_v32, main_v33]

/-- What stage 3 leaves in its result. -/
theorem seg3_out (V : Valuation τ sig (Elt Ideal)) :
    after (seg3 (F := Ideal)) V (Proc.devRef .tc main_v33) = refPatches (V (Proc.devRef .tc main_v31)) := by
  unfold seg3
  after_results
  rfl

/-- Stage 3 writes nothing else. -/
theorem seg3_keep (V : Valuation τ sig (Elt Ideal)) {r : Ref sig .tc} (hr : r ∉ writes3) :
    after (seg3 (F := Ideal)) V (Proc.devRef .tc r) = V (Proc.devRef .tc r) :=
  after_unwritten writes3 rfl hr V

/-- Its operations stay within the main thread's arrays. -/
theorem seg3_sub : (seg3 (F := F)).Forall fun op => op.bufs ⊆ tcRefs τ sig := by
  simp [seg3]

/-- Each operation determines its result. -/
theorem seg3_fresh : ∀ op ∈ seg3 (F := F), op.fresh = ∅ := by
  intro _ h
  unfold seg3 at h
  (repeat (cases h with | head => rfl | tail _ h => ?_))
  exact nomatch h

/-- The operations of stage 4. -/
def seg4 : List (HloOp τ sig (Elt F)) :=
  [StableHlo.unary main_arg1 main_v34 ((transpose S147x3 [1, 0] · transposes_S3x147_S147x3_1_0) : (⟨S3x147, .f32⟩ : BufTy).Contents (Elt F) → (⟨S147x3, .f32⟩ : BufTy).Contents (Elt F)),
   StableHlo.binary main_v33 main_v34 main_v35 ((fun l r => Host.dotGeneral dot_S1024x225x147_S147x3_S1024x225x3_2_0_01_1_n_n none l r) : (⟨S1024x225x147, .f32⟩ : BufTy).Contents (Elt F) → (⟨S147x3, .f32⟩ : BufTy).Contents (Elt F) → (⟨S1024x225x3, .f32⟩ : BufTy).Contents (Elt F)),
   StableHlo.unary main_arg2 main_v36 (broadcastInDim S1x1x3 ![2] bcast_S3_S1x1x3_2 : (⟨S3, .f32⟩ : BufTy).Contents (Elt F) → (⟨S1x1x3, .f32⟩ : BufTy).Contents (Elt F)),
   StableHlo.unary main_v36 main_v37 (broadcastInDim S1024x225x3 ![0, 1, 2] bcast_S1x1x3_S1024x225x3_0_1_2 : (⟨S1x1x3, .f32⟩ : BufTy).Contents (Elt F) → (⟨S1024x225x3, .f32⟩ : BufTy).Contents (Elt F)),
   StableHlo.binary main_v35 main_v37 main_v38 (addf : (⟨S1024x225x3, .f32⟩ : BufTy).Contents (Elt F) → (⟨S1024x225x3, .f32⟩ : BufTy).Contents (Elt F) → (⟨S1024x225x3, .f32⟩ : BufTy).Contents (Elt F))]

/-- What they write. -/
abbrev writes4 : List (Ref sig .tc) :=
  [main_v34, main_v35, main_v36, main_v37, main_v38]

/-- What stage 4 leaves in its result. -/
theorem seg4_out (V : Valuation τ sig (Elt Ideal)) :
    after (seg4 (F := Ideal)) V (Proc.devRef .tc main_v38) = refProj (V (Proc.devRef .tc main_v33)) (V (Proc.devRef .tc main_arg1)) (V (Proc.devRef .tc main_arg2)) := by
  unfold seg4
  after_results
  rfl

/-- Stage 4 writes nothing else. -/
theorem seg4_keep (V : Valuation τ sig (Elt Ideal)) {r : Ref sig .tc} (hr : r ∉ writes4) :
    after (seg4 (F := Ideal)) V (Proc.devRef .tc r) = V (Proc.devRef .tc r) :=
  after_unwritten writes4 rfl hr V

/-- Its operations stay within the main thread's arrays. -/
theorem seg4_sub : (seg4 (F := F)).Forall fun op => op.bufs ⊆ tcRefs τ sig := by
  simp [seg4]

/-- Each operation determines its result. -/
theorem seg4_fresh : ∀ op ∈ seg4 (F := F), op.fresh = ∅ := by
  intro _ h
  unfold seg4 at h
  (repeat (cases h with | head => rfl | tail _ h => ?_))
  exact nomatch h

/-- The operations of stage 5. -/
def seg5 : List (HloOp τ sig (Elt F)) :=
  [StableHlo.unary main_arg3 main_v39 ((transpose S147x3 [1, 0] · transposes_S3x147_S147x3_1_0) : (⟨S3x147, .f32⟩ : BufTy).Contents (Elt F) → (⟨S147x3, .f32⟩ : BufTy).Contents (Elt F)),
   StableHlo.binary main_v33 main_v39 main_v40 ((fun l r => Host.dotGeneral dot_S1024x225x147_S147x3_S1024x225x3_2_0_01_1_n_n none l r) : (⟨S1024x225x147, .f32⟩ : BufTy).Contents (Elt F) → (⟨S147x3, .f32⟩ : BufTy).Contents (Elt F) → (⟨S1024x225x3, .f32⟩ : BufTy).Contents (Elt F)),
   StableHlo.unary main_arg4 main_v41 (broadcastInDim S1x1x3 ![2] bcast_S3_S1x1x3_2 : (⟨S3, .f32⟩ : BufTy).Contents (Elt F) → (⟨S1x1x3, .f32⟩ : BufTy).Contents (Elt F)),
   StableHlo.unary main_v41 main_v42 (broadcastInDim S1024x225x3 ![0, 1, 2] bcast_S1x1x3_S1024x225x3_0_1_2 : (⟨S1x1x3, .f32⟩ : BufTy).Contents (Elt F) → (⟨S1024x225x3, .f32⟩ : BufTy).Contents (Elt F)),
   StableHlo.binary main_v40 main_v42 main_v43 (addf : (⟨S1024x225x3, .f32⟩ : BufTy).Contents (Elt F) → (⟨S1024x225x3, .f32⟩ : BufTy).Contents (Elt F) → (⟨S1024x225x3, .f32⟩ : BufTy).Contents (Elt F))]

/-- What they write. -/
abbrev writes5 : List (Ref sig .tc) :=
  [main_v39, main_v40, main_v41, main_v42, main_v43]

/-- What stage 5 leaves in its result. -/
theorem seg5_out (V : Valuation τ sig (Elt Ideal)) :
    after (seg5 (F := Ideal)) V (Proc.devRef .tc main_v43) = refProj (V (Proc.devRef .tc main_v33)) (V (Proc.devRef .tc main_arg3)) (V (Proc.devRef .tc main_arg4)) := by
  unfold seg5
  after_results
  rfl

/-- Stage 5 writes nothing else. -/
theorem seg5_keep (V : Valuation τ sig (Elt Ideal)) {r : Ref sig .tc} (hr : r ∉ writes5) :
    after (seg5 (F := Ideal)) V (Proc.devRef .tc r) = V (Proc.devRef .tc r) :=
  after_unwritten writes5 rfl hr V

/-- Its operations stay within the main thread's arrays. -/
theorem seg5_sub : (seg5 (F := F)).Forall fun op => op.bufs ⊆ tcRefs τ sig := by
  simp [seg5]

/-- Each operation determines its result. -/
theorem seg5_fresh : ∀ op ∈ seg5 (F := F), op.fresh = ∅ := by
  intro _ h
  unfold seg5 at h
  (repeat (cases h with | head => rfl | tail _ h => ?_))
  exact nomatch h

/-- The operations of stage 6. -/
def seg6 : List (HloOp τ sig (Elt F)) :=
  [StableHlo.reshape main_v43 main_v44 (rfl : (.f32 : EltTy) = .f32) shapeCasts_S1024x225x3_S1024x3x225,
   StableHlo.binary main_v38 main_v44 main_v45 ((fun l r => Host.dotGeneral dot_S1024x225x3_S1024x3x225_S1024x225x225_2_1_1_2_0_0 none l r) : (⟨S1024x225x3, .f32⟩ : BufTy).Contents (Elt F) → (⟨S1024x3x225, .f32⟩ : BufTy).Contents (Elt F) → (⟨S1024x225x225, .f32⟩ : BufTy).Contents (Elt F)),
   StableHlo.nullary main_cst_0 (constant S_ .f32 0x43130000#32),
   StableHlo.unary main_cst_0 main_v46 (Host.sqrt : (⟨S_, .f32⟩ : BufTy).Contents (Elt F) → (⟨S_, .f32⟩ : BufTy).Contents (Elt F)),
   StableHlo.unary main_v46 main_v47 (broadcastInDim S1024x225x225 ![] bcast_S_S1024x225x225 : (⟨S_, .f32⟩ : BufTy).Contents (Elt F) → (⟨S1024x225x225, .f32⟩ : BufTy).Contents (Elt F)),
   StableHlo.binary main_v45 main_v47 main_v48 (Host.divf : (⟨S1024x225x225, .f32⟩ : BufTy).Contents (Elt F) → (⟨S1024x225x225, .f32⟩ : BufTy).Contents (Elt F) → (⟨S1024x225x225, .f32⟩ : BufTy).Contents (Elt F))]

/-- What they write. -/
abbrev writes6 : List (Ref sig .tc) :=
  [main_v44, main_v45, main_cst_0, main_v46, main_v47, main_v48]

/-- What stage 6 leaves in its result. -/
theorem seg6_out (V : Valuation τ sig (Elt Ideal)) :
    after (seg6 (F := Ideal)) V (Proc.devRef .tc main_v48) = refScores (V (Proc.devRef .tc main_v38)) (V (Proc.devRef .tc main_v43)) := by
  unfold seg6
  after_results
  rfl

/-- Stage 6 writes nothing else. -/
theorem seg6_keep (V : Valuation τ sig (Elt Ideal)) {r : Ref sig .tc} (hr : r ∉ writes6) :
    after (seg6 (F := Ideal)) V (Proc.devRef .tc r) = V (Proc.devRef .tc r) :=
  after_unwritten writes6 rfl hr V

/-- Its operations stay within the main thread's arrays. -/
theorem seg6_sub : (seg6 (F := F)).Forall fun op => op.bufs ⊆ tcRefs τ sig := by
  simp [seg6]

/-- Each operation determines its result. -/
theorem seg6_fresh : ∀ op ∈ seg6 (F := F), op.fresh = ∅ := by
  intro _ h
  unfold seg6 at h
  (repeat (cases h with | head => rfl | tail _ h => ?_))
  exact nomatch h

/-- The operations of stage 7. -/
def seg7 : List (HloOp τ sig (Elt F)) :=
  [StableHlo.nullary main_cst_1 (constant S_ .f32 0xFF800000#32),
   StableHlo.binary main_v48 main_cst_1 main_v49 ((fun x v => Host.reduce FloatOps.maximumf x v reducesTo_S1024x225x225_S1024x225_d2 h_S_) : (⟨S1024x225x225, .f32⟩ : BufTy).Contents (Elt F) → (⟨S_, .f32⟩ : BufTy).Contents (Elt F) → (⟨S1024x225, .f32⟩ : BufTy).Contents (Elt F)),
   StableHlo.nullary main_cst_2 (constant S_ .f32 0xFF800000#32),
   StableHlo.unary main_cst_2 main_v50 (broadcastInDim S1024x225 ![] bcast_S_S1024x225 : (⟨S_, .f32⟩ : BufTy).Contents (Elt F) → (⟨S1024x225, .f32⟩ : BufTy).Contents (Elt F)),
   StableHlo.binary main_v50 main_v49 main_v51 (maximumf : (⟨S1024x225, .f32⟩ : BufTy).Contents (Elt F) → (⟨S1024x225, .f32⟩ : BufTy).Contents (Elt F) → (⟨S1024x225, .f32⟩ : BufTy).Contents (Elt F)),
   StableHlo.unary main_v51 main_v52 (broadcastInDim S1024x225x1 ![0, 1] bcast_S1024x225_S1024x225x1_0_1 : (⟨S1024x225, .f32⟩ : BufTy).Contents (Elt F) → (⟨S1024x225x1, .f32⟩ : BufTy).Contents (Elt F)),
   StableHlo.unary main_v52 main_v53 (broadcastInDim S1024x225x225 ![0, 1, 2] bcast_S1024x225x1_S1024x225x225_0_1_2 : (⟨S1024x225x1, .f32⟩ : BufTy).Contents (Elt F) → (⟨S1024x225x225, .f32⟩ : BufTy).Contents (Elt F)),
   StableHlo.binary main_v48 main_v53 main_v54 (subf : (⟨S1024x225x225, .f32⟩ : BufTy).Contents (Elt F) → (⟨S1024x225x225, .f32⟩ : BufTy).Contents (Elt F) → (⟨S1024x225x225, .f32⟩ : BufTy).Contents (Elt F)),
   StableHlo.unary main_v54 main_v55 (Host.exp : (⟨S1024x225x225, .f32⟩ : BufTy).Contents (Elt F) → (⟨S1024x225x225, .f32⟩ : BufTy).Contents (Elt F))]

/-- What they write. -/
abbrev writes7 : List (Ref sig .tc) :=
  [main_cst_1, main_v49, main_cst_2, main_v50, main_v51, main_v52, main_v53, main_v54, main_v55]

/-- What stage 7 leaves in its result. -/
theorem seg7_out (V : Valuation τ sig (Elt Ideal)) :
    after (seg7 (F := Ideal)) V (Proc.devRef .tc main_v55) = refExps (V (Proc.devRef .tc main_v48)) := by
  unfold seg7
  after_results
  rfl

/-- Stage 7 writes nothing else. -/
theorem seg7_keep (V : Valuation τ sig (Elt Ideal)) {r : Ref sig .tc} (hr : r ∉ writes7) :
    after (seg7 (F := Ideal)) V (Proc.devRef .tc r) = V (Proc.devRef .tc r) :=
  after_unwritten writes7 rfl hr V

/-- Its operations stay within the main thread's arrays. -/
theorem seg7_sub : (seg7 (F := F)).Forall fun op => op.bufs ⊆ tcRefs τ sig := by
  simp [seg7]

/-- Each operation determines its result. -/
theorem seg7_fresh : ∀ op ∈ seg7 (F := F), op.fresh = ∅ := by
  intro _ h
  unfold seg7 at h
  (repeat (cases h with | head => rfl | tail _ h => ?_))
  exact nomatch h

/-- The operations of stage 8. -/
def seg8 : List (HloOp τ sig (Elt F)) :=
  [StableHlo.nullary main_cst_3 (constant S_ .f32 0x00000000#32),
   StableHlo.binary main_v55 main_cst_3 main_v56 ((fun x v => Host.reduceAdd x v reducesTo_S1024x225x225_S1024x225_d2 h_S_) : (⟨S1024x225x225, .f32⟩ : BufTy).Contents (Elt F) → (⟨S_, .f32⟩ : BufTy).Contents (Elt F) → (⟨S1024x225, .f32⟩ : BufTy).Contents (Elt F)),
   StableHlo.unary main_v56 main_v57 (broadcastInDim S1024x225x1 ![0, 1] bcast_S1024x225_S1024x225x1_0_1 : (⟨S1024x225, .f32⟩ : BufTy).Contents (Elt F) → (⟨S1024x225x1, .f32⟩ : BufTy).Contents (Elt F)),
   StableHlo.unary main_v57 main_v58 (broadcastInDim S1024x225x225 ![0, 1, 2] bcast_S1024x225x1_S1024x225x225_0_1_2 : (⟨S1024x225x1, .f32⟩ : BufTy).Contents (Elt F) → (⟨S1024x225x225, .f32⟩ : BufTy).Contents (Elt F)),
   StableHlo.binary main_v55 main_v58 main_v59 (Host.divf : (⟨S1024x225x225, .f32⟩ : BufTy).Contents (Elt F) → (⟨S1024x225x225, .f32⟩ : BufTy).Contents (Elt F) → (⟨S1024x225x225, .f32⟩ : BufTy).Contents (Elt F)),
   StableHlo.nullary main_cst_4 (constant S_ .f32 0x00000000#32),
   StableHlo.binary main_v59 main_cst_4 main_v60 ((fun x v => Host.reduceAdd x v reducesTo_S1024x225x225_S1024x225_d1 h_S_) : (⟨S1024x225x225, .f32⟩ : BufTy).Contents (Elt F) → (⟨S_, .f32⟩ : BufTy).Contents (Elt F) → (⟨S1024x225, .f32⟩ : BufTy).Contents (Elt F))]

/-- What they write. -/
abbrev writes8 : List (Ref sig .tc) :=
  [main_cst_3, main_v56, main_v57, main_v58, main_v59, main_cst_4, main_v60]

/-- What stage 8 leaves in its result. -/
theorem seg8_out (V : Valuation τ sig (Elt Ideal)) :
    after (seg8 (F := Ideal)) V (Proc.devRef .tc main_v60) = refVotes (V (Proc.devRef .tc main_v55)) := by
  unfold seg8
  after_results
  rfl

/-- Stage 8 writes nothing else. -/
theorem seg8_keep (V : Valuation τ sig (Elt Ideal)) {r : Ref sig .tc} (hr : r ∉ writes8) :
    after (seg8 (F := Ideal)) V (Proc.devRef .tc r) = V (Proc.devRef .tc r) :=
  after_unwritten writes8 rfl hr V

/-- Its operations stay within the main thread's arrays. -/
theorem seg8_sub : (seg8 (F := F)).Forall fun op => op.bufs ⊆ tcRefs τ sig := by
  simp [seg8]

/-- Each operation determines its result. -/
theorem seg8_fresh : ∀ op ∈ seg8 (F := F), op.fresh = ∅ := by
  intro _ h
  unfold seg8 at h
  (repeat (cases h with | head => rfl | tail _ h => ?_))
  exact nomatch h

/-- The operations of stage 9. -/
def seg9 : List (HloOp τ sig (Elt F)) :=
  [StableHlo.unary main_v60 main_values ((fun x => (Host.topK S1024x8 1 (FloatOps.cmpfTotal .gt) x sliceFits_S1024x225_S1024x8).1) : (⟨S1024x225, .f32⟩ : BufTy).Contents (Elt F) → (⟨S1024x8, .f32⟩ : BufTy).Contents (Elt F)),
   StableHlo.unary main_v60 main_indices ((fun x => (Host.topK S1024x8 1 (FloatOps.cmpfTotal .gt) x sliceFits_S1024x225_S1024x8).2) : (⟨S1024x225, .f32⟩ : BufTy).Contents (Elt F) → (⟨S1024x8, .i32⟩ : BufTy).Contents (Elt F))]

/-- What they write. -/
abbrev writes9 : List (Ref sig .tc) :=
  [main_values, main_indices]

/-- What stage 9 leaves in its result. -/
theorem seg9_out (V : Valuation τ sig (Elt Ideal)) :
    after (seg9 (F := Ideal)) V (Proc.devRef .tc main_indices) = refIdx (V (Proc.devRef .tc main_v60)) := by
  unfold seg9
  after_results
  rfl

/-- Stage 9 writes nothing else. -/
theorem seg9_keep (V : Valuation τ sig (Elt Ideal)) {r : Ref sig .tc} (hr : r ∉ writes9) :
    after (seg9 (F := Ideal)) V (Proc.devRef .tc r) = V (Proc.devRef .tc r) :=
  after_unwritten writes9 rfl hr V

/-- Its operations stay within the main thread's arrays. -/
theorem seg9_sub : (seg9 (F := F)).Forall fun op => op.bufs ⊆ tcRefs τ sig := by
  simp [seg9]

/-- Each operation determines its result. -/
theorem seg9_fresh : ∀ op ∈ seg9 (F := F), op.fresh = ∅ := by
  intro _ h
  unfold seg9 at h
  (repeat (cases h with | head => rfl | tail _ h => ?_))
  exact nomatch h

/-- The operations of stage 10. -/
def seg10 : List (HloOp τ sig (Elt F)) :=
  [StableHlo.nullary main_c (constantI S_ 32 25#32),
   StableHlo.TRef.unary (.of main_c) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary main_call0.v1 main_call0.c_0 main_call0.v0 main_call0.call0.v0 select,
   StableHlo.TRef.unary main_call0.call0.v0 main_call0.v3 (broadcastInDim S1024x8 ![] bcast_S_S1024x8),
   StableHlo.TRef.binary (.of main_indices) main_call0.v3 main_call0.v4 Host.remsi,
   StableHlo.TRef.nullary main_call0.c_1 (constantI S_ 32 0#32),
   StableHlo.TRef.unary main_call0.c_1 main_call0.v5 (broadcastInDim S1024x8 ![] bcast_S_S1024x8),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S1024x8 ![] bcast_S_S1024x8),
   StableHlo.TRef.binary main_call0.v4 main_call0.v7 main_call0.v8 (cmpi .slt),
   StableHlo.TRef.nullary main_call0.c_3 (constantI S_ 32 0#32),
   StableHlo.TRef.binary main_call0.call0.v0 main_call0.c_3 main_call0.v9 (cmpi .slt),
   StableHlo.TRef.unary main_call0.v9 main_call0.v10 (broadcastInDim S1024x8 ![] bcast_S_S1024x8),
   StableHlo.TRef.binary main_call0.v8 main_call0.v10 main_call0.v11 (cmpi .ne),
   StableHlo.TRef.binary main_call0.v11 main_call0.v6 main_call0.v12 andi,
   StableHlo.TRef.unary main_call0.call0.v0 main_call0.v13 (broadcastInDim S1024x8 ![] bcast_S_S1024x8),
   StableHlo.TRef.binary main_call0.v4 main_call0.v13 main_call0.v14 addi,
   StableHlo.TRef.ternary main_call0.v12 main_call0.v14 main_call0.v4 main_call0.v15 select]

/-- What they write. -/
abbrev writes10 : List (Ref sig .tc) :=
  [main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_v61]

/-- What stage 10 leaves in its result. -/
theorem seg10_out (V : Valuation τ sig (Elt Ideal)) :
    after (seg10 (F := Ideal)) V (Proc.devRef .tc main_v61) = refCol (refRem (V (Proc.devRef .tc main_indices))) := by
  unfold seg10
  after_results
  rfl

/-- Stage 10 writes nothing else. -/
theorem seg10_keep (V : Valuation τ sig (Elt Ideal)) {r : Ref sig .tc} (hr : r ∉ writes10) :
    after (seg10 (F := Ideal)) V (Proc.devRef .tc r) = V (Proc.devRef .tc r) :=
  after_unwritten writes10 rfl hr V

/-- Its operations stay within the main thread's arrays. -/
theorem seg10_sub : (seg10 (F := F)).Forall fun op => op.bufs ⊆ tcRefs τ sig := by
  simp [seg10]

/-- Each operation determines its result. -/
theorem seg10_fresh : ∀ op ∈ seg10 (F := F), op.fresh = ∅ := by
  intro _ h
  unfold seg10 at h
  (repeat (cases h with | head => rfl | tail _ h => ?_))
  exact nomatch h

/-- The operations of stage 11. -/
def seg11 : List (HloOp τ sig (Elt F)) :=
  [StableHlo.nullary main_c_5 (constantI S_ 32 25#32),
   StableHlo.TRef.unary (.of main_c_5) main_call1.v0 id,
   StableHlo.TRef.unary main_call1.v0 main_call1.v1 (broadcastInDim S1024x8 ![] bcast_S_S1024x8),
   StableHlo.TRef.binary (.of main_indices) main_call1.v1 main_call1.v2 Host.divsi,
   StableHlo.TRef.unary (.of main_indices) main_call1.v3 signi,
   StableHlo.TRef.unary main_call1.v0 main_call1.v4 signi,
   StableHlo.TRef.unary main_call1.v4 main_call1.v5 (broadcastInDim S1024x8 ![] bcast_S_S1024x8),
   StableHlo.TRef.binary main_call1.v3 main_call1.v5 main_call1.v6 (cmpi .ne),
   StableHlo.TRef.unary main_call1.v0 main_call1.v7 (broadcastInDim S1024x8 ![] bcast_S_S1024x8),
   StableHlo.TRef.binary (.of main_indices) main_call1.v7 main_call1.v8 Host.remsi,
   StableHlo.TRef.nullary main_call1.c (constantI S_ 32 0#32),
   StableHlo.TRef.unary main_call1.c main_call1.v9 (broadcastInDim S1024x8 ![] bcast_S_S1024x8),
   StableHlo.TRef.binary main_call1.v8 main_call1.v9 main_call1.v10 (cmpi .ne),
   StableHlo.TRef.binary main_call1.v6 main_call1.v10 main_call1.v11 andi,
   StableHlo.TRef.nullary main_call1.c_0 (constantI S_ 32 1#32),
   StableHlo.TRef.unary main_call1.c_0 main_call1.v12 (broadcastInDim S1024x8 ![] bcast_S_S1024x8),
   StableHlo.TRef.binary main_call1.v2 main_call1.v12 main_call1.v13 subi,
   StableHlo.TRef.ternary main_call1.v11 main_call1.v13 main_call1.v2 main_call1.call0.v0 select]

/-- What they write. -/
abbrev writes11 : List (Ref sig .tc) :=
  [main_c_5, main_call1.v0.ref, main_call1.v1.ref, main_call1.v2.ref, main_call1.v3.ref, main_call1.v4.ref, main_call1.v5.ref, main_call1.v6.ref, main_call1.v7.ref, main_call1.v8.ref, main_call1.c.ref, main_call1.v9.ref, main_call1.v10.ref, main_call1.v11.ref, main_call1.c_0.ref, main_call1.v12.ref, main_call1.v13.ref, main_v62]

/-- What stage 11 leaves in its result. -/
theorem seg11_out (V : Valuation τ sig (Elt Ideal)) :
    after (seg11 (F := Ideal)) V (Proc.devRef .tc main_v62) = refRow (V (Proc.devRef .tc main_indices)) := by
  unfold seg11
  after_results
  rfl

/-- Stage 11 writes nothing else. -/
theorem seg11_keep (V : Valuation τ sig (Elt Ideal)) {r : Ref sig .tc} (hr : r ∉ writes11) :
    after (seg11 (F := Ideal)) V (Proc.devRef .tc r) = V (Proc.devRef .tc r) :=
  after_unwritten writes11 rfl hr V

/-- Its operations stay within the main thread's arrays. -/
theorem seg11_sub : (seg11 (F := F)).Forall fun op => op.bufs ⊆ tcRefs τ sig := by
  simp [seg11]

/-- Each operation determines its result. -/
theorem seg11_fresh : ∀ op ∈ seg11 (F := F), op.fresh = ∅ := by
  intro _ h
  unfold seg11 at h
  (repeat (cases h with | head => rfl | tail _ h => ?_))
  exact nomatch h

/-- The operations of stage 12. -/
def seg12 : List (HloOp τ sig (Elt F)) :=
  [StableHlo.nullary main_v63 (iotaInDim S1024 32 0),
   StableHlo.unary main_v63 main_v64 (broadcastInDim S1024x8 ![0] bcast_S1024_S1024x8_0 : (⟨S1024, .i32⟩ : BufTy).Contents (Elt F) → (⟨S1024x8, .i32⟩ : BufTy).Contents (Elt F)),
   StableHlo.reshape main_v64 main_v65 (rfl : (.i32 : EltTy) = .i32) shapeCasts_S1024x8_S8192,
   StableHlo.reshape main_indices main_v66 (rfl : (.i32 : EltTy) = .i32) shapeCasts_S1024x8_S8192,
   StableHlo.nullary main_c_6 (constantI S_ 32 0#32),
   StableHlo.unary main_c_6 main_v67 (broadcastInDim S8192 ![] bcast_S_S8192 : (⟨S_, .i32⟩ : BufTy).Contents (Elt F) → (⟨S8192, .i32⟩ : BufTy).Contents (Elt F)),
   StableHlo.binary main_v65 main_v67 main_v68 (cmpi .slt : (⟨S8192, .i32⟩ : BufTy).Contents (Elt F) → (⟨S8192, .i32⟩ : BufTy).Contents (Elt F) → (⟨S8192, .i1⟩ : BufTy).Contents (Elt F)),
   StableHlo.nullary main_c_7 (constantI S_ 32 1024#32),
   StableHlo.unary main_c_7 main_v69 (broadcastInDim S8192 ![] bcast_S_S8192 : (⟨S_, .i32⟩ : BufTy).Contents (Elt F) → (⟨S8192, .i32⟩ : BufTy).Contents (Elt F)),
   StableHlo.binary main_v65 main_v69 main_v70 (addi : (⟨S8192, .i32⟩ : BufTy).Contents (Elt F) → (⟨S8192, .i32⟩ : BufTy).Contents (Elt F) → (⟨S8192, .i32⟩ : BufTy).Contents (Elt F)),
   StableHlo.ternary main_v68 main_v70 main_v65 main_v71 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.nullary main_c_8 (constantI S_ 32 0#32),
   StableHlo.unary main_c_8 main_v72 (broadcastInDim S8192 ![] bcast_S_S8192 : (⟨S_, .i32⟩ : BufTy).Contents (Elt F) → (⟨S8192, .i32⟩ : BufTy).Contents (Elt F)),
   StableHlo.binary main_v66 main_v72 main_v73 (cmpi .slt : (⟨S8192, .i32⟩ : BufTy).Contents (Elt F) → (⟨S8192, .i32⟩ : BufTy).Contents (Elt F) → (⟨S8192, .i1⟩ : BufTy).Contents (Elt F)),
   StableHlo.nullary main_c_9 (constantI S_ 32 225#32),
   StableHlo.unary main_c_9 main_v74 (broadcastInDim S8192 ![] bcast_S_S8192 : (⟨S_, .i32⟩ : BufTy).Contents (Elt F) → (⟨S8192, .i32⟩ : BufTy).Contents (Elt F)),
   StableHlo.binary main_v66 main_v74 main_v75 (addi : (⟨S8192, .i32⟩ : BufTy).Contents (Elt F) → (⟨S8192, .i32⟩ : BufTy).Contents (Elt F) → (⟨S8192, .i32⟩ : BufTy).Contents (Elt F)),
   StableHlo.ternary main_v73 main_v75 main_v66 main_v76 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_v71 main_v77 (broadcastInDim S8192x1 ![0] bcast_S8192_S8192x1_0 : (⟨S8192, .i32⟩ : BufTy).Contents (Elt F) → (⟨S8192x1, .i32⟩ : BufTy).Contents (Elt F)),
   StableHlo.unary main_v76 main_v78 (broadcastInDim S8192x1 ![0] bcast_S8192_S8192x1_0 : (⟨S8192, .i32⟩ : BufTy).Contents (Elt F) → (⟨S8192x1, .i32⟩ : BufTy).Contents (Elt F)),
   StableHlo.binary main_v77 main_v78 main_v79 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))]

/-- What they write. -/
abbrev writes12 : List (Ref sig .tc) :=
  [main_v63, main_v64, main_v65, main_v66, main_c_6, main_v67, main_v68, main_c_7, main_v69, main_v70, main_v71, main_c_8, main_v72, main_v73, main_c_9, main_v74, main_v75, main_v76, main_v77, main_v78, main_v79]

/-- What stage 12 leaves in its result. -/
theorem seg12_out (V : Valuation τ sig (Elt Ideal)) :
    after (seg12 (F := Ideal)) V (Proc.devRef .tc main_v79) = refPairs (V (Proc.devRef .tc main_indices)) := by
  unfold seg12
  after_results
  rfl

/-- Stage 12 writes nothing else. -/
theorem seg12_keep (V : Valuation τ sig (Elt Ideal)) {r : Ref sig .tc} (hr : r ∉ writes12) :
    after (seg12 (F := Ideal)) V (Proc.devRef .tc r) = V (Proc.devRef .tc r) :=
  after_unwritten writes12 rfl hr V

/-- Its operations stay within the main thread's arrays. -/
theorem seg12_sub : (seg12 (F := F)).Forall fun op => op.bufs ⊆ tcRefs τ sig := by
  simp [seg12]

/-- Each operation determines its result. -/
theorem seg12_fresh : ∀ op ∈ seg12 (F := F), op.fresh = ∅ := by
  intro _ h
  unfold seg12 at h
  (repeat (cases h with | head => rfl | tail _ h => ?_))
  exact nomatch h

/-- The operations of stage 13. -/
def seg13 : List (HloOp τ sig (Elt F)) :=
  [StableHlo.binary main_v33 main_v79 main_v80 ((fun x i => Host.gather gather_S1024x225x147_S8192x2_S8192x147_1_01_n_n_01_1_11147 x i) : (⟨S1024x225x147, .f32⟩ : BufTy).Contents (Elt F) → (⟨S8192x2, .i32⟩ : BufTy).Contents (Elt F) → (⟨S8192x147, .f32⟩ : BufTy).Contents (Elt F)),
   StableHlo.reshape main_v80 main_v81 (rfl : (.f32 : EltTy) = .f32) shapeCasts_S8192x147_S1024x8x147]

/-- What they write. -/
abbrev writes13 : List (Ref sig .tc) :=
  [main_v80, main_v81]

/-- What stage 13 leaves in its result. -/
theorem seg13_out (V : Valuation τ sig (Elt Ideal)) :
    after (seg13 (F := Ideal)) V (Proc.devRef .tc main_v81) = refChosen (V (Proc.devRef .tc main_v33)) (V (Proc.devRef .tc main_v79)) := by
  unfold seg13
  after_results
  rfl

/-- Stage 13 writes nothing else. -/
theorem seg13_keep (V : Valuation τ sig (Elt Ideal)) {r : Ref sig .tc} (hr : r ∉ writes13) :
    after (seg13 (F := Ideal)) V (Proc.devRef .tc r) = V (Proc.devRef .tc r) :=
  after_unwritten writes13 rfl hr V

/-- Its operations stay within the main thread's arrays. -/
theorem seg13_sub : (seg13 (F := F)).Forall fun op => op.bufs ⊆ tcRefs τ sig := by
  simp [seg13]

/-- Each operation determines its result. -/
theorem seg13_fresh : ∀ op ∈ seg13 (F := F), op.fresh = ∅ := by
  intro _ h
  unfold seg13 at h
  (repeat (cases h with | head => rfl | tail _ h => ?_))
  exact nomatch h

/-- The operations of stage 14. -/
def seg14 : List (HloOp τ sig (Elt F)) :=
  [StableHlo.unary main_arg5 main_v82 ((transpose S147x5 [1, 0] · transposes_S5x147_S147x5_1_0) : (⟨S5x147, .f32⟩ : BufTy).Contents (Elt F) → (⟨S147x5, .f32⟩ : BufTy).Contents (Elt F)),
   StableHlo.binary main_v81 main_v82 main_v83 ((fun l r => Host.dotGeneral dot_S1024x8x147_S147x5_S1024x8x5_2_0_01_1_n_n none l r) : (⟨S1024x8x147, .f32⟩ : BufTy).Contents (Elt F) → (⟨S147x5, .f32⟩ : BufTy).Contents (Elt F) → (⟨S1024x8x5, .f32⟩ : BufTy).Contents (Elt F)),
   StableHlo.unary main_arg6 main_v84 (broadcastInDim S1x1x5 ![2] bcast_S5_S1x1x5_2 : (⟨S5, .f32⟩ : BufTy).Contents (Elt F) → (⟨S1x1x5, .f32⟩ : BufTy).Contents (Elt F)),
   StableHlo.unary main_v84 main_v85 (broadcastInDim S1024x8x5 ![0, 1, 2] bcast_S1x1x5_S1024x8x5_0_1_2 : (⟨S1x1x5, .f32⟩ : BufTy).Contents (Elt F) → (⟨S1024x8x5, .f32⟩ : BufTy).Contents (Elt F)),
   StableHlo.binary main_v83 main_v85 main_v86 (addf : (⟨S1024x8x5, .f32⟩ : BufTy).Contents (Elt F) → (⟨S1024x8x5, .f32⟩ : BufTy).Contents (Elt F) → (⟨S1024x8x5, .f32⟩ : BufTy).Contents (Elt F)),
   StableHlo.TRef.nullary main_call2.cst (constant S_ .f32 0x00000000#32),
   StableHlo.TRef.unary main_call2.cst main_call2.v0 (broadcastInDim S1024x8x5 ![] bcast_S_S1024x8x5),
   StableHlo.TRef.binary (.of main_v86) main_call2.v0 main_call2.v1 maximumf,
   StableHlo.unary main_arg7 main_v88 ((transpose S5x3 [1, 0] · transposes_S3x5_S5x3_1_0) : (⟨S3x5, .f32⟩ : BufTy).Contents (Elt F) → (⟨S5x3, .f32⟩ : BufTy).Contents (Elt F)),
   StableHlo.binary main_v87 main_v88 main_v89 ((fun l r => Host.dotGeneral dot_S1024x8x5_S5x3_S1024x8x3_2_0_01_1_n_n none l r) : (⟨S1024x8x5, .f32⟩ : BufTy).Contents (Elt F) → (⟨S5x3, .f32⟩ : BufTy).Contents (Elt F) → (⟨S1024x8x3, .f32⟩ : BufTy).Contents (Elt F)),
   StableHlo.unary main_arg8 main_v90 (broadcastInDim S1x1x3 ![2] bcast_S3_S1x1x3_2 : (⟨S3, .f32⟩ : BufTy).Contents (Elt F) → (⟨S1x1x3, .f32⟩ : BufTy).Contents (Elt F)),
   StableHlo.unary main_v90 main_v91 (broadcastInDim S1024x8x3 ![0, 1, 2] bcast_S1x1x3_S1024x8x3_0_1_2 : (⟨S1x1x3, .f32⟩ : BufTy).Contents (Elt F) → (⟨S1024x8x3, .f32⟩ : BufTy).Contents (Elt F)),
   StableHlo.binary main_v89 main_v91 main_v92 (addf : (⟨S1024x8x3, .f32⟩ : BufTy).Contents (Elt F) → (⟨S1024x8x3, .f32⟩ : BufTy).Contents (Elt F) → (⟨S1024x8x3, .f32⟩ : BufTy).Contents (Elt F)),
   StableHlo.reshape main_v92 main_v93 (rfl : (.f32 : EltTy) = .f32) shapeCasts_S1024x8x3_S1024x24]

/-- What they write. -/
abbrev writes14 : List (Ref sig .tc) :=
  [main_v82, main_v83, main_v84, main_v85, main_v86, main_call2.cst.ref, main_call2.v0.ref, main_v87, main_v88, main_v89, main_v90, main_v91, main_v92, main_v93]

/-- What stage 14 leaves in its result. -/
theorem seg14_out (V : Valuation τ sig (Elt Ideal)) :
    after (seg14 (F := Ideal)) V (Proc.devRef .tc main_v93) = refExtract (V (Proc.devRef .tc main_v81)) (V (Proc.devRef .tc main_arg5)) (V (Proc.devRef .tc main_arg6)) (V (Proc.devRef .tc main_arg7)) (V (Proc.devRef .tc main_arg8)) := by
  unfold seg14
  after_results
  rfl

/-- Stage 14 writes nothing else. -/
theorem seg14_keep (V : Valuation τ sig (Elt Ideal)) {r : Ref sig .tc} (hr : r ∉ writes14) :
    after (seg14 (F := Ideal)) V (Proc.devRef .tc r) = V (Proc.devRef .tc r) :=
  after_unwritten writes14 rfl hr V

/-- Its operations stay within the main thread's arrays. -/
theorem seg14_sub : (seg14 (F := F)).Forall fun op => op.bufs ⊆ tcRefs τ sig := by
  simp [seg14]

/-- Each operation determines its result. -/
theorem seg14_fresh : ∀ op ∈ seg14 (F := F), op.fresh = ∅ := by
  intro _ h
  unfold seg14 at h
  (repeat (cases h with | head => rfl | tail _ h => ?_))
  exact nomatch h

/-- The operations of stage 15. -/
def seg15 : List (HloOp τ sig (Elt F)) :=
  [StableHlo.nullary main_c_10 (constantI S_ 32 4#32),
   StableHlo.unary main_c_10 main_v94 (broadcastInDim S1024x8 ![] bcast_S_S1024x8 : (⟨S_, .i32⟩ : BufTy).Contents (Elt F) → (⟨S1024x8, .i32⟩ : BufTy).Contents (Elt F)),
   StableHlo.binary main_v62 main_v94 main_v95 (muli : (⟨S1024x8, .i32⟩ : BufTy).Contents (Elt F) → (⟨S1024x8, .i32⟩ : BufTy).Contents (Elt F) → (⟨S1024x8, .i32⟩ : BufTy).Contents (Elt F)),
   StableHlo.nullary main_c_11 (constantI S_ 32 4#32),
   StableHlo.unary main_c_11 main_v96 (broadcastInDim S1024x8 ![] bcast_S_S1024x8 : (⟨S_, .i32⟩ : BufTy).Contents (Elt F) → (⟨S1024x8, .i32⟩ : BufTy).Contents (Elt F)),
   StableHlo.binary main_v95 main_v96 main_v97 (addi : (⟨S1024x8, .i32⟩ : BufTy).Contents (Elt F) → (⟨S1024x8, .i32⟩ : BufTy).Contents (Elt F) → (⟨S1024x8, .i32⟩ : BufTy).Contents (Elt F)),
   StableHlo.nullary main_c_12 (constantI S_ 32 4#32),
   StableHlo.unary main_c_12 main_v98 (broadcastInDim S1024x8 ![] bcast_S_S1024x8 : (⟨S_, .i32⟩ : BufTy).Contents (Elt F) → (⟨S1024x8, .i32⟩ : BufTy).Contents (Elt F)),
   StableHlo.binary main_v61 main_v98 main_v99 (muli : (⟨S1024x8, .i32⟩ : BufTy).Contents (Elt F) → (⟨S1024x8, .i32⟩ : BufTy).Contents (Elt F) → (⟨S1024x8, .i32⟩ : BufTy).Contents (Elt F)),
   StableHlo.nullary main_c_13 (constantI S_ 32 4#32),
   StableHlo.unary main_c_13 main_v100 (broadcastInDim S1024x8 ![] bcast_S_S1024x8 : (⟨S_, .i32⟩ : BufTy).Contents (Elt F) → (⟨S1024x8, .i32⟩ : BufTy).Contents (Elt F)),
   StableHlo.binary main_v99 main_v100 main_v101 (addi : (⟨S1024x8, .i32⟩ : BufTy).Contents (Elt F) → (⟨S1024x8, .i32⟩ : BufTy).Contents (Elt F) → (⟨S1024x8, .i32⟩ : BufTy).Contents (Elt F)),
   StableHlo.binary main_v97 main_v101 main_v102 ((fun a b => concatenate S1024x16 1 [⟨S1024x8, a⟩, ⟨S1024x8, b⟩] concatenates_S1024x8_S1024x8_S1024x16_d1) : (⟨S1024x8, .i32⟩ : BufTy).Contents (Elt F) → (⟨S1024x8, .i32⟩ : BufTy).Contents (Elt F) → (⟨S1024x16, .i32⟩ : BufTy).Contents (Elt F)),
   StableHlo.unary main_v102 main_v103 (sitofp .f32 : (⟨S1024x16, .i32⟩ : BufTy).Contents (Elt F) → (⟨S1024x16, .f32⟩ : BufTy).Contents (Elt F)),
   StableHlo.nullary main_cst_14 (constant S_ .f32 0x42800000#32),
   StableHlo.unary main_cst_14 main_v104 (broadcastInDim S1024x16 ![] bcast_S_S1024x16 : (⟨S_, .f32⟩ : BufTy).Contents (Elt F) → (⟨S1024x16, .f32⟩ : BufTy).Contents (Elt F)),
   StableHlo.binary main_v103 main_v104 main_v105 (Host.divf : (⟨S1024x16, .f32⟩ : BufTy).Contents (Elt F) → (⟨S1024x16, .f32⟩ : BufTy).Contents (Elt F) → (⟨S1024x16, .f32⟩ : BufTy).Contents (Elt F)),
   StableHlo.binary main_v105 main_v93 main_v106 ((fun a b => concatenate S1024x40 1 [⟨S1024x16, a⟩, ⟨S1024x24, b⟩] concatenates_S1024x16_S1024x24_S1024x40_d1) : (⟨S1024x16, .f32⟩ : BufTy).Contents (Elt F) → (⟨S1024x24, .f32⟩ : BufTy).Contents (Elt F) → (⟨S1024x40, .f32⟩ : BufTy).Contents (Elt F))]

/-- What they write. -/
abbrev writes15 : List (Ref sig .tc) :=
  [main_c_10, main_v94, main_v95, main_c_11, main_v96, main_v97, main_c_12, main_v98, main_v99, main_c_13, main_v100, main_v101, main_v102, main_v103, main_cst_14, main_v104, main_v105, main_v106]

/-- What stage 15 leaves in its result. -/
theorem seg15_out (V : Valuation τ sig (Elt Ideal)) :
    after (seg15 (F := Ideal)) V (Proc.devRef .tc main_v106) = refFeatures (V (Proc.devRef .tc main_v62)) (V (Proc.devRef .tc main_v61)) (V (Proc.devRef .tc main_v93)) := by
  unfold seg15
  after_results
  rfl

/-- Stage 15 writes nothing else. -/
theorem seg15_keep (V : Valuation τ sig (Elt Ideal)) {r : Ref sig .tc} (hr : r ∉ writes15) :
    after (seg15 (F := Ideal)) V (Proc.devRef .tc r) = V (Proc.devRef .tc r) :=
  after_unwritten writes15 rfl hr V

/-- Its operations stay within the main thread's arrays. -/
theorem seg15_sub : (seg15 (F := F)).Forall fun op => op.bufs ⊆ tcRefs τ sig := by
  simp [seg15]

/-- Each operation determines its result. -/
theorem seg15_fresh : ∀ op ∈ seg15 (F := F), op.fresh = ∅ := by
  intro _ h
  unfold seg15 at h
  (repeat (cases h with | head => rfl | tail _ h => ?_))
  exact nomatch h

/-- The operations of stage 16. -/
def seg16 : List (HloOp τ sig (Elt F)) :=
  [StableHlo.unary main_arg9 main_v107 ((transpose S40x20 [1, 0] · transposes_S20x40_S40x20_1_0) : (⟨S20x40, .f32⟩ : BufTy).Contents (Elt F) → (⟨S40x20, .f32⟩ : BufTy).Contents (Elt F)),
   StableHlo.binary main_v106 main_v107 main_v108 ((fun l r => Host.dotGeneral dot_S1024x40_S40x20_S1024x20_1_0_0_1_n_n none l r) : (⟨S1024x40, .f32⟩ : BufTy).Contents (Elt F) → (⟨S40x20, .f32⟩ : BufTy).Contents (Elt F) → (⟨S1024x20, .f32⟩ : BufTy).Contents (Elt F)),
   StableHlo.unary main_arg10 main_v109 (broadcastInDim S1x20 ![1] bcast_S20_S1x20_1 : (⟨S20, .f32⟩ : BufTy).Contents (Elt F) → (⟨S1x20, .f32⟩ : BufTy).Contents (Elt F)),
   StableHlo.unary main_v109 main_v110 (broadcastInDim S1024x20 ![0, 1] bcast_S1x20_S1024x20_0_1 : (⟨S1x20, .f32⟩ : BufTy).Contents (Elt F) → (⟨S1024x20, .f32⟩ : BufTy).Contents (Elt F)),
   StableHlo.binary main_v108 main_v110 main_v111 (addf : (⟨S1024x20, .f32⟩ : BufTy).Contents (Elt F) → (⟨S1024x20, .f32⟩ : BufTy).Contents (Elt F) → (⟨S1024x20, .f32⟩ : BufTy).Contents (Elt F)),
   StableHlo.unary main_v111 main_v112 (Host.negf : (⟨S1024x20, .f32⟩ : BufTy).Contents (Elt F) → (⟨S1024x20, .f32⟩ : BufTy).Contents (Elt F)),
   StableHlo.unary main_v112 main_v113 (Host.exp : (⟨S1024x20, .f32⟩ : BufTy).Contents (Elt F) → (⟨S1024x20, .f32⟩ : BufTy).Contents (Elt F)),
   StableHlo.nullary main_cst_15 (constant S_ .f32 0x3F800000#32),
   StableHlo.unary main_cst_15 main_v114 (broadcastInDim S1024x20 ![] bcast_S_S1024x20 : (⟨S_, .f32⟩ : BufTy).Contents (Elt F) → (⟨S1024x20, .f32⟩ : BufTy).Contents (Elt F)),
   StableHlo.binary main_v114 main_v113 main_v115 (addf : (⟨S1024x20, .f32⟩ : BufTy).Contents (Elt F) → (⟨S1024x20, .f32⟩ : BufTy).Contents (Elt F) → (⟨S1024x20, .f32⟩ : BufTy).Contents (Elt F)),
   StableHlo.nullary main_cst_16 (constant S_ .f32 0x3F800000#32),
   StableHlo.unary main_cst_16 main_v116 (broadcastInDim S1024x20 ![] bcast_S_S1024x20 : (⟨S_, .f32⟩ : BufTy).Contents (Elt F) → (⟨S1024x20, .f32⟩ : BufTy).Contents (Elt F)),
   StableHlo.binary main_v116 main_v115 main_v117 (Host.divf : (⟨S1024x20, .f32⟩ : BufTy).Contents (Elt F) → (⟨S1024x20, .f32⟩ : BufTy).Contents (Elt F) → (⟨S1024x20, .f32⟩ : BufTy).Contents (Elt F))]

/-- What they write. -/
abbrev writes16 : List (Ref sig .tc) :=
  [main_v107, main_v108, main_v109, main_v110, main_v111, main_v112, main_v113, main_cst_15, main_v114, main_v115, main_cst_16, main_v116, main_v117]

/-- What stage 16 leaves in its result. -/
theorem seg16_out (V : Valuation τ sig (Elt Ideal)) :
    after (seg16 (F := Ideal)) V (Proc.devRef .tc main_v117) = refLayer0 (V (Proc.devRef .tc main_v106)) (V (Proc.devRef .tc main_arg9)) (V (Proc.devRef .tc main_arg10)) := by
  unfold seg16
  after_results
  rfl

/-- Stage 16 writes nothing else. -/
theorem seg16_keep (V : Valuation τ sig (Elt Ideal)) {r : Ref sig .tc} (hr : r ∉ writes16) :
    after (seg16 (F := Ideal)) V (Proc.devRef .tc r) = V (Proc.devRef .tc r) :=
  after_unwritten writes16 rfl hr V

/-- Its operations stay within the main thread's arrays. -/
theorem seg16_sub : (seg16 (F := F)).Forall fun op => op.bufs ⊆ tcRefs τ sig := by
  simp [seg16]

/-- Each operation determines its result. -/
theorem seg16_fresh : ∀ op ∈ seg16 (F := F), op.fresh = ∅ := by
  intro _ h
  unfold seg16 at h
  (repeat (cases h with | head => rfl | tail _ h => ?_))
  exact nomatch h

/-- The operations of stage 17. -/
def seg17 : List (HloOp τ sig (Elt F)) :=
  [StableHlo.unary main_arg11 main_v118 ((transpose S20x15 [1, 0] · transposes_S15x20_S20x15_1_0) : (⟨S15x20, .f32⟩ : BufTy).Contents (Elt F) → (⟨S20x15, .f32⟩ : BufTy).Contents (Elt F)),
   StableHlo.binary main_v117 main_v118 main_v119 ((fun l r => Host.dotGeneral dot_S1024x20_S20x15_S1024x15_1_0_0_1_n_n none l r) : (⟨S1024x20, .f32⟩ : BufTy).Contents (Elt F) → (⟨S20x15, .f32⟩ : BufTy).Contents (Elt F) → (⟨S1024x15, .f32⟩ : BufTy).Contents (Elt F)),
   StableHlo.unary main_arg12 main_v120 (broadcastInDim S1x15 ![1] bcast_S15_S1x15_1 : (⟨S15, .f32⟩ : BufTy).Contents (Elt F) → (⟨S1x15, .f32⟩ : BufTy).Contents (Elt F)),
   StableHlo.unary main_v120 main_v121 (broadcastInDim S1024x15 ![0, 1] bcast_S1x15_S1024x15_0_1 : (⟨S1x15, .f32⟩ : BufTy).Contents (Elt F) → (⟨S1024x15, .f32⟩ : BufTy).Contents (Elt F)),
   StableHlo.binary main_v119 main_v121 main_v122 (addf : (⟨S1024x15, .f32⟩ : BufTy).Contents (Elt F) → (⟨S1024x15, .f32⟩ : BufTy).Contents (Elt F) → (⟨S1024x15, .f32⟩ : BufTy).Contents (Elt F)),
   StableHlo.unary main_v122 main_v123 (Host.negf : (⟨S1024x15, .f32⟩ : BufTy).Contents (Elt F) → (⟨S1024x15, .f32⟩ : BufTy).Contents (Elt F)),
   StableHlo.unary main_v123 main_v124 (Host.exp : (⟨S1024x15, .f32⟩ : BufTy).Contents (Elt F) → (⟨S1024x15, .f32⟩ : BufTy).Contents (Elt F)),
   StableHlo.nullary main_cst_17 (constant S_ .f32 0x3F800000#32),
   StableHlo.unary main_cst_17 main_v125 (broadcastInDim S1024x15 ![] bcast_S_S1024x15 : (⟨S_, .f32⟩ : BufTy).Contents (Elt F) → (⟨S1024x15, .f32⟩ : BufTy).Contents (Elt F)),
   StableHlo.binary main_v125 main_v124 main_v126 (addf : (⟨S1024x15, .f32⟩ : BufTy).Contents (Elt F) → (⟨S1024x15, .f32⟩ : BufTy).Contents (Elt F) → (⟨S1024x15, .f32⟩ : BufTy).Contents (Elt F)),
   StableHlo.nullary main_cst_18 (constant S_ .f32 0x3F800000#32),
   StableHlo.unary main_cst_18 main_v127 (broadcastInDim S1024x15 ![] bcast_S_S1024x15 : (⟨S_, .f32⟩ : BufTy).Contents (Elt F) → (⟨S1024x15, .f32⟩ : BufTy).Contents (Elt F)),
   StableHlo.binary main_v127 main_v126 main_v128 (Host.divf : (⟨S1024x15, .f32⟩ : BufTy).Contents (Elt F) → (⟨S1024x15, .f32⟩ : BufTy).Contents (Elt F) → (⟨S1024x15, .f32⟩ : BufTy).Contents (Elt F))]

/-- What they write. -/
abbrev writes17 : List (Ref sig .tc) :=
  [main_v118, main_v119, main_v120, main_v121, main_v122, main_v123, main_v124, main_cst_17, main_v125, main_v126, main_cst_18, main_v127, main_v128]

/-- What stage 17 leaves in its result. -/
theorem seg17_out (V : Valuation τ sig (Elt Ideal)) :
    after (seg17 (F := Ideal)) V (Proc.devRef .tc main_v128) = refLayer1 (V (Proc.devRef .tc main_v117)) (V (Proc.devRef .tc main_arg11)) (V (Proc.devRef .tc main_arg12)) := by
  unfold seg17
  after_results
  rfl

/-- Stage 17 writes nothing else. -/
theorem seg17_keep (V : Valuation τ sig (Elt Ideal)) {r : Ref sig .tc} (hr : r ∉ writes17) :
    after (seg17 (F := Ideal)) V (Proc.devRef .tc r) = V (Proc.devRef .tc r) :=
  after_unwritten writes17 rfl hr V

/-- Its operations stay within the main thread's arrays. -/
theorem seg17_sub : (seg17 (F := F)).Forall fun op => op.bufs ⊆ tcRefs τ sig := by
  simp [seg17]

/-- Each operation determines its result. -/
theorem seg17_fresh : ∀ op ∈ seg17 (F := F), op.fresh = ∅ := by
  intro _ h
  unfold seg17 at h
  (repeat (cases h with | head => rfl | tail _ h => ?_))
  exact nomatch h

/-- The operations of stage 18. -/
def seg18 : List (HloOp τ sig (Elt F)) :=
  [StableHlo.unary main_arg13 main_v129 ((transpose S15x15 [1, 0] · transposes_S15x15_S15x15_1_0) : (⟨S15x15, .f32⟩ : BufTy).Contents (Elt F) → (⟨S15x15, .f32⟩ : BufTy).Contents (Elt F)),
   StableHlo.binary main_v128 main_v129 main_v130 ((fun l r => Host.dotGeneral dot_S1024x15_S15x15_S1024x15_1_0_0_1_n_n none l r) : (⟨S1024x15, .f32⟩ : BufTy).Contents (Elt F) → (⟨S15x15, .f32⟩ : BufTy).Contents (Elt F) → (⟨S1024x15, .f32⟩ : BufTy).Contents (Elt F)),
   StableHlo.unary main_arg14 main_v131 (broadcastInDim S1x15 ![1] bcast_S15_S1x15_1 : (⟨S15, .f32⟩ : BufTy).Contents (Elt F) → (⟨S1x15, .f32⟩ : BufTy).Contents (Elt F)),
   StableHlo.unary main_v131 main_v132 (broadcastInDim S1024x15 ![0, 1] bcast_S1x15_S1024x15_0_1 : (⟨S1x15, .f32⟩ : BufTy).Contents (Elt F) → (⟨S1024x15, .f32⟩ : BufTy).Contents (Elt F)),
   StableHlo.binary main_v130 main_v132 main_v133 (addf : (⟨S1024x15, .f32⟩ : BufTy).Contents (Elt F) → (⟨S1024x15, .f32⟩ : BufTy).Contents (Elt F) → (⟨S1024x15, .f32⟩ : BufTy).Contents (Elt F))]

/-- What they write. -/
abbrev writes18 : List (Ref sig .tc) :=
  [main_v129, main_v130, main_v131, main_v132, main_v133]

/-- What stage 18 leaves in its result. -/
theorem seg18_out (V : Valuation τ sig (Elt Ideal)) :
    after (seg18 (F := Ideal)) V (Proc.devRef .tc main_v133) = refLogits (V (Proc.devRef .tc main_v128)) (V (Proc.devRef .tc main_arg13)) (V (Proc.devRef .tc main_arg14)) := by
  unfold seg18
  after_results
  rfl

/-- Stage 18 writes nothing else. -/
theorem seg18_keep (V : Valuation τ sig (Elt Ideal)) {r : Ref sig .tc} (hr : r ∉ writes18) :
    after (seg18 (F := Ideal)) V (Proc.devRef .tc r) = V (Proc.devRef .tc r) :=
  after_unwritten writes18 rfl hr V

/-- Its operations stay within the main thread's arrays. -/
theorem seg18_sub : (seg18 (F := F)).Forall fun op => op.bufs ⊆ tcRefs τ sig := by
  simp [seg18]

/-- Each operation determines its result. -/
theorem seg18_fresh : ∀ op ∈ seg18 (F := F), op.fresh = ∅ := by
  intro _ h
  unfold seg18 at h
  (repeat (cases h with | head => rfl | tail _ h => ?_))
  exact nomatch h

/-- The operations of stage 19. -/
def seg19 : List (HloOp τ sig (Elt F)) :=
  [StableHlo.nullary main_cst_19 (constant S_ .f32 0xFF800000#32),
   StableHlo.binary main_v133 main_cst_19 main_v134 ((fun x v => Host.reduce FloatOps.maximumf x v reducesTo_S1024x15_S1024_d1 h_S_) : (⟨S1024x15, .f32⟩ : BufTy).Contents (Elt F) → (⟨S_, .f32⟩ : BufTy).Contents (Elt F) → (⟨S1024, .f32⟩ : BufTy).Contents (Elt F)),
   StableHlo.nullary main_cst_20 (constant S_ .f32 0xFF800000#32),
   StableHlo.unary main_cst_20 main_v135 (broadcastInDim S1024 ![] bcast_S_S1024 : (⟨S_, .f32⟩ : BufTy).Contents (Elt F) → (⟨S1024, .f32⟩ : BufTy).Contents (Elt F)),
   StableHlo.binary main_v135 main_v134 main_v136 (maximumf : (⟨S1024, .f32⟩ : BufTy).Contents (Elt F) → (⟨S1024, .f32⟩ : BufTy).Contents (Elt F) → (⟨S1024, .f32⟩ : BufTy).Contents (Elt F)),
   StableHlo.unary main_v136 main_v137 (broadcastInDim S1024x1 ![0] bcast_S1024_S1024x1_0 : (⟨S1024, .f32⟩ : BufTy).Contents (Elt F) → (⟨S1024x1, .f32⟩ : BufTy).Contents (Elt F)),
   StableHlo.unary main_v137 main_v138 (broadcastInDim S1024x15 ![0, 1] bcast_S1024x1_S1024x15_0_1 : (⟨S1024x1, .f32⟩ : BufTy).Contents (Elt F) → (⟨S1024x15, .f32⟩ : BufTy).Contents (Elt F)),
   StableHlo.binary main_v133 main_v138 main_v139 (subf : (⟨S1024x15, .f32⟩ : BufTy).Contents (Elt F) → (⟨S1024x15, .f32⟩ : BufTy).Contents (Elt F) → (⟨S1024x15, .f32⟩ : BufTy).Contents (Elt F)),
   StableHlo.unary main_v139 main_v140 (Host.exp : (⟨S1024x15, .f32⟩ : BufTy).Contents (Elt F) → (⟨S1024x15, .f32⟩ : BufTy).Contents (Elt F))]

/-- What they write. -/
abbrev writes19 : List (Ref sig .tc) :=
  [main_cst_19, main_v134, main_cst_20, main_v135, main_v136, main_v137, main_v138, main_v139, main_v140]

/-- What stage 19 leaves in its result. -/
theorem seg19_out (V : Valuation τ sig (Elt Ideal)) :
    after (seg19 (F := Ideal)) V (Proc.devRef .tc main_v140) = refExps15 (V (Proc.devRef .tc main_v133)) := by
  unfold seg19
  after_results
  rfl

/-- Stage 19 writes nothing else. -/
theorem seg19_keep (V : Valuation τ sig (Elt Ideal)) {r : Ref sig .tc} (hr : r ∉ writes19) :
    after (seg19 (F := Ideal)) V (Proc.devRef .tc r) = V (Proc.devRef .tc r) :=
  after_unwritten writes19 rfl hr V

/-- Its operations stay within the main thread's arrays. -/
theorem seg19_sub : (seg19 (F := F)).Forall fun op => op.bufs ⊆ tcRefs τ sig := by
  simp [seg19]

/-- Each operation determines its result. -/
theorem seg19_fresh : ∀ op ∈ seg19 (F := F), op.fresh = ∅ := by
  intro _ h
  unfold seg19 at h
  (repeat (cases h with | head => rfl | tail _ h => ?_))
  exact nomatch h

/-- The operations of stage 20. -/
def seg20 : List (HloOp τ sig (Elt F)) :=
  [StableHlo.nullary main_cst_21 (constant S_ .f32 0x00000000#32),
   StableHlo.binary main_v140 main_cst_21 main_v141 ((fun x v => Host.reduceAdd x v reducesTo_S1024x15_S1024_d1 h_S_) : (⟨S1024x15, .f32⟩ : BufTy).Contents (Elt F) → (⟨S_, .f32⟩ : BufTy).Contents (Elt F) → (⟨S1024, .f32⟩ : BufTy).Contents (Elt F)),
   StableHlo.unary main_v141 main_v142 (broadcastInDim S1024x1 ![0] bcast_S1024_S1024x1_0 : (⟨S1024, .f32⟩ : BufTy).Contents (Elt F) → (⟨S1024x1, .f32⟩ : BufTy).Contents (Elt F)),
   StableHlo.unary main_v142 main_v143 (broadcastInDim S1024x15 ![0, 1] bcast_S1024x1_S1024x15_0_1 : (⟨S1024x1, .f32⟩ : BufTy).Contents (Elt F) → (⟨S1024x15, .f32⟩ : BufTy).Contents (Elt F)),
   StableHlo.binary main_v140 main_v143 main_v144 (Host.divf : (⟨S1024x15, .f32⟩ : BufTy).Contents (Elt F) → (⟨S1024x15, .f32⟩ : BufTy).Contents (Elt F) → (⟨S1024x15, .f32⟩ : BufTy).Contents (Elt F))]

/-- What they write. -/
abbrev writes20 : List (Ref sig .tc) :=
  [main_cst_21, main_v141, main_v142, main_v143, main_v144]

/-- What stage 20 leaves in its result. -/
theorem seg20_out (V : Valuation τ sig (Elt Ideal)) :
    after (seg20 (F := Ideal)) V (Proc.devRef .tc main_v144) = refSoft15 (V (Proc.devRef .tc main_v140)) := by
  unfold seg20
  after_results
  rfl

/-- Stage 20 writes nothing else. -/
theorem seg20_keep (V : Valuation τ sig (Elt Ideal)) {r : Ref sig .tc} (hr : r ∉ writes20) :
    after (seg20 (F := Ideal)) V (Proc.devRef .tc r) = V (Proc.devRef .tc r) :=
  after_unwritten writes20 rfl hr V

/-- Its operations stay within the main thread's arrays. -/
theorem seg20_sub : (seg20 (F := F)).Forall fun op => op.bufs ⊆ tcRefs τ sig := by
  simp [seg20]

/-- Each operation determines its result. -/
theorem seg20_fresh : ∀ op ∈ seg20 (F := F), op.fresh = ∅ := by
  intro _ h
  unfold seg20 at h
  (repeat (cases h with | head => rfl | tail _ h => ?_))
  exact nomatch h

/-- The operations of stage 21. -/
def seg21 : List (HloOp τ sig (Elt F)) :=
  [StableHlo.TRef.nullary main_call3.v0 (iotaInDim S1024x15 32 1),
   StableHlo.TRef.nullary main_call3.cst (constant S_ .f32 0xFF800000#32),
   StableHlo.TRef.nullary main_call3.c (constantI S_ 32 0#32),
   StableHlo.TRef.quaternary (.of main_v144) main_call3.v0 main_call3.cst main_call3.c main_call3.v1_0 (fun x y u v j => (Host.argReduce reducer_argmax_f32_i32 x y u v reducesTo_S1024x15_S1024_d1 h_S_ j).1),
   StableHlo.TRef.quaternary (.of main_v144) main_call3.v0 main_call3.cst main_call3.c main_call3.v1_1 (fun x y u v j => (Host.argReduce reducer_argmax_f32_i32 x y u v reducesTo_S1024x15_S1024_d1 h_S_ j).2)]

/-- What they write. -/
abbrev writes21 : List (Ref sig .tc) :=
  [main_call3.v0.ref, main_call3.cst.ref, main_call3.c.ref, main_call3.v1_0.ref, main_v145]

/-- What stage 21 leaves in its result. -/
theorem seg21_out (V : Valuation τ sig (Elt Ideal)) :
    after (seg21 (F := Ideal)) V (Proc.devRef .tc main_v145) = refBest (V (Proc.devRef .tc main_v144)) := by
  unfold seg21
  after_results
  rfl

/-- Stage 21 writes nothing else. -/
theorem seg21_keep (V : Valuation τ sig (Elt Ideal)) {r : Ref sig .tc} (hr : r ∉ writes21) :
    after (seg21 (F := Ideal)) V (Proc.devRef .tc r) = V (Proc.devRef .tc r) :=
  after_unwritten writes21 rfl hr V

/-- Its operations stay within the main thread's arrays. -/
theorem seg21_sub : (seg21 (F := F)).Forall fun op => op.bufs ⊆ tcRefs τ sig := by
  simp [seg21]

/-- Each operation determines its result. -/
theorem seg21_fresh : ∀ op ∈ seg21 (F := F), op.fresh = ∅ := by
  intro _ h
  unfold seg21 at h
  (repeat (cases h with | head => rfl | tail _ h => ?_))
  exact nomatch h

/-- The operations of stage 22. -/
def seg22 : List (HloOp τ sig (Elt F)) :=
  [StableHlo.reshape main_v145 main_v146 (rfl : (.i32 : EltTy) = .i32) shapeCasts_S1024_S32x1x32]

/-- What they write. -/
abbrev writes22 : List (Ref sig .tc) :=
  [main_v146]

/-- What stage 22 leaves in its result. -/
theorem seg22_out (V : Valuation τ sig (Elt Ideal)) :
    after (seg22 (F := Ideal)) V (Proc.devRef .tc main_v146) = refOut (V (Proc.devRef .tc main_v145)) := by
  unfold seg22
  after_results
  rfl

/-- Stage 22 writes nothing else. -/
theorem seg22_keep (V : Valuation τ sig (Elt Ideal)) {r : Ref sig .tc} (hr : r ∉ writes22) :
    after (seg22 (F := Ideal)) V (Proc.devRef .tc r) = V (Proc.devRef .tc r) :=
  after_unwritten writes22 rfl hr V

/-- Its operations stay within the main thread's arrays. -/
theorem seg22_sub : (seg22 (F := F)).Forall fun op => op.bufs ⊆ tcRefs τ sig := by
  simp [seg22]

/-- Each operation determines its result. -/
theorem seg22_fresh : ∀ op ∈ seg22 (F := F), op.fresh = ∅ := by
  intro _ h
  unfold seg22 at h
  (repeat (cases h with | head => rfl | tail _ h => ?_))
  exact nomatch h

end Cert.ReferenceIdeal.Stage

end
-- ==== Proof.RefRun.lean ====
/- The reference's run: it ends, its result is the stages composed, its arguments and counters are as they were. -/
module

public import proofs.«01_k».proof.Proof.RefSegs

@[expose] public section

set_option maxRecDepth 16384

noncomputable section

namespace Cert.ReferenceIdeal.Stage

open Idealize.ShloMosaic Idealize.ShloMosaic.TcCoe Idealize.ShloMosaic.StableHlo Idealize.SL.Sem Cert.ReferenceIdeal Cert.ReferenceIdeal.Gen

variable {F : FTy → Type} [FloatOps F]

/-- All the operations, in order. -/
def refOps : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22))))))))))))))))))))))

/-- The program is that line of operations. -/
theorem main_eq (c : Dev nD) : main (F := F) c = seq refOps := rfl

/-- The chosen patch numbers, of the observation and the attention's parameters. -/
def refIndices (x : Arr S1024x64x64x3 .f32) (wq : Arr S3x147 .f32) (bq : Arr S3 .f32) (wk : Arr S3x147 .f32) (bk : Arr S3 .f32) :
    Arr S1024x8 .i32 :=
  refIdx (refVotes (refExps (refScores (refProj (refPatches (refTaps (refRows (refScaled x)))) wq bq)
    (refProj (refPatches (refTaps (refRows (refScaled x)))) wk bk))))

/-- The controller's last layer, of the patch numbers, the observation and the other parameters. -/
def refController (i : Arr S1024x8 .i32) (x : Arr S1024x64x64x3 .f32) (we : Arr S5x147 .f32) (be : Arr S5 .f32) (wf : Arr S3x5 .f32)
    (bf : Arr S3 .f32) (w0 : Arr S20x40 .f32) (b0 : Arr S20 .f32) (w1 : Arr S15x20 .f32) (b1 : Arr S15 .f32)
    (w2 : Arr S15x15 .f32) (b2 : Arr S15 .f32) : Arr S1024x15 .f32 :=
  refLogits (refLayer1 (refLayer0 (refFeatures (refRow i) (refCol (refRem i))
    (refExtract (refChosen (refPatches (refTaps (refRows (refScaled x)))) (refPairs i)) we be wf bf)) w0 b0) w1 b1) w2 b2

/-- The result, of the last layer's numbers. -/
def refAction (l : Arr S1024x15 .f32) : Arr S32x1x32 .i32 := refOut (refBest (refSoft15 (refExps15 l)))

/-- The whole reference. -/
def refAll (x : Arr S1024x64x64x3 .f32) (wq : Arr S3x147 .f32) (bq : Arr S3 .f32) (wk : Arr S3x147 .f32) (bk : Arr S3 .f32) (we : Arr S5x147 .f32) (be : Arr S5 .f32) (wf : Arr S3x5 .f32) (bf : Arr S3 .f32) (w0 : Arr S20x40 .f32) (b0 : Arr S20 .f32) (w1 : Arr S15x20 .f32) (b1 : Arr S15 .f32) (w2 : Arr S15x15 .f32) (b2 : Arr S15 .f32) : Arr S32x1x32 .i32 :=
  refAction (refController (refIndices x wq bq wk bk) x we be wf bf w0 b0 w1 b1 w2 b2)

/-- What the line leaves in the result array. -/
theorem refOps_out (V : Valuation τ sig (Elt Ideal)) :
    after (refOps (F := Ideal)) V (Proc.devRef .tc main_v146) = refAll (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  unfold refOps
  simp only [after_append]
  rw [seg22_out,
    seg21_out,
    seg20_out,
    seg19_out,
    seg18_out,
    seg17_out, seg17_keep (r := main_arg13) _ (by decide), seg17_keep (r := main_arg14) _ (by decide),
    seg16_out, seg16_keep (r := main_arg11) _ (by decide), seg16_keep (r := main_arg12) _ (by decide), seg16_keep (r := main_arg13) _ (by decide), seg16_keep (r := main_arg14) _ (by decide),
    seg15_out, seg15_keep (r := main_arg10) _ (by decide), seg15_keep (r := main_arg11) _ (by decide), seg15_keep (r := main_arg12) _ (by decide), seg15_keep (r := main_arg13) _ (by decide), seg15_keep (r := main_arg14) _ (by decide), seg15_keep (r := main_arg9) _ (by decide),
    seg14_out, seg14_keep (r := main_arg10) _ (by decide), seg14_keep (r := main_arg11) _ (by decide), seg14_keep (r := main_arg12) _ (by decide), seg14_keep (r := main_arg13) _ (by decide), seg14_keep (r := main_arg14) _ (by decide), seg14_keep (r := main_arg9) _ (by decide), seg14_keep (r := main_v61) _ (by decide), seg14_keep (r := main_v62) _ (by decide),
    seg13_out, seg13_keep (r := main_arg10) _ (by decide), seg13_keep (r := main_arg11) _ (by decide), seg13_keep (r := main_arg12) _ (by decide), seg13_keep (r := main_arg13) _ (by decide), seg13_keep (r := main_arg14) _ (by decide), seg13_keep (r := main_arg5) _ (by decide), seg13_keep (r := main_arg6) _ (by decide), seg13_keep (r := main_arg7) _ (by decide), seg13_keep (r := main_arg8) _ (by decide), seg13_keep (r := main_arg9) _ (by decide), seg13_keep (r := main_v61) _ (by decide), seg13_keep (r := main_v62) _ (by decide),
    seg12_out, seg12_keep (r := main_arg10) _ (by decide), seg12_keep (r := main_arg11) _ (by decide), seg12_keep (r := main_arg12) _ (by decide), seg12_keep (r := main_arg13) _ (by decide), seg12_keep (r := main_arg14) _ (by decide), seg12_keep (r := main_arg5) _ (by decide), seg12_keep (r := main_arg6) _ (by decide), seg12_keep (r := main_arg7) _ (by decide), seg12_keep (r := main_arg8) _ (by decide), seg12_keep (r := main_arg9) _ (by decide), seg12_keep (r := main_v33) _ (by decide), seg12_keep (r := main_v61) _ (by decide), seg12_keep (r := main_v62) _ (by decide),
    seg11_out, seg11_keep (r := main_arg10) _ (by decide), seg11_keep (r := main_arg11) _ (by decide), seg11_keep (r := main_arg12) _ (by decide), seg11_keep (r := main_arg13) _ (by decide), seg11_keep (r := main_arg14) _ (by decide), seg11_keep (r := main_arg5) _ (by decide), seg11_keep (r := main_arg6) _ (by decide), seg11_keep (r := main_arg7) _ (by decide), seg11_keep (r := main_arg8) _ (by decide), seg11_keep (r := main_arg9) _ (by decide), seg11_keep (r := main_indices) _ (by decide), seg11_keep (r := main_v33) _ (by decide), seg11_keep (r := main_v61) _ (by decide),
    seg10_out, seg10_keep (r := main_arg10) _ (by decide), seg10_keep (r := main_arg11) _ (by decide), seg10_keep (r := main_arg12) _ (by decide), seg10_keep (r := main_arg13) _ (by decide), seg10_keep (r := main_arg14) _ (by decide), seg10_keep (r := main_arg5) _ (by decide), seg10_keep (r := main_arg6) _ (by decide), seg10_keep (r := main_arg7) _ (by decide), seg10_keep (r := main_arg8) _ (by decide), seg10_keep (r := main_arg9) _ (by decide), seg10_keep (r := main_indices) _ (by decide), seg10_keep (r := main_v33) _ (by decide),
    seg9_out, seg9_keep (r := main_arg10) _ (by decide), seg9_keep (r := main_arg11) _ (by decide), seg9_keep (r := main_arg12) _ (by decide), seg9_keep (r := main_arg13) _ (by decide), seg9_keep (r := main_arg14) _ (by decide), seg9_keep (r := main_arg5) _ (by decide), seg9_keep (r := main_arg6) _ (by decide), seg9_keep (r := main_arg7) _ (by decide), seg9_keep (r := main_arg8) _ (by decide), seg9_keep (r := main_arg9) _ (by decide), seg9_keep (r := main_v33) _ (by decide),
    seg8_out, seg8_keep (r := main_arg10) _ (by decide), seg8_keep (r := main_arg11) _ (by decide), seg8_keep (r := main_arg12) _ (by decide), seg8_keep (r := main_arg13) _ (by decide), seg8_keep (r := main_arg14) _ (by decide), seg8_keep (r := main_arg5) _ (by decide), seg8_keep (r := main_arg6) _ (by decide), seg8_keep (r := main_arg7) _ (by decide), seg8_keep (r := main_arg8) _ (by decide), seg8_keep (r := main_arg9) _ (by decide), seg8_keep (r := main_v33) _ (by decide),
    seg7_out, seg7_keep (r := main_arg10) _ (by decide), seg7_keep (r := main_arg11) _ (by decide), seg7_keep (r := main_arg12) _ (by decide), seg7_keep (r := main_arg13) _ (by decide), seg7_keep (r := main_arg14) _ (by decide), seg7_keep (r := main_arg5) _ (by decide), seg7_keep (r := main_arg6) _ (by decide), seg7_keep (r := main_arg7) _ (by decide), seg7_keep (r := main_arg8) _ (by decide), seg7_keep (r := main_arg9) _ (by decide), seg7_keep (r := main_v33) _ (by decide),
    seg6_out, seg6_keep (r := main_arg10) _ (by decide), seg6_keep (r := main_arg11) _ (by decide), seg6_keep (r := main_arg12) _ (by decide), seg6_keep (r := main_arg13) _ (by decide), seg6_keep (r := main_arg14) _ (by decide), seg6_keep (r := main_arg5) _ (by decide), seg6_keep (r := main_arg6) _ (by decide), seg6_keep (r := main_arg7) _ (by decide), seg6_keep (r := main_arg8) _ (by decide), seg6_keep (r := main_arg9) _ (by decide), seg6_keep (r := main_v33) _ (by decide),
    seg5_out, seg5_keep (r := main_arg10) _ (by decide), seg5_keep (r := main_arg11) _ (by decide), seg5_keep (r := main_arg12) _ (by decide), seg5_keep (r := main_arg13) _ (by decide), seg5_keep (r := main_arg14) _ (by decide), seg5_keep (r := main_arg5) _ (by decide), seg5_keep (r := main_arg6) _ (by decide), seg5_keep (r := main_arg7) _ (by decide), seg5_keep (r := main_arg8) _ (by decide), seg5_keep (r := main_arg9) _ (by decide), seg5_keep (r := main_v33) _ (by decide), seg5_keep (r := main_v38) _ (by decide),
    seg4_out, seg4_keep (r := main_arg10) _ (by decide), seg4_keep (r := main_arg11) _ (by decide), seg4_keep (r := main_arg12) _ (by decide), seg4_keep (r := main_arg13) _ (by decide), seg4_keep (r := main_arg14) _ (by decide), seg4_keep (r := main_arg3) _ (by decide), seg4_keep (r := main_arg4) _ (by decide), seg4_keep (r := main_arg5) _ (by decide), seg4_keep (r := main_arg6) _ (by decide), seg4_keep (r := main_arg7) _ (by decide), seg4_keep (r := main_arg8) _ (by decide), seg4_keep (r := main_arg9) _ (by decide), seg4_keep (r := main_v33) _ (by decide),
    seg3_out, seg3_keep (r := main_arg1) _ (by decide), seg3_keep (r := main_arg10) _ (by decide), seg3_keep (r := main_arg11) _ (by decide), seg3_keep (r := main_arg12) _ (by decide), seg3_keep (r := main_arg13) _ (by decide), seg3_keep (r := main_arg14) _ (by decide), seg3_keep (r := main_arg2) _ (by decide), seg3_keep (r := main_arg3) _ (by decide), seg3_keep (r := main_arg4) _ (by decide), seg3_keep (r := main_arg5) _ (by decide), seg3_keep (r := main_arg6) _ (by decide), seg3_keep (r := main_arg7) _ (by decide), seg3_keep (r := main_arg8) _ (by decide), seg3_keep (r := main_arg9) _ (by decide),
    seg2_out, seg2_keep (r := main_arg1) _ (by decide), seg2_keep (r := main_arg10) _ (by decide), seg2_keep (r := main_arg11) _ (by decide), seg2_keep (r := main_arg12) _ (by decide), seg2_keep (r := main_arg13) _ (by decide), seg2_keep (r := main_arg14) _ (by decide), seg2_keep (r := main_arg2) _ (by decide), seg2_keep (r := main_arg3) _ (by decide), seg2_keep (r := main_arg4) _ (by decide), seg2_keep (r := main_arg5) _ (by decide), seg2_keep (r := main_arg6) _ (by decide), seg2_keep (r := main_arg7) _ (by decide), seg2_keep (r := main_arg8) _ (by decide), seg2_keep (r := main_arg9) _ (by decide),
    seg1_out, seg1_keep (r := main_arg1) _ (by decide), seg1_keep (r := main_arg10) _ (by decide), seg1_keep (r := main_arg11) _ (by decide), seg1_keep (r := main_arg12) _ (by decide), seg1_keep (r := main_arg13) _ (by decide), seg1_keep (r := main_arg14) _ (by decide), seg1_keep (r := main_arg2) _ (by decide), seg1_keep (r := main_arg3) _ (by decide), seg1_keep (r := main_arg4) _ (by decide), seg1_keep (r := main_arg5) _ (by decide), seg1_keep (r := main_arg6) _ (by decide), seg1_keep (r := main_arg7) _ (by decide), seg1_keep (r := main_arg8) _ (by decide), seg1_keep (r := main_arg9) _ (by decide),
    seg0_out, seg0_keep (r := main_arg1) _ (by decide), seg0_keep (r := main_arg10) _ (by decide), seg0_keep (r := main_arg11) _ (by decide), seg0_keep (r := main_arg12) _ (by decide), seg0_keep (r := main_arg13) _ (by decide), seg0_keep (r := main_arg14) _ (by decide), seg0_keep (r := main_arg2) _ (by decide), seg0_keep (r := main_arg3) _ (by decide), seg0_keep (r := main_arg4) _ (by decide), seg0_keep (r := main_arg5) _ (by decide), seg0_keep (r := main_arg6) _ (by decide), seg0_keep (r := main_arg7) _ (by decide), seg0_keep (r := main_arg8) _ (by decide), seg0_keep (r := main_arg9) _ (by decide)]
  rfl

/-- No operation writes an argument. -/
theorem refOps_keep (V : Valuation τ sig (Elt Ideal)) {r : Ref sig .tc}
    (hr : r ∈ [main_arg0, main_arg1, main_arg2, main_arg3, main_arg4, main_arg5, main_arg6, main_arg7, main_arg8, main_arg9, main_arg10, main_arg11, main_arg12, main_arg13, main_arg14]) :
    after (refOps (F := Ideal)) V (Proc.devRef .tc r) = V (Proc.devRef .tc r) := by
  unfold refOps
  simp only [after_append]
  fin_cases hr <;> rw [seg22_keep _ (by decide), seg21_keep _ (by decide), seg20_keep _ (by decide), seg19_keep _ (by decide), seg18_keep _ (by decide), seg17_keep _ (by decide), seg16_keep _ (by decide), seg15_keep _ (by decide), seg14_keep _ (by decide), seg13_keep _ (by decide), seg12_keep _ (by decide), seg11_keep _ (by decide), seg10_keep _ (by decide), seg9_keep _ (by decide), seg8_keep _ (by decide), seg7_keep _ (by decide), seg6_keep _ (by decide), seg5_keep _ (by decide), seg4_keep _ (by decide), seg3_keep _ (by decide), seg2_keep _ (by decide), seg1_keep _ (by decide), seg0_keep _ (by decide)]

/-- The whole line stays within the main thread's arrays. -/
theorem refOps_sub : (refOps (F := F)).Forall fun op => op.bufs ⊆ tcRefs τ sig := by
  simp only [refOps, List.forall_append]
  exact ⟨seg0_sub, seg1_sub, seg2_sub, seg3_sub, seg4_sub, seg5_sub, seg6_sub, seg7_sub, seg8_sub, seg9_sub, seg10_sub, seg11_sub, seg12_sub, seg13_sub, seg14_sub, seg15_sub, seg16_sub, seg17_sub, seg18_sub, seg19_sub, seg20_sub, seg21_sub, seg22_sub⟩

/-- Each of its operations determines its result. -/
theorem refOps_fresh : ∀ op ∈ refOps (F := F), op.fresh = ∅ := by
  simp only [refOps, List.forall_mem_append]
  exact ⟨seg0_fresh, seg1_fresh, seg2_fresh, seg3_fresh, seg4_fresh, seg5_fresh, seg6_fresh, seg7_fresh, seg8_fresh, seg9_fresh, seg10_fresh, seg11_fresh, seg12_fresh, seg13_fresh, seg14_fresh, seg15_fresh, seg16_fresh, seg17_fresh, seg18_fresh, seg19_fresh, seg20_fresh, seg21_fresh, seg22_fresh⟩

/-- The run. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD, r.2.mem ((c.tc : Thread nD τ).loc main_v146) = refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14) :=
  (θ_run defs _ _).mono (fun _ h c => ⟨(h c main_v146).trans (refOps_out _), (h c main_arg0).trans (refOps_keep _ (by decide)), (h c main_arg1).trans (refOps_keep _ (by decide)), (h c main_arg2).trans (refOps_keep _ (by decide)), (h c main_arg3).trans (refOps_keep _ (by decide)), (h c main_arg4).trans (refOps_keep _ (by decide)), (h c main_arg5).trans (refOps_keep _ (by decide)), (h c main_arg6).trans (refOps_keep _ (by decide)), (h c main_arg7).trans (refOps_keep _ (by decide)), (h c main_arg8).trans (refOps_keep _ (by decide)), (h c main_arg9).trans (refOps_keep _ (by decide)), (h c main_arg10).trans (refOps_keep _ (by decide)), (h c main_arg11).trans (refOps_keep _ (by decide)), (h c main_arg12).trans (refOps_keep _ (by decide)), (h c main_arg13).trans (refOps_keep _ (by decide)), (h c main_arg14).trans (refOps_keep _ (by decide))⟩)
    (run_seq (by decide) (by decide) defs main (fun _ => refOps) main_eq (fun _ => refOps_sub) m ρ (fun _ => refOps_fresh))

end Cert.ReferenceIdeal.Stage

end
-- ==== Proof.Consts.lean ====
/- The float words that the two programs hold, as extended reals. -/
module

public import Idealize.ShloMosaic.Lib.Pointwise
public import Idealize.ShloMosaic.PureOps.Ideal
public import proofs.«01_k».proof.KernelIdeal

@[expose] public section

noncomputable section

namespace Cert.Agent

open Idealize.ShloMosaic

/-- The word of 255. -/
theorem ofBits_255 : Ideal.ofBits .f32 0x437F0000#32 = ((255 : ℝ) : EReal) := by
  simp [Ideal.ofBits, Ideal.ieee, -EReal.coe_mul]; norm_num

/-- The word of 147. -/
theorem ofBits_147 : Ideal.ofBits .f32 0x43130000#32 = ((147 : ℝ) : EReal) := by
  simp [Ideal.ofBits, Ideal.ieee, -EReal.coe_mul]; norm_num

/-- The word of 64. -/
theorem ofBits_64 : Ideal.ofBits .f32 0x42800000#32 = ((64 : ℝ) : EReal) := by
  simp [Ideal.ofBits, Ideal.ieee, -EReal.coe_mul]; norm_num

/-- The word of 1/64. -/
theorem ofBits_inv_64 : Ideal.ofBits .f32 0x3C800000#32 = ((1 / 64 : ℝ) : EReal) := by
  simp [Ideal.ofBits, Ideal.ieee, -EReal.coe_mul]; norm_num

/-- The word of −1. -/
theorem ofBits_neg_one : Ideal.ofBits .f32 0xBF800000#32 = ((-1 : ℝ) : EReal) := by
  simp [Ideal.ofBits, Ideal.ieee, -EReal.coe_mul]; norm_num

/-- The word of −∞. -/
theorem ofBits_bot : Ideal.ofBits .f32 0xFF800000#32 = ⊥ := by
  simp [Ideal.ofBits, Ideal.ieee]

/-- The word of +∞. -/
theorem ofBits_top : Ideal.ofBits .f32 0x7F800000#32 = ⊤ := by
  simp [Ideal.ofBits, Ideal.ieee]

/-- A quotient by 255 is a product with 1/255. -/
theorem div_255 (x : EReal) : Ideal.div x (Ideal.ofBits .f32 0x437F0000#32) = x * ((1 / 255 : ℝ) : EReal) := by
  rw [ofBits_255, Ideal.div_coe (by norm_num)]

/-- A quotient by 64 is a product with 1/64. -/
theorem div_64 (x : EReal) : Ideal.div x (Ideal.ofBits .f32 0x42800000#32) = x * ((1 / 64 : ℝ) : EReal) := by
  rw [ofBits_64, Ideal.div_coe (by norm_num)]

/-- A quotient by the root of 147 is a product with its inverse. -/
theorem div_root (x : EReal) :
    Ideal.div x (Ideal.sqrt (Ideal.ofBits .f32 0x43130000#32)) = x * ((Real.sqrt 147)⁻¹ : ℝ) := by
  rw [ofBits_147, Ideal.sqrt_coe, if_neg (by norm_num), Ideal.div_coe (Real.sqrt_pos.mpr (by norm_num)).ne', one_div]

/-- The kernel's name for 1/255. -/
theorem named_255 : Named.named (F := Ideal) (φ := .f32) Cert.KernelIdeal.κ "inv_255" 0x3B808081#32 = ((1 / 255 : ℝ) : EReal) :=
  IdealRules.named_const.ideal_named_scalar _ _ _ _ rfl

/-- The kernel's name for the inverse root of 147. -/
theorem named_root : Named.named (F := Ideal) (φ := .f32) Cert.KernelIdeal.κ "inv_sqrt_147" 0x3DA8EA8C#32 = ((Real.sqrt 147)⁻¹ : ℝ) :=
  IdealRules.named_const.ideal_named_scalar _ _ _ _ rfl

end Cert.Agent

end
-- ==== Proof.TopRounds.lean ====
/- The eight largest entries of a list of numbers, found one by one. A round finds the largest entry, takes the first
   position that has it, and writes −1 there. For numbers that are not negative the rounds visit the positions in the
   order of a stable sort, greatest first. -/
module

public import Idealize.ShloMosaic.PureOps
public import Idealize.ShloMosaic.PureOps.Ideal
public import Idealize.ShloMosaic.Lib.SortFacts
public import Mathlib.Data.EReal.Operations

@[expose] public section

noncomputable section

namespace Cert.Agent

open Idealize.ShloMosaic

/-- `i` is the first position at which `v` is greatest. -/
def IsFirst {n : Nat} (v : Fin n → EReal) (i : Fin n) : Prop :=
  (∀ j, v j ≤ v i) ∧ ∀ j, j < i → v j < v i

/-- Only one position is the first greatest one. -/
theorem IsFirst.unique {n : Nat} {v : Fin n → EReal} {i j : Fin n} (hi : IsFirst v i) (hj : IsFirst v j) : i = j := by
  rcases lt_trichotomy i j with h | h | h
  · exact absurd (hj.2 i h) (not_lt.mpr (hi.1 j))
  · exact h
  · exact absurd (hi.2 j h) (not_lt.mpr (hj.1 i))

/-- A list that is not empty has a first greatest position. -/
theorem exists_isFirst {n : Nat} (hn : 0 < n) (v : Fin n → EReal) : ∃ i, IsFirst v i := by
  haveI : Nonempty (Fin n) := ⟨⟨0, hn⟩⟩
  obtain ⟨m, hm⟩ := Finite.exists_max v
  obtain ⟨i, hi, hmin⟩ := (Finset.univ.filter fun i : Fin n => v i = v m).exists_min_image id ⟨m, by simp⟩
  have hvi : v i = v m := (Finset.mem_filter.mp hi).2
  refine ⟨i, fun j => hvi ▸ hm j, fun j hj => ?_⟩
  refine lt_of_le_of_ne (hvi ▸ hm j) fun h => ?_
  exact absurd (hmin j (by simp [h, hvi])) (not_le.mpr hj)

/-- The first position at which `v` is greatest. -/
def firstMax {n : Nat} (hn : 0 < n) (v : Fin n → EReal) : Fin n := (exists_isFirst hn v).choose

/-- The first greatest entry is a first greatest entry. -/
theorem firstMax_spec {n : Nat} (hn : 0 < n) (v : Fin n → EReal) : IsFirst v (firstMax hn v) :=
  (exists_isFirst hn v).choose_spec

/-- There is only one. -/
theorem firstMax_eq {n : Nat} (hn : 0 < n) {v : Fin n → EReal} {i : Fin n} (h : IsFirst v i) : firstMax hn v = i :=
  (firstMax_spec hn v).unique h

/-- The list after `k` rounds: −1 at every position found so far. -/
def rounds {n : Nat} (hn : 0 < n) (v : Fin n → EReal) : Nat → Fin n → EReal
  | 0 => v
  | k + 1 => fun j => if j = firstMax hn (rounds hn v k) then -1 else rounds hn v k j

/-- The position that round `k` finds. -/
def pick {n : Nat} (hn : 0 < n) (v : Fin n → EReal) (k : Nat) : Fin n := firstMax hn (rounds hn v k)

/-- Greater first, and of equal numbers the earlier position first. -/
def Precedes {n : Nat} (v : Fin n → EReal) (a b : Fin n) : Prop := v b < v a ∨ (v b = v a ∧ a < b)

/-- Coming before is transitive. -/
theorem Precedes.trans {n : Nat} {v : Fin n → EReal} {a b c : Fin n} (h : Precedes v a b) (h' : Precedes v b c) :
    Precedes v a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- Putting an earlier position into a list in this order keeps the order. -/
theorem pairwise_insertBefore_precedes {n : Nat} (v : Fin n → EReal) (a : Fin n) (l : List (Fin n))
    (hl : l.Pairwise (Precedes v)) (ha : ∀ b ∈ l, a < b) :
    (insertBefore (fun k k' => decide (v k' < v k)) a l).Pairwise (Precedes v) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl (by simpa using h)
      · exact hl.1 c hc'
    · rename_i h
      have hab : Precedes v a b := by
        rcases lt_or_eq_of_le (not_lt.mp (by simpa using h : ¬ v a < v b)) with h' | h'
        · exact .inl h'
        · exact .inr ⟨h', ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort by "greater first" puts a rising list of positions into this order. -/
theorem pairwise_stableSort_precedes {n : Nat} (v : Fin n → EReal) (l : List (Fin n)) (hl : l.Pairwise (· < ·)) :
    (stableSort (fun k k' => decide (v k' < v k)) l).Pairwise (Precedes v) := by
  induction l with
  | nil => exact List.Pairwise.nil
  | cons a l ih =>
    rw [List.pairwise_cons] at hl
    unfold stableSort
    exact pairwise_insertBefore_precedes v a _ (ih hl.2) fun b hb => hl.1 b ((perm_stableSort _ l).mem_iff.mp hb)

/-- The position that the stable sort puts at place `k`. -/
def sorted {n : Nat} (v : Fin n → EReal) (k : Fin n) : Fin n := sortedFrom (fun k k' => decide (v k' < v k)) k

/-- In the sorted list an earlier place comes before a later one. -/
theorem sorted_precedes {n : Nat} (v : Fin n → EReal) {i j : Fin n} (h : i < j) :
    Precedes v (sorted v i) (sorted v j) := by
  have hp := List.pairwise_iff_get.mp
    (pairwise_stableSort_precedes v (List.finRange n) (List.pairwise_lt_finRange n))
  unfold sorted sortedFrom
  exact hp (i.cast _) (j.cast _) h

/-- Before round `k` the list holds −1 at the first `k` positions of the sort and is unchanged elsewhere, and round `k`
    finds the sort's position `k`. -/
theorem rounds_eq {n : Nat} (hn : 0 < n) (v : Fin n → EReal) (hv : ∀ i, 0 ≤ v i) (k : Nat) (hk : k < n) :
    (∀ m : Fin n, rounds hn v k (sorted v m) = if m.val < k then -1 else v (sorted v m))
      ∧ pick hn v k = sorted v ⟨k, hk⟩ := by
  have hneg : (-1 : EReal) < 0 := by norm_num
  have key : ∀ k (hk : k < n), (∀ m : Fin n, rounds hn v k (sorted v m) = if m.val < k then -1 else v (sorted v m)) →
      pick hn v k = sorted v ⟨k, hk⟩ := by
    intro k hk h
    refine firstMax_eq hn ⟨fun j => ?_, fun j hj => ?_⟩
    · obtain ⟨m, rfl⟩ := sortedFrom_surjective (fun k k' => decide (v k' < v k)) j
      change rounds hn v k (sorted v m) ≤ _
      rw [h m, h ⟨k, hk⟩, if_neg (lt_irrefl k)]
      split
      · exact hneg.le.trans (hv _)
      · rename_i hm
        rcases lt_or_eq_of_le (not_lt.mp hm) with h' | h'
        · rcases sorted_precedes v (i := ⟨k, hk⟩) (j := m) h' with h'' | ⟨h'', _⟩
          · exact h''.le
          · exact h''.le
        · exact le_of_eq (by congr 2; exact Fin.ext h'.symm)
    · obtain ⟨m, rfl⟩ := sortedFrom_surjective (fun k k' => decide (v k' < v k)) j
      change sorted v m < _ at hj
      change rounds hn v k (sorted v m) < _
      rw [h m, h ⟨k, hk⟩, if_neg (lt_irrefl k)]
      split
      · exact hneg.trans_le (hv _)
      · rename_i hm
        rcases lt_or_eq_of_le (not_lt.mp hm) with h' | h'
        · rcases sorted_precedes v (i := ⟨k, hk⟩) (j := m) h' with h'' | ⟨_, h''⟩
          · exact h''
          · exact absurd hj (not_lt.mpr h''.le)
        · exact absurd hj (by rw [show m = ⟨k, hk⟩ from Fin.ext h'.symm]; exact lt_irrefl _)
  induction k with
  | zero => exact ⟨fun m => by simp [rounds], key 0 hk fun m => by simp [rounds]⟩
  | succ k ih =>
    obtain ⟨h, hp⟩ := ih (by omega)
    have h' : ∀ m : Fin n, rounds hn v (k + 1) (sorted v m) = if m.val < k + 1 then -1 else v (sorted v m) := by
      intro m
      change (if sorted v m = pick hn v k then -1 else rounds hn v k (sorted v m)) = _
      rw [hp, h m]
      by_cases hm : m.val = k
      · rw [if_pos (by congr 1; exact Fin.ext hm), if_pos (by omega)]
      · rw [if_neg fun e : sorted v m = sorted v ⟨k, _⟩ =>
          hm (congrArg Fin.val (sortedFrom_injective (fun k k' => decide (v k' < v k)) e))]
        by_cases h1 : m.val < k
        · rw [if_pos h1, if_pos (by omega)]
        · rw [if_neg h1, if_neg (by omega)]
    exact ⟨h', key (k + 1) hk h'⟩

/-- Round `k` finds the position that the stable sort puts at place `k`. -/
theorem pick_eq_sorted {n : Nat} (hn : 0 < n) (v : Fin n → EReal) (hv : ∀ i, 0 ≤ v i) (k : Nat) (hk : k < n) :
    pick hn v k = sorted v ⟨k, hk⟩ := (rounds_eq hn v hv k hk).2

end Cert.Agent

end
-- ==== Proof.Attention.lean ====
/- Finite numbers among the extended reals, the softmax that subtracts the row's greatest number, and where its
   greatest entry sits. -/
module

public import Idealize.ShloMosaic.PureOps
public import Idealize.ShloMosaic.PureOps.Ideal
public import Mathlib.Data.EReal.Operations
public import proofs.«01_k».proof.Proof.TopRounds

@[expose] public section

noncomputable section

namespace Cert.Agent

open Idealize.ShloMosaic

/-- The value is a real number. -/
def Fin' (x : EReal) : Prop := ∃ r : ℝ, x = (r : EReal)

/-- A real number is finite. -/
theorem Fin'.coe (r : ℝ) : Fin' (r : EReal) := ⟨r, rfl⟩

/-- A sum of two finite numbers is finite. -/
theorem Fin'.add {x y : EReal} (hx : Fin' x) (hy : Fin' y) : Fin' (x + y) := by
  obtain ⟨a, rfl⟩ := hx; obtain ⟨b, rfl⟩ := hy; exact ⟨a + b, (EReal.coe_add a b).symm⟩

/-- A product of two finite numbers is finite. -/
theorem Fin'.mul {x y : EReal} (hx : Fin' x) (hy : Fin' y) : Fin' (x * y) := by
  obtain ⟨a, rfl⟩ := hx; obtain ⟨b, rfl⟩ := hy; exact ⟨a * b, (EReal.coe_mul a b).symm⟩

/-- A finite sum of real numbers, read as a real number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of finite numbers is finite. -/
theorem Fin'.sum {ι : Type} (s : Finset ι) {f : ι → EReal} (h : ∀ i, Fin' (f i)) : Fin' (∑ i ∈ s, f i) := by
  choose r hr using h
  exact ⟨∑ i ∈ s, r i, by rw [← coe_sum]; exact Finset.sum_congr rfl fun i _ => hr i⟩

/-- The greatest of the entries, starting from minus infinity. -/
def top {n : Nat} (s : Fin n → EReal) : EReal := Finset.univ.fold max ⊥ s

/-- An entry that no other exceeds is the greatest. -/
theorem top_eq {n : Nat} {s : Fin n → EReal} {i : Fin n} (h : ∀ j, s j ≤ s i) : top s = s i := by
  refine le_antisymm (Finset.fold_max_le _ |>.mpr ⟨bot_le, fun j _ => h j⟩) ?_
  exact Finset.le_fold_max _ |>.mpr (.inr ⟨i, Finset.mem_univ i, le_rfl⟩)

/-- A softmax entry: the row's greatest number is subtracted first. -/
def soft {n : Nat} (s : Fin n → EReal) (j : Fin n) : EReal :=
  Ideal.div (Ideal.exp (s j - top s)) (∑ k, Ideal.exp (s k - top s))

/-- A softmax entry of finite numbers: the exponential over the sum of the exponentials, as a real number. -/
theorem soft_coe {n : Nat} (hn : 0 < n) (r : Fin n → ℝ) (j : Fin n) :
    soft (fun k => (r k : EReal)) j = ((Real.exp (r j) / ∑ k, Real.exp (r k) : ℝ) : EReal) := by
  haveI : Nonempty (Fin n) := ⟨⟨0, hn⟩⟩
  obtain ⟨m, hm⟩ := Finite.exists_max r
  have ht : top (fun k => (r k : EReal)) = (r m : EReal) := top_eq fun j => EReal.coe_le_coe_iff.mpr (hm j)
  unfold soft
  rw [ht]
  have he : ∀ k, Ideal.exp ((r k : EReal) - (r m : EReal)) = ((Real.exp (r k) * Real.exp (-r m) : ℝ) : EReal) := by
    intro k
    rw [← EReal.coe_sub, ← Real.exp_add, ← sub_eq_add_neg]; rfl
  simp only [he]
  rw [coe_sum]
  have hpos : 0 < ∑ k, Real.exp (r k) := Finset.sum_pos (fun k _ => Real.exp_pos _) Finset.univ_nonempty
  rw [← Finset.sum_mul]
  rw [Ideal.div_coe (mul_pos hpos (Real.exp_pos _)).ne', ← EReal.coe_mul]
  congr 1
  have := (Real.exp_pos (-r m)).ne'
  field_simp

/-- The softmax of finite numbers is not negative. -/
theorem soft_nonneg {n : Nat} (hn : 0 < n) (s : Fin n → EReal) (hs : ∀ k, Fin' (s k)) (j : Fin n) : 0 ≤ soft s j := by
  choose r hr using hs
  obtain rfl : s = fun k => (r k : EReal) := funext hr
  rw [soft_coe hn]
  exact EReal.coe_nonneg.mpr (div_nonneg (Real.exp_pos _).le (Finset.sum_nonneg fun k _ => (Real.exp_pos _).le))

/-- The first greatest entry of a softmax of finite numbers is at the first greatest number. -/
theorem firstMax_soft {n : Nat} (hn : 0 < n) (s : Fin n → EReal) (hs : ∀ k, Fin' (s k)) :
    firstMax hn (soft s) = firstMax hn s := by
  haveI : Nonempty (Fin n) := ⟨⟨0, hn⟩⟩
  choose r hr using hs
  obtain rfl : s = fun k => (r k : EReal) := funext hr
  have hpos : 0 < ∑ k, Real.exp (r k) := Finset.sum_pos (fun k _ => Real.exp_pos _) Finset.univ_nonempty
  have hlt : ∀ i j, soft (fun k => (r k : EReal)) i < soft (fun k => (r k : EReal)) j ↔ (r i : EReal) < (r j : EReal) := by
    intro i j
    rw [soft_coe hn, soft_coe hn, EReal.coe_lt_coe_iff, EReal.coe_lt_coe_iff, div_lt_div_iff_of_pos_right hpos,
      Real.exp_lt_exp]
  refine firstMax_eq hn ⟨fun j => ?_, fun j hj => ?_⟩
  · exact not_lt.mp fun h => absurd ((hlt _ _).mp h)
      (not_lt.mpr ((firstMax_spec hn fun k => (r k : EReal)).1 j))
  · exact (hlt _ _).mpr ((firstMax_spec hn _).2 j hj)

/-- The logistic function's value is a real number. -/
theorem logistic_fin (x : EReal) : Fin' (Ideal.logistic x) := by
  unfold Ideal.logistic
  induction x with
  | bot => exact ⟨0, by rw [EReal.neg_bot, show Ideal.exp ⊤ = ⊤ from rfl,
      show (1 : EReal) + ⊤ = ⊤ from EReal.coe_add_top 1]; simp [Ideal.div]⟩
  | top => exact ⟨1, by rw [EReal.neg_top, show Ideal.exp ⊥ = 0 from rfl]; simp [Ideal.div]⟩
  | coe r =>
    have h : (0 : ℝ) < 1 + Real.exp (-r) := by positivity
    have he : 1 + Ideal.exp (-(r : EReal)) = ((1 + Real.exp (-r) : ℝ) : EReal) := by
      rw [← EReal.coe_neg, EReal.coe_add]; rfl
    exact ⟨1 / (1 + Real.exp (-r)), by rw [he, Ideal.div_coe h.ne', one_mul]⟩

end Cert.Agent

end
-- ==== Proof.KerRounds.lean ====
/- The kernel's search for the first greatest entry of each row, and its eight rounds. -/
module

public import proofs.«01_k».proof.Proof.Gen.KernelIdeal.Frame
public import proofs.«01_k».proof.Proof.Consts
public import proofs.«01_k».proof.Proof.TopRounds
public import proofs.«01_k».proof.Proof.Attention
public import Idealize.ShloMosaic.Lib.Pointwise

@[expose] public section

set_option maxRecDepth 16384

noncomputable section

namespace Cert.KernelIdeal.Block

open Idealize.ShloMosaic Cert.KernelIdeal Cert.KernelIdeal.Gen Cert.Agent

/-- A row's maximum over the last of two axes. -/
theorem max_last2 {n0 n1 : ℕ} (x : FVec Ideal ⟨2, ![n0, n1]⟩ .f32) (c : BitVec 32)
    (hc : Ideal.ofBits .f32 c = (⊥ : EReal)) (h : (⟨2, ![n0, n1]⟩ : Shape).Reduces [1] ⟨1, ![n0]⟩) (hφ : FKind.Formats .f32)
    (hacc : c = FKind.maximumf.neutral .f32 hφ) (b : Fin n0) :
    multiReduction (F := Ideal) .maximumf [1] ⟨1, ![n0]⟩ x c h hφ hacc (ix1 b)
      = (top (fun k : Fin n1 => (x (ix2 b k) : EReal)) : EReal) := by
  rw [Ideal.multiReduction_maximumf_single]
  have e : ∀ k : Fin n1, h.lift (ix1 b) k = ix2 b k := by
    intro k
    funext a
    match a with
    | ⟨0, _⟩ => rfl
    | ⟨1, _⟩ => rfl
  have e' : (x ∘ h.lift (ix1 b) : Fin n1 → EReal) = fun k => x (ix2 b k) := funext fun k => congrArg x (e k)
  show Finset.univ.fold max (Ideal.ofBits .f32 c) (x ∘ h.lift (ix1 b) : Fin n1 → EReal) = _
  rw [hc, e']
  rfl

/-- A minimum of signed words over a finite set: no greater than the start and every word, and one of them. -/
theorem fold_minsi {ι : Type} [DecidableEq ι] (f : ι → BitVec 32) (a : BitVec 32) (S : Finset ι) :
    (S.fold IKind.minsi.op a f).toInt ≤ a.toInt ∧ (∀ i ∈ S, (S.fold IKind.minsi.op a f).toInt ≤ (f i).toInt)
      ∧ (S.fold IKind.minsi.op a f = a ∨ ∃ i ∈ S, S.fold IKind.minsi.op a f = f i) := by
  induction S using Finset.induction_on with
  | empty => simp
  | insert i S hi ih =>
    obtain ⟨h1, h2, h3⟩ := ih
    rw [Finset.fold_insert hi]
    generalize S.fold IKind.minsi.op a f = r at h1 h2 h3
    have hop : IKind.minsi.op (f i) r = if (f i).slt r then f i else r := rfl
    rw [hop]
    split_ifs with hs
    · rw [BitVec.slt_iff_toInt_lt] at hs
      refine ⟨hs.le.trans h1, fun j hj => ?_, Or.inr ⟨i, Finset.mem_insert_self _ _, rfl⟩⟩
      rcases Finset.mem_insert.mp hj with e | e
      · rw [e]
      · exact hs.le.trans (h2 j e)
    · rw [BitVec.slt_iff_toInt_lt, not_lt] at hs
      refine ⟨h1, fun j hj => ?_, ?_⟩
      · rcases Finset.mem_insert.mp hj with e | e
        · rw [e]
          exact hs
        · exact h2 j e
      · rcases h3 with e | ⟨j, hj, e⟩
        · exact Or.inl e
        · exact Or.inr ⟨j, Finset.mem_insert_of_mem hj, e⟩

/-- A small number as a signed word. -/
theorem small_word (n : ℕ) (h : n < 2 ^ 31) : (BitVec.ofNat 32 n).toInt = n := by
  rw [BitVec.toInt_ofNat', Int.bmod_eq_of_le] <;> omega

/-- The least position at which a row reaches its maximum is the first greatest one. -/
theorem first_last2 {n0 n1 : ℕ} (hn : 0 < n1) (hb : n1 < 2 ^ 31 - 1) (v : Fin n1 → EReal) (w : IVec ⟨2, ![n0, n1]⟩ 32)
    (h : (⟨2, ![n0, n1]⟩ : Shape).Reduces [1] ⟨1, ![n0]⟩) (hacc : 2147483647#32 = IKind.minsi.neutral) (b : Fin n0)
    (hw : ∀ k : Fin n1, w (ix2 b k) = if top v ≤ v k then BitVec.ofNat 32 k.1 else BitVec.ofNat 32 n1) :
    multiReductionI .minsi [1] ⟨1, ![n0]⟩ w 2147483647#32 h hacc (ix1 b) = BitVec.ofNat 32 (firstMax hn v).1 := by
  rw [multiReductionI_eq_fold]
  obtain ⟨_, h2, h3⟩ := fold_minsi w 2147483647#32 (Finset.univ.filter fun i => h.drop i = ix1 b)
  generalize (Finset.univ.filter fun i => h.drop i = ix1 b).fold IKind.minsi.op 2147483647#32 w = r at h2 h3
  obtain ⟨hmax, hfst⟩ := firstMax_spec hn v
  have htop : top v = v (firstMax hn v) := top_eq hmax
  have hmem : ∀ k : Fin n1, ix2 b k ∈ Finset.univ.filter fun i => h.drop i = ix1 b := by
    intro k
    rw [Finset.mem_filter]
    exact ⟨Finset.mem_univ _, (h.fiber_r2_a1 _ _).mpr ⟨k, rfl⟩⟩
  have hr := h2 _ (hmem (firstMax hn v))
  have hi := (firstMax hn v).2
  rw [hw, if_pos htop.le, small_word _ (by omega)] at hr
  rcases h3 with e | ⟨i, hi', e⟩
  · exfalso
    rw [e] at hr
    have : (2147483647#32).toInt = 2147483647 := by decide
    omega
  · obtain ⟨k, rfl⟩ := (h.fiber_r2_a1 _ _).mp (Finset.mem_filter.mp hi').2
    have hk : r = if top v ≤ v k then BitVec.ofNat 32 k.1 else BitVec.ofNat 32 n1 := e.trans (hw k)
    split_ifs at hk with ht
    · rw [hk, small_word _ (by omega)] at hr
      have hle : k.1 ≤ (firstMax hn v).1 := by omega
      rcases hle.lt_or_eq with c | c
      · exact absurd (hfst k c) (not_lt.mpr (htop ▸ ht))
      · rw [hk, c]
    · rw [hk, small_word _ (by omega)] at hr
      omega

/-- A row's greatest entry, as a column. -/
def roundTop (v : FVec Ideal S32x225 .f32) : FVec Ideal S32x1 .f32 :=
  shapeCast S32x1 (multiReduction .maximumf [1] S32 v 0xFF800000#32 reduces_S32x225_S32 (.inl rfl) rfl) shapeCasts_S32_S32x1

/-- Positions along a row. -/
def lanes : IVec S32x225 32 := iota .tc S32x225 32 [1] iota_S32x225_d1_w32

/-- The positions at which a row reaches its maximum, 225 elsewhere. -/
def roundHits (v : FVec Ideal S32x225 .f32) (u : FVec Ideal S32x1 .f32) : IVec S32x225 32 :=
  select (cmpf .oge v (broadcastTo S32x225 u broadcasts_S32x1_S32x225)) lanes (broadcast S32x225 225#32)

/-- The position that one round finds. -/
def roundIdx (v : FVec Ideal S32x225 .f32) : IVec S32 32 :=
  multiReductionI .minsi [1] S32 (roundHits v (roundTop v)) 2147483647#32 reduces_S32x225_S32 rfl

/-- The rows after one round: −1 at the position found. -/
def roundNext (v : FVec Ideal S32x225 .f32) (i : IVec S32 32) : FVec Ideal S32x225 .f32 :=
  select (cmpi .eq lanes (broadcastTo S32x225 (shapeCast S32x1 i shapeCasts_S32_S32x1) broadcasts_S32x1_S32x225))
    (broadcast S32x225 (Scalar.ofBits .f32 0xBF800000#32 : Ideal .f32)) v

/-- The rows after `k` rounds. -/
def kRounds (v : FVec Ideal S32x225 .f32) : ℕ → FVec Ideal S32x225 .f32
  | 0 => v
  | k + 1 => roundNext (kRounds v k) (roundIdx (kRounds v k))

/-- A row's greatest entry. -/
theorem roundTop_at (v : FVec Ideal S32x225 .f32) (a : Fin 32) :
    roundTop v (ix2 a 0) = (top (fun k : Fin 225 => (v (ix2 a k) : EReal)) : EReal) := by
  rw [← max_last2 v 0xFF800000#32 ofBits_bot reduces_S32x225_S32 (.inl rfl) rfl a]
  unfold roundTop
  generalize multiReduction .maximumf [1] S32 v 0xFF800000#32 reduces_S32x225_S32 (.inl rfl) rfl = w
  pointwise

/-- One hit. -/
theorem roundHits_at (v : FVec Ideal S32x225 .f32) (u : FVec Ideal S32x1 .f32) (a : Fin 32) (k : Fin 225) :
    roundHits v u (ix2 a k) = if (u (ix2 a 0) : EReal) ≤ v (ix2 a k) then BitVec.ofNat 32 k.1 else BitVec.ofNat 32 225 := by
  unfold roundHits lanes
  pointwise

/-- The position that one round finds. -/
theorem roundIdx_at (v : FVec Ideal S32x225 .f32) (a : Fin 32) :
    roundIdx v (ix1 a) = BitVec.ofNat 32 (firstMax (by decide) (fun k : Fin 225 => (v (ix2 a k) : EReal))).1 := by
  refine first_last2 (by decide) (by decide) _ _ _ rfl a fun k => ?_
  rw [roundHits_at, roundTop_at]

/-- The rows after one round. -/
theorem roundNext_at (v : FVec Ideal S32x225 .f32) (i : IVec S32 32) (a : Fin 32) (k : Fin 225) :
    roundNext v i (ix2 a k) = if BitVec.ofNat 32 k.1 = i (ix1 a) then (-1 : EReal) else v (ix2 a k) := by
  have h : IntOp.cmpi .eq (BitVec.ofNat 32 k.1) (i (ix1 a)) = BitVec.ofBool (decide (BitVec.ofNat 32 k.1 = i (ix1 a))) := rfl
  unfold roundNext lanes
  pointwise
  rw [h, ofBits_neg_one]
  by_cases c : BitVec.ofNat 32 k.1 = i (ix1 a)
  · simp [c, Scalar.select]
  · simp [c, Scalar.select]

/-- The rows after `k` rounds, each row by itself. -/
theorem kRounds_at (v : FVec Ideal S32x225 .f32) (k : ℕ) (a : Fin 32) :
    (fun n : Fin 225 => (kRounds v k (ix2 a n) : EReal)) = rounds (by decide) (fun n : Fin 225 => (v (ix2 a n) : EReal)) k := by
  induction k with
  | zero => rfl
  | succ k ih =>
    funext n
    show roundNext (kRounds v k) (roundIdx (kRounds v k)) (ix2 a n) = _
    rw [roundNext_at, roundIdx_at, ih]
    show _ = if n = firstMax _ _ then (-1 : EReal) else rounds _ _ k n
    rw [← ih]
    have e : (BitVec.ofNat 32 n.1 = BitVec.ofNat 32 (firstMax (by decide) (fun n : Fin 225 => (kRounds v k (ix2 a n) : EReal))).1)
        ↔ n = firstMax (by decide) (fun n : Fin 225 => (kRounds v k (ix2 a n) : EReal)) := by
      generalize firstMax (by decide) (fun n : Fin 225 => (kRounds v k (ix2 a n) : EReal)) = q
      constructor
      · intro h
        have h' := congrArg BitVec.toNat h
        simp only [BitVec.toNat_ofNat] at h'
        exact Fin.ext (by omega)
      · rintro rfl
        rfl
    simp only [e]

/-- The position that round `k` finds. -/
theorem kPick_at (v : FVec Ideal S32x225 .f32) (k : ℕ) (a : Fin 32) :
    roundIdx (kRounds v k) (ix1 a) = BitVec.ofNat 32 (pick (by decide) (fun n : Fin 225 => (v (ix2 a n) : EReal)) k).1 := by
  rw [roundIdx_at, kRounds_at]
  rfl

/-- The eight positions as rows. -/
def picks (v : FVec Ideal S32x225 .f32) : IVec S32x8 32 :=
  concatenate S32x8 1 [⟨S32x1, shapeCast S32x1 (roundIdx (kRounds v 0)) shapeCasts_S32_S32x1⟩,
    ⟨S32x1, shapeCast S32x1 (roundIdx (kRounds v 1)) shapeCasts_S32_S32x1⟩,
    ⟨S32x1, shapeCast S32x1 (roundIdx (kRounds v 2)) shapeCasts_S32_S32x1⟩,
    ⟨S32x1, shapeCast S32x1 (roundIdx (kRounds v 3)) shapeCasts_S32_S32x1⟩,
    ⟨S32x1, shapeCast S32x1 (roundIdx (kRounds v 4)) shapeCasts_S32_S32x1⟩,
    ⟨S32x1, shapeCast S32x1 (roundIdx (kRounds v 5)) shapeCasts_S32_S32x1⟩,
    ⟨S32x1, shapeCast S32x1 (roundIdx (kRounds v 6)) shapeCasts_S32_S32x1⟩,
    ⟨S32x1, shapeCast S32x1 (roundIdx (kRounds v 7)) shapeCasts_S32_S32x1⟩]
    concatenates_S32x1_S32x1_S32x1_S32x1_S32x1_S32x1_S32x1_S32x1_S32x8_d1

/-- The position of round `k`. -/
theorem picks_at (v : FVec Ideal S32x225 .f32) (a : Fin 32) (k : Fin 8) :
    picks v (ix2 a k) = BitVec.ofNat 32 (pick (by decide) (fun n : Fin 225 => (v (ix2 a n) : EReal)) k.1).1 := by
  rw [← kPick_at]
  unfold picks
  generalize kRounds v = q
  generalize hr : (fun k => roundIdx (q k)) = r
  have hr' : ∀ k, roundIdx (q k) = r k := fun k => congrFun hr k
  simp only [hr']
  pointwise
  obtain ⟨k, hk⟩ := k
  interval_cases k <;> rfl

end Cert.KernelIdeal.Block

end
-- ==== Proof.KerConv.lean ====
/- The kernel's projections: every image's patches against the three weight matrices side by side. -/
module

public import proofs.«01_k».proof.Proof.KerRounds
public import Idealize.ShloMosaic.Lib.Pipeline.ValueKit

@[expose] public section

set_option maxRecDepth 16384

noncomputable section

namespace Cert.KernelIdeal.Block

open Idealize.ShloMosaic Cert.KernelIdeal Cert.KernelIdeal.Gen Cert.Agent

/-- One row of taps: the pixel columns picked, then weighed. -/
def tap (r : FVec Ideal S32x15x192 .f32) (s : FVec Ideal S192x315 .f32) (w : FVec Ideal S1x315x165 .f32) : FVec Ideal S480x165 .f32 :=
  matmul dot_S480x315_S315x165_S480x165_1_0_0_1_n_n none
    (matmul dot_S480x192_S192x315_S480x315_1_0_0_1_n_n none (shapeCast S480x192 r shapeCasts_S32x15x192_S480x192) s
      (constant S480x315 .f32 0x00000000#32))
    (shapeCast S315x165 w shapeCasts_S1x315x165_S315x165) (constant S480x165 .f32 0x00000000#32)

/-- The outputs with their biases, one row per patch. -/
def outputs (y : FVec Ideal S480x165 .f32) (b : FVec Ideal S1x165 .f32) : FVec Ideal S32x225x11 .f32 :=
  shapeCast S32x225x11 (transpose S32x15x15x11 [0, 1, 3, 2] (shapeCast S32x15x11x15
    (addf y (broadcastTo S480x165 (shapeCast S1x165 (shapeCast S165 b shapeCasts_S1x165_S165) shapeCasts_S165_S1x165) broadcasts_S1x165_S480x165))
    shapeCasts_S480x165_S32x15x11x15) transposes_S32x15x11x15_p0_1_3_2_S32x15x15x11) shapeCasts_S32x15x15x11_S32x225x11

/-- All seven rows of taps, summed. -/
def taps (x : FVec Ideal S32x16x768 .f32) (s : FVec Ideal S192x315 .f32) (w0 w1 w2 w3 w4 w5 w6 : FVec Ideal S1x315x165 .f32) :
    FVec Ideal S480x165 .f32 :=
  addf (addf (addf (addf (addf (addf (addf (broadcast S480x165 (Scalar.ofBits .f32 0x00000000#32 : Ideal .f32))
    (tap (extractStridedSlice S32x15x192 ![0, 0, 0] x slices_S32x16x768_o0_0_0_S32x15x192) s w0))
    (tap (extractStridedSlice S32x15x192 ![0, 0, 192] x slices_S32x16x768_o0_0_192_S32x15x192) s w1))
    (tap (extractStridedSlice S32x15x192 ![0, 0, 384] x slices_S32x16x768_o0_0_384_S32x15x192) s w2))
    (tap (extractStridedSlice S32x15x192 ![0, 0, 576] x slices_S32x16x768_o0_0_576_S32x15x192) s w3))
    (tap (extractStridedSlice S32x15x192 ![0, 1, 0] x slices_S32x16x768_o0_1_0_S32x15x192) s w4))
    (tap (extractStridedSlice S32x15x192 ![0, 1, 192] x slices_S32x16x768_o0_1_192_S32x15x192) s w5))
    (tap (extractStridedSlice S32x15x192 ![0, 1, 384] x slices_S32x16x768_o0_1_384_S32x15x192) s w6)

/-- The outputs of a block, in these stages. -/
theorem pay6_eq (x : FVec Ideal S32x16x768 .f32) (s : FVec Ideal S192x315 .f32) (w0 w1 w2 w3 w4 w5 w6 : FVec Ideal S1x315x165 .f32)
    (b : FVec Ideal S1x165 .f32) :
    k0_pay6 (k0_pay2 x) s (k0_pay3 x s w0 w1 w2) (k0_pay4 x s) (k0_pay5 w3) (constant S480x165 .f32 0x00000000#32) w4 w5 w6 b
      = outputs (taps (k0_pay2 x) s w0 w1 w2 w3 w4 w5 w6) b := rfl

/-- One number of a row of taps. -/
theorem tap_at (r : FVec Ideal S32x15x192 .f32) (s : FVec Ideal S192x315 .f32) (w : FVec Ideal S1x315x165 .f32) (p : Fin 480) (j : Fin 165) :
    tap r s w (ix2 p j) = (∑ x : Fin 315, ((∑ y : Fin 192, (r (ix3 ⟨p.1 / 15, by omega⟩ ⟨p.1 % 15, by omega⟩ y) * s (ix2 y x) : EReal)) *
      w (ix3 0 x j) : EReal) : EReal) := by
  unfold tap
  pointwise

/-- One output. -/
theorem outputs_at (y : FVec Ideal S480x165 .f32) (b : FVec Ideal S1x165 .f32) (a : Fin 32) (n : Fin 225) (o : Fin 11) :
    outputs y b (ix3 a n o) = (y (ix2 ⟨a.1 * 15 + n.1 / 15, by omega⟩ ⟨o.1 * 15 + n.1 % 15, by omega⟩) + b (ix2 0 ⟨o.1 * 15 + n.1 % 15, by omega⟩) : EReal) := by
  unfold outputs
  pointwise

/-- The sum over positions of a row against a selected column. -/
theorem sum_picked (f : Fin 192 → EReal) (s : Fin 192 → EReal) (q : Fin 192) (h : ∀ y, s y = if y = q then 1 else 0) :
    ∑ y, f y * s y = f q := by
  rw [Finset.sum_eq_single q]
  · rw [h, if_pos rfl, mul_one]
  · intro y _ hy
    rw [h, if_neg hy, mul_zero]
  · exact fun c => absurd (Finset.mem_univ _) c

/-- The pixel column of tap `d`, patch column `c` and channel `h`. -/
def place (c : Fin 15) (d : Fin 7) (h : Fin 3) : Fin 192 := ⟨(4 * c.1 + d.1) * 3 + h.1, by omega⟩

/-- The position of a picked column among the 315. -/
def spot (d : Fin 7) (c : Fin 15) (h : Fin 3) : Fin 315 := ⟨d.1 * 45 + (c.1 * 3 + h.1), by omega⟩

/-- A sum over the 315 picked columns, by tap, patch column and channel. -/
theorem sum_spots (f : Fin 315 → EReal) : ∑ x, f x = ∑ d : Fin 7, ∑ c : Fin 15, ∑ h : Fin 3, f (spot d c h) := by
  rw [← Fin.sum_mul_add_fin 7 45 f]
  refine Finset.sum_congr rfl fun d _ => ?_
  exact (Fin.sum_mul_add_fin 15 3 fun l : Fin 45 => f ⟨d.1 * 45 + l.1, by omega⟩).symm

/-- A row of taps reads the patch's own pixels against its own weights. -/
theorem sum_taps (f : Fin 192 → EReal) (s : Fin 192 → Fin 315 → EReal) (w : Fin 315 → EReal) (v : Fin 7 → Fin 3 → EReal) (c : Fin 15)
    (hs : ∀ d k h y, s y (spot d k h) = if y = place k d h then 1 else 0)
    (hw : ∀ d k h, w (spot d k h) = if k = c then v d h else 0) :
    ∑ x, (∑ y, f y * s y x) * w x = ∑ d, ∑ h, f (place c d h) * v d h := by
  rw [sum_spots]
  refine Finset.sum_congr rfl fun d _ => ?_
  rw [Finset.sum_eq_single c]
  · refine Finset.sum_congr rfl fun h _ => ?_
    rw [sum_picked f _ (place c d h) (hs d c h), hw, if_pos rfl]
  · intro k _ hk
    refine Finset.sum_eq_zero fun h _ => ?_
    rw [hw, if_neg hk, mul_zero]
  · exact fun e => absurd (Finset.mem_univ _) e

/-- The position of a pixel of a patch: channel, row, column. -/
def pixel (h : Fin 3) (y : Fin 7) (d : Fin 7) : Fin 147 := ⟨h.1 * 49 + (y.1 * 7 + d.1), by omega⟩

/-- A sum over a patch's pixels, by row, column and channel. -/
theorem sum_pixels (f : Fin 147 → EReal) : ∑ t, f t = ∑ y : Fin 7, ∑ d : Fin 7, ∑ h : Fin 3, f (pixel h y d) := by
  rw [← Fin.sum_mul_add_fin 3 49 f]
  have e : ∀ h : Fin 3, ∑ k : Fin 49, f ⟨h.1 * 49 + k.1, by omega⟩ = ∑ y : Fin 7, ∑ d : Fin 7, f (pixel h y d) := fun h =>
    (Fin.sum_mul_add_fin 7 7 fun l : Fin 49 => f ⟨h.1 * 49 + l.1, by omega⟩).symm
  rw [Finset.sum_congr rfl fun h _ => e h, Finset.sum_comm]
  exact Finset.sum_congr rfl fun y _ => Finset.sum_comm

/-- A slab of pixel rows, at its offsets. -/
theorem slab_at (x : FVec Ideal S32x16x768 .f32) (u v : ℕ) (hu : u < 2) (hv : v ≤ 576) (hs) (a : Fin 32) (r : Fin 15) (y : Fin 192) :
    extractStridedSlice S32x15x192 ![0, u, v] x hs (ix3 a r y) = x (ix3 a ⟨u + r.1, by omega⟩ ⟨v + y.1, by omega⟩) := by
  pointwise

/-- The pixel rows as a whole: the row of tap row `y` in patch row `r`, as a row of the block and an offset in it. -/
def pix (x : FVec Ideal S32x16x768 .f32) (a : Fin 32) (r : Fin 15) (y : Fin 7) (k : Fin 192) : EReal :=
  x (ix3 a ⟨y.1 / 4 + r.1, by omega⟩ ⟨y.1 % 4 * 192 + k.1, by omega⟩)

/-- A tap row reads its own weights. -/
theorem tap_sum (r : FVec Ideal S32x15x192 .f32) (s : FVec Ideal S192x315 .f32) (w : FVec Ideal S1x315x165 .f32) (v : Fin 11 → Fin 7 → Fin 3 → EReal)
    (hs : ∀ d k h y, (s (ix2 y (spot d k h)) : EReal) = if y = place k d h then 1 else 0)
    (hw : ∀ d k h (o : Fin 11) (c : Fin 15), (w (ix3 0 (spot d k h) ⟨o.1 * 15 + c.1, by omega⟩) : EReal) = if k = c then v o d h else 0)
    (a : Fin 32) (n : Fin 225) (o : Fin 11) :
    tap r s w (ix2 ⟨a.1 * 15 + n.1 / 15, by omega⟩ ⟨o.1 * 15 + n.1 % 15, by omega⟩)
      = (∑ d, ∑ h, ((r (ix3 a ⟨n.1 / 15, by omega⟩ (place ⟨n.1 % 15, by omega⟩ d h)) : EReal) * v o d h) : EReal) := by
  rw [tap_at, ← sum_taps (fun y => r (ix3 a ⟨n.1 / 15, by omega⟩ y)) (fun y x => s (ix2 y x))
    (fun x => w (ix3 0 x ⟨o.1 * 15 + n.1 % 15, by omega⟩)) (fun d h => v o d h) ⟨n.1 % 15, by omega⟩ hs
    (fun d k h => hw d k h o ⟨n.1 % 15, by omega⟩)]
  have e1 : (⟨(a.1 * 15 + n.1 / 15) / 15, by omega⟩ : Fin 32) = a := Fin.ext (by simp only []; omega)
  have e2 : (⟨(a.1 * 15 + n.1 / 15) % 15, by omega⟩ : Fin 15) = ⟨n.1 / 15, by omega⟩ := Fin.ext (by simp only []; omega)
  simp only [e1, e2]

/-- An output of a patch: its pixels weighed, plus the bias. -/
theorem taps_at (x : FVec Ideal S32x16x768 .f32) (s : FVec Ideal S192x315 .f32) (w : Fin 7 → FVec Ideal S1x315x165 .f32)
    (b : FVec Ideal S1x165 .f32) (v : Fin 11 → Fin 147 → EReal) (c : Fin 11 → EReal)
    (hs : ∀ d k h y, (s (ix2 y (spot d k h)) : EReal) = if y = place k d h then 1 else 0)
    (hw : ∀ y d k h (o : Fin 11) (c : Fin 15), (w y (ix3 0 (spot d k h) ⟨o.1 * 15 + c.1, by omega⟩) : EReal) = if k = c then v o (pixel h y d) else 0)
    (hb : ∀ (o : Fin 11) (k : Fin 15), (b (ix2 0 ⟨o.1 * 15 + k.1, by omega⟩) : EReal) = c o)
    (a : Fin 32) (n : Fin 225) (o : Fin 11) :
    outputs (taps x s (w 0) (w 1) (w 2) (w 3) (w 4) (w 5) (w 6)) b (ix3 a n o)
      = ((∑ t : Fin 147, (pix x a ⟨n.1 / 15, by omega⟩ ⟨t.1 / 7 % 7, by omega⟩ (place ⟨n.1 % 15, by omega⟩ ⟨t.1 % 7, by omega⟩ ⟨t.1 / 49, by omega⟩) *
        v o t : EReal)) + c o : EReal) := by
  have q : ∀ (u z : ℕ) (hu : u < 2) (hz : z ≤ 576) (hl) (y : Fin 7) (hy : y.1 / 4 = u ∧ y.1 % 4 * 192 = z),
      tap (extractStridedSlice S32x15x192 ![0, u, z] x hl) s (w y) (ix2 ⟨a.1 * 15 + n.1 / 15, by omega⟩ ⟨o.1 * 15 + n.1 % 15, by omega⟩)
        = (∑ d, ∑ h, (pix x a ⟨n.1 / 15, by omega⟩ y (place ⟨n.1 % 15, by omega⟩ d h) * v o (pixel h y d) : EReal) : EReal) := by
    intro u z hu hz hl y hy
    rw [tap_sum _ s (w y) (fun o d h => v o (pixel h y d)) hs (hw y) a n o]
    refine Finset.sum_congr rfl fun d _ => Finset.sum_congr rfl fun h _ => ?_
    rw [slab_at x u z hu hz hl]
    obtain ⟨rfl, rfl⟩ := hy
    rfl
  have g : ∀ (y : Fin 7) (d : Fin 7) (h : Fin 3),
      (⟨(pixel h y d).1 / 7 % 7, by omega⟩ : Fin 7) = y ∧ (⟨(pixel h y d).1 % 7, by omega⟩ : Fin 7) = d ∧
        (⟨(pixel h y d).1 / 49, by omega⟩ : Fin 3) = h := fun y d h =>
    ⟨Fin.ext (by simp only [pixel]; omega), Fin.ext (by simp only [pixel]; omega), Fin.ext (by simp only [pixel]; omega)⟩
  rw [outputs_at, hb o ⟨n.1 % 15, by omega⟩, sum_pixels]
  simp only [fun y d h => (g y d h).1, fun y d h => (g y d h).2.1, fun y d h => (g y d h).2.2]
  rw [Fin.sum_univ_seven, ← q 0 0 (by decide) (by decide) slices_S32x16x768_o0_0_0_S32x15x192 0 (by decide),
    ← q 0 192 (by decide) (by decide) slices_S32x16x768_o0_0_192_S32x15x192 1 (by decide),
    ← q 0 384 (by decide) (by decide) slices_S32x16x768_o0_0_384_S32x15x192 2 (by decide),
    ← q 0 576 (by decide) (by decide) slices_S32x16x768_o0_0_576_S32x15x192 3 (by decide),
    ← q 1 0 (by decide) (by decide) slices_S32x16x768_o0_1_0_S32x15x192 4 (by decide),
    ← q 1 192 (by decide) (by decide) slices_S32x16x768_o0_1_192_S32x15x192 5 (by decide),
    ← q 1 384 (by decide) (by decide) slices_S32x16x768_o0_1_384_S32x15x192 6 (by decide)]
  unfold taps
  pointwise

end Cert.KernelIdeal.Block

end
-- ==== Proof.Rows.lean ====
/- Softmax rows that may hold infinities: where the kernel's weights are the softmax, what both are elsewhere, and that
   the eight rounds choose alike when the rows are alike. -/
module

public import proofs.«01_k».proof.Proof.Attention

@[expose] public section

noncomputable section

namespace Cert.Agent

open Idealize.ShloMosaic

/-- A row that a softmax can weigh: nothing in it is plus infinity, and something is above minus infinity. -/
def Plain {n : Nat} (s : Fin n → EReal) : Prop := (∀ j, s j ≠ ⊤) ∧ ∃ j, s j ≠ ⊥

/-- The kernel's weight: the exponential times one over the sum of the exponentials. -/
def weigh {n : Nat} (s : Fin n → EReal) (j : Fin n) : EReal := Ideal.div 1 (∑ k, Ideal.exp (s k)) * Ideal.exp (s j)

/-- An exponential is not negative. -/
theorem exp_nonneg' (x : EReal) : 0 ≤ Ideal.exp x := by
  induction x with
  | bot => exact le_rfl
  | top => exact le_top
  | coe r => exact EReal.coe_nonneg.mpr (Real.exp_pos r).le

/-- The exponentials of a plain row are real numbers with a positive sum, and subtracting the greatest entry scales them all. -/
theorem plain_exps {n : Nat} (s : Fin n → EReal) (h : Plain s) : ∃ (w : Fin n → ℝ) (t : ℝ), (∀ k, 0 ≤ w k) ∧ 0 < ∑ k, w k ∧
    top s = (t : EReal) ∧ (∀ k, Ideal.exp (s k) = (w k : EReal)) ∧ ∀ k, Ideal.exp (s k - (t : EReal)) = ((w k * Real.exp (-t) : ℝ) : EReal) := by
  obtain ⟨h1, j, h2⟩ := h
  haveI : Nonempty (Fin n) := ⟨j⟩
  obtain ⟨m, hm⟩ := Finite.exists_max s
  have hb : s m ≠ ⊥ := fun e => h2 (le_bot_iff.mp (e ▸ hm j))
  have ht : s m = ((s m).toReal : EReal) := (EReal.coe_toReal (h1 m) hb).symm
  have hw : ∀ k, ∃ w : ℝ, 0 ≤ w ∧ (s k ≠ ⊥ → 0 < w) ∧ Ideal.exp (s k) = (w : EReal) ∧
      ∀ t : ℝ, Ideal.exp (s k - (t : EReal)) = ((w * Real.exp (-t) : ℝ) : EReal) := by
    intro k
    have hk := h1 k
    generalize s k = x at hk ⊢
    induction x with
    | bot => exact ⟨0, le_rfl, fun e => absurd rfl e, rfl, fun t => by rw [EReal.bot_sub, zero_mul]; rfl⟩
    | top => exact absurd rfl hk
    | coe r =>
      refine ⟨Real.exp r, (Real.exp_pos r).le, fun _ => Real.exp_pos r, rfl, fun t => ?_⟩
      rw [← EReal.coe_sub, ← Real.exp_add, ← sub_eq_add_neg]
      rfl
  choose w w0 wp we ws using hw
  refine ⟨w, (s m).toReal, w0, ?_, (top_eq hm).trans ht, we, fun k => ws k _⟩
  exact Finset.sum_pos' (fun k _ => w0 k) ⟨m, Finset.mem_univ m, wp m hb⟩

/-- On a plain row the kernel's weight is the softmax entry, a number that is not negative. -/
theorem weigh_plain {n : Nat} (s : Fin n → EReal) (h : Plain s) (j : Fin n) : weigh s j = soft s j ∧ 0 ≤ soft s j := by
  obtain ⟨w, t, w0, hp, ht, we, ws⟩ := plain_exps s h
  have e1 : soft s j = ((w j / ∑ k, w k : ℝ) : EReal) := by
    unfold soft
    rw [ht]
    simp only [ws]
    rw [coe_sum, ← Finset.sum_mul, Ideal.div_coe (mul_pos hp (Real.exp_pos _)).ne', ← EReal.coe_mul]
    congr 1
    have := (Real.exp_pos (-t)).ne'
    field_simp
  have e2 : weigh s j = ((w j / ∑ k, w k : ℝ) : EReal) := by
    unfold weigh
    simp only [we]
    rw [coe_sum, show (1 : EReal) = ((1 : ℝ) : EReal) from rfl, Ideal.div_coe hp.ne', ← EReal.coe_mul, ← EReal.coe_mul]
    congr 1
    field_simp
  exact ⟨e2.trans e1.symm, e1 ▸ EReal.coe_nonneg.mpr (div_nonneg (w0 j) hp.le)⟩

/-- A row that is not plain holds plus infinity, or nothing but minus infinity. -/
theorem not_plain {n : Nat} (s : Fin n → EReal) (h : ¬ Plain s) : (∃ j, s j = ⊤) ∨ ∀ j, s j = ⊥ := by
  unfold Plain at h
  by_contra c
  push Not at c
  exact h ⟨c.1, c.2⟩

/-- On a row that is not plain the kernel's weights are zero. -/
theorem weigh_other {n : Nat} (s : Fin n → EReal) (h : ¬ Plain s) (j : Fin n) : weigh s j = 0 := by
  unfold weigh
  rcases not_plain s h with ⟨k, hk⟩ | hb
  · have e : ∑ k, Ideal.exp (s k) = ⊤ := by
      refine top_le_iff.mp ?_
      refine le_trans (le_of_eq ?_) (Finset.single_le_sum (fun i _ => exp_nonneg' (s i)) (Finset.mem_univ k))
      rw [hk]
      rfl
    rw [e]
    simp [Ideal.div]
  · rw [hb j, show Ideal.exp ⊥ = 0 from rfl, mul_zero]

/-- On a row that is not plain the softmax entries are zero over zero. -/
theorem soft_other {n : Nat} (s : Fin n → EReal) (h : ¬ Plain s) (j : Fin n) : soft s j = ⊥ := by
  have e : ∀ k, s k - top s = ⊥ := by
    rcases not_plain s h with ⟨k, hk⟩ | hb
    · intro i
      rw [top_eq (i := k) fun j => hk ▸ le_top, hk]
      exact EReal.add_bot _
    · intro i
      rw [hb i]
      exact EReal.bot_sub _
  unfold soft
  simp only [e, show Ideal.exp ⊥ = 0 from rfl, Finset.sum_const_zero]
  simp [Ideal.div]

/-- A sum of minus infinities over a set with something in it. -/
theorem sum_bot {r : Nat} (hr : 0 < r) : ∑ _i : Fin r, (⊥ : EReal) = ⊥ := by
  rw [← Finset.add_sum_erase _ _ (Finset.mem_univ (⟨0, hr⟩ : Fin r)), EReal.bot_add]

/-- Where all rows are plain or none is, the rounds over the kernel's weights choose what the sort of the softmax's does. -/
theorem pick_weigh {r n : Nat} (hr : 0 < r) (hn : 0 < n) (s : Fin r → Fin n → EReal) (h : (∀ i, Plain (s i)) ∨ ∀ i, ¬ Plain (s i))
    (k : Nat) (hk : k < n) : pick hn (fun j => ∑ i, weigh (s i) j) k = sorted (fun j => ∑ i, soft (s i) j) ⟨k, hk⟩ := by
  rcases h with h | h
  · rw [show (fun j => ∑ i, weigh (s i) j) = fun j => ∑ i, soft (s i) j from
      funext fun j => Finset.sum_congr rfl fun i _ => (weigh_plain (s i) (h i) j).1]
    exact pick_eq_sorted hn _ (fun j => Finset.sum_nonneg fun i _ => (weigh_plain (s i) (h i) j).2) k hk
  · have e1 : (fun j => ∑ i, weigh (s i) j) = fun _ => (0 : EReal) :=
      funext fun j => Finset.sum_eq_zero fun i _ => weigh_other (s i) (h i) j
    have e2 : (fun j => ∑ i, soft (s i) j) = fun _ => (⊥ : EReal) := funext fun j => by
      simp only [fun i => soft_other (s i) (h i) j]
      exact sum_bot hr
    rw [e1, e2, pick_eq_sorted hn _ (fun _ => le_rfl) k hk]
    unfold sorted
    simp only [lt_self_iff_false]

/-- Two numbers that are infinite together, with the same sign. -/
def Alike (x y : EReal) : Prop := (x = ⊤ ↔ y = ⊤) ∧ (x = ⊥ ↔ y = ⊥)

/-- Finite numbers are alike. -/
theorem Alike.of_fin {x y : EReal} (hx : Fin' x) (hy : Fin' y) : Alike x y := by
  obtain ⟨a, rfl⟩ := hx
  obtain ⟨b, rfl⟩ := hy
  exact ⟨by simp, by simp⟩

/-- A number is like itself. -/
theorem Alike.refl (x : EReal) : Alike x x := ⟨Iff.rfl, Iff.rfl⟩

/-- Sums of numbers that are alike are alike. -/
theorem Alike.add {x y x' y' : EReal} (h : Alike x x') (h' : Alike y y') : Alike (x + y) (x' + y') := by
  obtain ⟨h1, h2⟩ := h
  obtain ⟨h3, h4⟩ := h'
  induction x <;> induction x' <;> simp at h1 h2 <;> induction y <;> induction y' <;> simp at h3 h4 <;>
    simp [Alike, ← EReal.coe_add]

/-- Numbers that are alike, times a positive number. -/
theorem Alike.scale {x x' : EReal} (h : Alike x x') (c : ℝ) (hc : 0 < c) : Alike (x * (c : EReal)) (x' * (c : EReal)) := by
  obtain ⟨h1, h2⟩ := h
  induction x <;> induction x' <;> simp at h1 h2 <;>
    simp [Alike, ← EReal.coe_mul, EReal.top_mul_coe_of_pos hc, EReal.bot_mul_coe_of_pos hc]

/-- Rows that are alike are plain together. -/
theorem plain_alike {n : Nat} (s s' : Fin n → EReal) (h : ∀ j, Alike (s j) (s' j)) : Plain s ↔ Plain s' := by
  unfold Plain
  simp only [ne_eq, fun j => (h j).1, fun j => (h j).2]

end Cert.Agent

end
-- ==== Proof.KerVotes.lean ====
/- The kernel's votes: the scores, their softmax weights summed, and the columns put back in order. -/
module

public import proofs.«01_k».proof.Proof.KerRounds
public import proofs.«01_k».proof.Proof.Rows

@[expose] public section

set_option maxRecDepth 16384

noncomputable section

namespace Cert.KernelIdeal.Block

open Idealize.ShloMosaic Cert.KernelIdeal Cert.KernelIdeal.Gen Cert.Agent

/-- A third of the keys, channel by channel in one row. -/
def keyRow (k : FVec Ideal S32x75x3 .f32) : FVec Ideal S32x1x225 .f32 :=
  shapeCast S32x1x225 (concatenate S32x225 1 [
    ⟨S32x75, shapeCast S32x75 (extractStridedSlice S32x75x1 ![0, 0, 0] k slices_S32x75x3_o0_0_0_S32x75x1) shapeCasts_S32x75x1_S32x75⟩,
    ⟨S32x75, shapeCast S32x75 (extractStridedSlice S32x75x1 ![0, 0, 1] k slices_S32x75x3_o0_0_1_S32x75x1) shapeCasts_S32x75x1_S32x75⟩,
    ⟨S32x75, shapeCast S32x75 (extractStridedSlice S32x75x1 ![0, 0, 2] k slices_S32x75x3_o0_0_2_S32x75x1) shapeCasts_S32x75x1_S32x75⟩]
    concatenates_S32x75_S32x75_S32x75_S32x225_d1) shapeCasts_S32x225_S32x1x225

/-- The keys in three rows. -/
def keys (k : FVec Ideal S32x225x3 .f32) : FVec Ideal S32x3x225 .f32 :=
  concatenate S32x3x225 1 [
    ⟨S32x1x225, keyRow (extractStridedSlice S32x75x3 ![0, 0, 0] k slices_S32x225x3_o0_0_0_S32x75x3)⟩,
    ⟨S32x1x225, keyRow (extractStridedSlice S32x75x3 ![0, 75, 0] k slices_S32x225x3_o0_75_0_S32x75x3)⟩,
    ⟨S32x1x225, keyRow (extractStridedSlice S32x75x3 ![0, 150, 0] k slices_S32x225x3_o0_150_0_S32x75x3)⟩]
    concatenates_S32x1x225_S32x1x225_S32x1x225_S32x3x225_d1

/-- The scores. -/
def scores (q : FVec Ideal S32x225x3 .f32) (k : FVec Ideal S32x3x225 .f32) : FVec Ideal S32x225x225 .f32 :=
  matmul dot_S32x225x3_S32x3x225_S32x225x225_2_1_1_2_0_0 none q k (constant S32x225x225 .f32 0x00000000#32)

/-- The reciprocals of the rows' sums. -/
def recips (e : FVec Ideal S32x225x225 .f32) : FVec Ideal S32x225x1 .f32 :=
  divf (broadcast S32x225x1 (Scalar.ofBits .f32 0x3F800000#32 : Ideal .f32))
    (shapeCast S32x225x1 (multiReduction .add [2] S32x225 e 0x00000000#32 reduces_S32x225x225_S32x225 (.inl rfl) rfl) shapeCasts_S32x225_S32x225x1)

/-- The rows weighed and summed. -/
def weighed (r : FVec Ideal S32x225x1 .f32) (e : FVec Ideal S32x225x225 .f32) : FVec Ideal S32x225 .f32 :=
  shapeCast S32x225 (matmul dot_S32x1x225_S32x225x225_S32x1x225_2_1_1_2_0_0 none
    (shapeCast S32x1x225 r shapeCasts_S32x225x1_S32x1x225) e (constant S32x1x225 .f32 0x00000000#32)) shapeCasts_S32x1x225_S32x225

/-- The columns put back in order. -/
def ordered (v : FVec Ideal S32x225 .f32) (p : FVec Ideal S225x225 .f32) : FVec Ideal S32x225 .f32 :=
  matmul dot_S32x225_S225x225_S32x225_1_0_0_1_n_n none v p (constant S32x225 .f32 0x00000000#32)

/-- The votes. -/
def votes (q k : FVec Ideal S32x225x3 .f32) (p : FVec Ideal S225x225 .f32) : FVec Ideal S32x225 .f32 :=
  ordered (weighed (recips (exp (scores q (keys k)))) (exp (scores q (keys k)))) p

/-- The first third of the keys, in these stages. -/
theorem pay14_eq (q k : FVec Ideal S32x225x3 .f32) (p : FVec Ideal S225x225 .f32) :
    k0_pay14 q k
      (shapeCast S32x75 (extractStridedSlice S32x75x1 ![0, 0, 0] (extractStridedSlice S32x75x3 ![0, 0, 0] k slices_S32x225x3_o0_0_0_S32x75x3)
        slices_S32x75x3_o0_0_0_S32x75x1) shapeCasts_S32x75x1_S32x75)
      (shapeCast S32x75 (extractStridedSlice S32x75x1 ![0, 0, 1] (extractStridedSlice S32x75x3 ![0, 0, 0] k slices_S32x225x3_o0_0_0_S32x75x3)
        slices_S32x75x3_o0_0_1_S32x75x1) shapeCasts_S32x75x1_S32x75)
      (extractStridedSlice S32x75x1 ![0, 0, 2] (extractStridedSlice S32x75x3 ![0, 0, 0] k slices_S32x225x3_o0_0_0_S32x75x3)
        slices_S32x75x3_o0_0_2_S32x75x1) p = votes q k p := rfl

/-- One number of a row of keys. -/
theorem keyRow_at (k : FVec Ideal S32x75x3 .f32) (b : Fin 32) (n : Fin 225) :
    keyRow k (ix3 b 0 n) = k (ix3 b ⟨n.1 % 75, by omega⟩ ⟨n.1 / 75, by omega⟩) := by
  unfold keyRow
  pointwise
  by_cases h : n.1 < 75
  · rw [dif_pos h]
    congr 2 <;> exact Fin.ext (by simp only [Fin.val_zero]; omega)
  · rw [dif_neg h]
    by_cases h' : n.1 - 75 < 75
    · rw [dif_pos h']
      congr 2 <;> exact Fin.ext (by simp only [Fin.val_one]; omega)
    · rw [dif_neg h']
      congr 2 <;> exact Fin.ext (by simp only [Fin.val_two]; omega)

/-- One number of the keys in three rows. -/
theorem keys_at (k : FVec Ideal S32x225x3 .f32) (b : Fin 32) (a : Fin 3) (n : Fin 225) :
    keys k (ix3 b a n) = k (ix3 b ⟨a.1 * 75 + n.1 % 75, by omega⟩ ⟨n.1 / 75, by omega⟩) := by
  have h0 := fun n => keyRow_at (extractStridedSlice S32x75x3 ![0, 0, 0] k slices_S32x225x3_o0_0_0_S32x75x3) b n
  have h1 := fun n => keyRow_at (extractStridedSlice S32x75x3 ![0, 75, 0] k slices_S32x225x3_o0_75_0_S32x75x3) b n
  have h2 := fun n => keyRow_at (extractStridedSlice S32x75x3 ![0, 150, 0] k slices_S32x225x3_o0_150_0_S32x75x3) b n
  unfold keys
  revert h0 h1 h2
  generalize keyRow (extractStridedSlice S32x75x3 ![0, 0, 0] k slices_S32x225x3_o0_0_0_S32x75x3) = k0
  generalize keyRow (extractStridedSlice S32x75x3 ![0, 75, 0] k slices_S32x225x3_o0_75_0_S32x75x3) = k1
  generalize keyRow (extractStridedSlice S32x75x3 ![0, 150, 0] k slices_S32x225x3_o0_150_0_S32x75x3) = k2
  intro h0 h1 h2
  fin_cases a
  · refine Eq.trans ?_ ((h0 n).trans ?_) <;> pointwise
  · refine Eq.trans ?_ ((h1 n).trans ?_) <;> pointwise
  · refine Eq.trans ?_ ((h2 n).trans ?_) <;> pointwise

/-- One score. -/
theorem scores_at (q : FVec Ideal S32x225x3 .f32) (k : FVec Ideal S32x3x225 .f32) (b : Fin 32) (i n : Fin 225) :
    scores q k (ix3 b i n) = (∑ a : Fin 3, (q (ix3 b i a) * k (ix3 b a n) : EReal) : EReal) := by
  unfold scores
  pointwise

/-- One reciprocal. -/
theorem recips_at (e : FVec Ideal S32x225x225 .f32) (b : Fin 32) (i : Fin 225) :
    recips e (ix3 b i 0) = Ideal.div 1 (∑ n : Fin 225, (e (ix3 b i n) : EReal)) := by
  unfold recips
  pointwise

/-- One weighed sum. -/
theorem weighed_at (r : FVec Ideal S32x225x1 .f32) (e : FVec Ideal S32x225x225 .f32) (b : Fin 32) (n : Fin 225) :
    weighed r e (ix2 b n) = (∑ i : Fin 225, (r (ix3 b i 0) * e (ix3 b i n) : EReal) : EReal) := by
  unfold weighed
  pointwise

/-- One sum in order. -/
theorem ordered_at (v : FVec Ideal S32x225 .f32) (p : FVec Ideal S225x225 .f32) (b : Fin 32) (n : Fin 225) :
    ordered v p (ix2 b n) = (∑ m : Fin 225, (v (ix2 b m) * p (ix2 m n) : EReal) : EReal) := by
  unfold ordered
  pointwise

/-- The kernel's column of patch column `n`. -/
def column (n : Fin 225) : Fin 225 := ⟨75 * (n.1 % 3) + n.1 / 3, by omega⟩

/-- The columns are a rearrangement. -/
theorem column_bijective : Function.Bijective column := by
  refine Finite.injective_iff_bijective.mp fun m n h => ?_
  have h' : 75 * (m.1 % 3) + m.1 / 3 = 75 * (n.1 % 3) + n.1 / 3 := congrArg Fin.val h
  exact Fin.ext (by omega)

/-- The kernel's weight of a row, in any order of the columns. -/
theorem weight_eq (s : Fin 225 → EReal) (n : Fin 225) :
    Ideal.div 1 (∑ m, Ideal.exp (s m)) * Ideal.exp (s (column n)) = weigh (fun m => s (column m)) n := by
  unfold weigh
  rw [column_bijective.sum_comp fun m => Ideal.exp (s m)]

/-- The votes for a patch column: the sum over all rows of the kernel's weight. -/
theorem votes_at (q k : FVec Ideal S32x225x3 .f32) (p : FVec Ideal S225x225 .f32)
    (hp : ∀ m n, (p (ix2 m n) : EReal) = if m = column n then 1 else 0) (b : Fin 32) (n : Fin 225) :
    votes q k p (ix2 b n) = (∑ i : Fin 225, weigh (fun m : Fin 225 =>
      ∑ a : Fin 3, (q (ix3 b i a) * k (ix3 b ⟨a.1 * 75 + m.1 / 3, by omega⟩ ⟨m.1 % 3, by omega⟩) : EReal)) n : EReal) := by
  have hc : ∀ i m, scores q (keys k) (ix3 b i (column m))
      = (∑ a : Fin 3, (q (ix3 b i a) * k (ix3 b ⟨a.1 * 75 + m.1 / 3, by omega⟩ ⟨m.1 % 3, by omega⟩) : EReal) : EReal) := by
    intro i m
    rw [scores_at]
    refine Finset.sum_congr rfl fun a _ => ?_
    rw [keys_at]
    have e1 : (column m).1 % 75 = m.1 / 3 := by
      simp only [column]
      omega
    have e2 : (column m).1 / 75 = m.1 % 3 := by
      simp only [column]
      omega
    simp only [e1, e2]
  unfold votes
  generalize scores q (keys k) = s at hc
  rw [ordered_at, Finset.sum_eq_single (column n)]
  · rw [hp, if_pos rfl, mul_one, weighed_at]
    refine Finset.sum_congr rfl fun i _ => ?_
    rw [recips_at]
    simp only [← hc i]
    exact weight_eq (fun m => s (ix3 b i m)) n
  · intro m _ hm
    rw [hp, if_neg hm, mul_zero]
  · exact fun e => absurd (Finset.mem_univ _) e

end Cert.KernelIdeal.Block

end
-- ==== Proof.KerTail.lean ====
/- The kernel's controller: the chosen patches' numbers, the features, the three layers and the action. -/
module

public import proofs.«01_k».proof.Proof.KerRounds

@[expose] public section

set_option maxRecDepth 16384

noncomputable section

namespace Cert.KernelIdeal.Block

open Idealize.ShloMosaic Cert.KernelIdeal Cert.KernelIdeal.Gen Cert.Agent

/-- The places of the chosen patches: position `n` against the word of choice `k`. -/
def hits (v : IVec S32x8 32) : IVec S32x8x225 1 :=
  cmpi .eq (iota .tc S32x8x225 32 [2] iota_S32x8x225_d2_w32)
    (broadcastTo S32x8x225 (shapeCast S32x8x1 v shapeCasts_S32x8_S32x8x1) broadcasts_S32x8x1_S32x8x225)

/-- The chosen patches' second layer. -/
def chosen (h : FVec Ideal S32x225x5 .f32) (i : IVec S32x8x225 1) (w : FVec Ideal S5x3 .f32) (b : FVec Ideal S1x3 .f32) :
    FVec Ideal S32x8x3 .f32 :=
  addf (matmul dot_S32x8x5_S5x3_S32x8x3_2_0_01_1_n_n none
      (maximumf (matmul dot_S32x8x225_S32x225x5_S32x8x5_2_1_1_2_0_0 none (select i (k0_pay29 (F := Ideal)) (k0_pay30 (F := Ideal))) h
        (constant S32x8x5 .f32 0x00000000#32)) (broadcast S32x8x5 (Scalar.ofBits .f32 0x00000000#32 : Ideal .f32)))
      (shapeCast S5x3 w shapeCasts_S5x3_S5x3) (constant S32x8x3 .f32 0x00000000#32))
    (broadcastTo S32x8x3 (shapeCast S1x1x3 (shapeCast S3 b shapeCasts_S1x3_S3) shapeCasts_S3_S1x1x3) broadcasts_S1x1x3_S32x8x3)

/-- The chosen patches' numbers in one row per image. -/
def flat (y : FVec Ideal S32x8x3 .f32) : FVec Ideal S32x24 .f32 :=
  concatenate S32x24 1 [
    ⟨S32x3, shapeCast S32x3 (extractStridedSlice S32x1x3 ![0, 0, 0] y slices_S32x8x3_o0_0_0_S32x1x3) shapeCasts_S32x1x3_S32x3⟩,
    ⟨S32x3, shapeCast S32x3 (extractStridedSlice S32x1x3 ![0, 1, 0] y slices_S32x8x3_o0_1_0_S32x1x3) shapeCasts_S32x1x3_S32x3⟩,
    ⟨S32x3, shapeCast S32x3 (extractStridedSlice S32x1x3 ![0, 2, 0] y slices_S32x8x3_o0_2_0_S32x1x3) shapeCasts_S32x1x3_S32x3⟩,
    ⟨S32x3, shapeCast S32x3 (extractStridedSlice S32x1x3 ![0, 3, 0] y slices_S32x8x3_o0_3_0_S32x1x3) shapeCasts_S32x1x3_S32x3⟩,
    ⟨S32x3, shapeCast S32x3 (extractStridedSlice S32x1x3 ![0, 4, 0] y slices_S32x8x3_o0_4_0_S32x1x3) shapeCasts_S32x1x3_S32x3⟩,
    ⟨S32x3, shapeCast S32x3 (extractStridedSlice S32x1x3 ![0, 5, 0] y slices_S32x8x3_o0_5_0_S32x1x3) shapeCasts_S32x1x3_S32x3⟩,
    ⟨S32x3, shapeCast S32x3 (extractStridedSlice S32x1x3 ![0, 6, 0] y slices_S32x8x3_o0_6_0_S32x1x3) shapeCasts_S32x1x3_S32x3⟩,
    ⟨S32x3, shapeCast S32x3 (extractStridedSlice S32x1x3 ![0, 7, 0] y slices_S32x8x3_o0_7_0_S32x1x3) shapeCasts_S32x1x3_S32x3⟩]
    concatenates_S32x3_S32x3_S32x3_S32x3_S32x3_S32x3_S32x3_S32x3_S32x24_d1

/-- The row numbers of the chosen patches. -/
def rowOf (v : IVec S32x8 32) : IVec S32x8 32 :=
  select (andi (k0_pay33 v) (cmpi .ne (k0_pay34 v) (broadcast S32x8 0#32)))
    (subi (k0_pay32 v) (broadcast S32x8 1#32)) (k0_pay32 v)

/-- The remainders by 25. -/
def remOf (v : IVec S32x8 32) : IVec S32x8 32 :=
  remsi v (broadcast S32x8 (Scalar.select (Scalar.cmpi .eq 25#32 0#32) 1#32 25#32))

/-- The column numbers of the chosen patches, from the remainders. -/
def colOf (r : IVec S32x8 32) : IVec S32x8 32 :=
  select (andi (xori (cmpi .slt r (broadcast S32x8 0#32))
      (broadcastTo S32x8 (broadcast S32x8 (Scalar.cmpi .slt (Scalar.select (Scalar.cmpi .eq 25#32 0#32) 1#32 25#32) 0#32)) broadcasts_S32x8_S32x8))
      (cmpi .ne r (broadcast S32x8 0#32)))
    (addi r (broadcast S32x8 (Scalar.select (Scalar.cmpi .eq 25#32 0#32) 1#32 25#32))) r

/-- The features: the rows' positions, the columns' positions and the chosen patches' numbers. -/
def features (r c : IVec S32x8 32) (e : FVec Ideal S32x24 .f32) : FVec Ideal S32x40 .f32 :=
  concatenate S32x40 1 [
    ⟨S32x16, mulf (sitofp .f32 (concatenate S32x16 1 [
        ⟨S32x8, addi (muli r (broadcast S32x8 4#32)) (broadcast S32x8 4#32)⟩,
        ⟨S32x8, addi (muli c (broadcast S32x8 4#32)) (broadcast S32x8 4#32)⟩] concatenates_S32x8_S32x8_S32x16_d1))
      (broadcast S32x16 (Scalar.ofBits .f32 0x3C800000#32 : Ideal .f32))⟩, ⟨S32x24, e⟩] concatenates_S32x16_S32x24_S32x40_d1

/-- The first layer's weighted sums. -/
def sums0 (x : FVec Ideal S32x40 .f32) (w : FVec Ideal S40x20 .f32) (b : FVec Ideal S1x20 .f32) : FVec Ideal S32x20 .f32 :=
  addf (matmul dot_S32x40_S40x20_S32x20_1_0_0_1_n_n none x (shapeCast S40x20 w shapeCasts_S40x20_S40x20) (constant S32x20 .f32 0x00000000#32))
    (broadcastTo S32x20 (shapeCast S1x20 (shapeCast S20 b shapeCasts_S1x20_S20) shapeCasts_S20_S1x20) broadcasts_S1x20_S32x20)

/-- The second layer's weighted sums. -/
def sums1 (x : FVec Ideal S32x20 .f32) (w : FVec Ideal S20x15 .f32) (b : FVec Ideal S1x15 .f32) : FVec Ideal S32x15 .f32 :=
  addf (matmul dot_S32x20_S20x15_S32x15_1_0_0_1_n_n none (logistic x) (shapeCast S20x15 w shapeCasts_S20x15_S20x15) (constant S32x15 .f32 0x00000000#32))
    (broadcastTo S32x15 (shapeCast S1x15 (shapeCast S15 b shapeCasts_S1x15_S15) shapeCasts_S15_S1x15) broadcasts_S1x15_S32x15)

/-- The logits. -/
def sums2 (x : FVec Ideal S32x15 .f32) (w : FVec Ideal S15x15 .f32) (b : FVec Ideal S1x15 .f32) : FVec Ideal S32x15 .f32 :=
  addf (matmul dot_S32x15_S15x15_S32x15_1_0_0_1_n_n none (logistic x) (shapeCast S15x15 w shapeCasts_S15x15_S15x15) (constant S32x15 .f32 0x00000000#32))
    (broadcastTo S32x15 (shapeCast S1x15 (shapeCast S15 b shapeCasts_S1x15_S15) shapeCasts_S15_S1x15) broadcasts_S1x15_S32x15)

/-- A row's greatest logit, as a column. -/
def logitTop (l : FVec Ideal S32x15 .f32) : FVec Ideal S32x1 .f32 :=
  shapeCast S32x1 (multiReduction .maximumf [1] S32 l 0xFF800000#32 reduces_S32x15_S32 (.inl rfl) rfl) shapeCasts_S32_S32x1

/-- The positions at which a row of logits reaches its maximum, 15 elsewhere. -/
def logitHits (l : FVec Ideal S32x15 .f32) (u : FVec Ideal S32x1 .f32) : IVec S32x15 32 :=
  select (cmpf .oge l (broadcastTo S32x15 u broadcasts_S32x1_S32x15)) (iota .tc S32x15 32 [1] iota_S32x15_d1_w32) (broadcast S32x15 15#32)

/-- The actions. -/
def actions (l : FVec Ideal S32x15 .f32) : IVec S32 32 :=
  multiReductionI .minsi [1] S32 (logitHits l (logitTop l)) 2147483647#32 reduces_S32x15_S32 rfl

/-- The controller's sums, in these stages. -/
theorem pay35_eq (v : IVec S32x8 32) (e : FVec Ideal S32x24 .f32) (w : FVec Ideal S40x20 .f32) (b : FVec Ideal S1x20 .f32) :
    k0_pay35 v e (k0_pay32 v) (k0_pay33 v) (k0_pay34 v) 0#32 w b
      = sums0 (features (rowOf v) (colOf (remOf v)) e) w b := rfl

/-- The chosen patches' numbers, in these stages. -/
theorem pay31_eq (h : FVec Ideal S32x225x5 .f32) (i : IVec S32x8x225 1) (w : FVec Ideal S5x3 .f32) (b : FVec Ideal S1x3 .f32) :
    k0_pay31 h i (k0_pay29 (F := Ideal)) (k0_pay30 (F := Ideal)) w b = flat (chosen h i w b) := rfl

/-- The actions, in these stages. -/
theorem pay1_eq (x : FVec Ideal S32x20 .f32) (w1 : FVec Ideal S20x15 .f32) (b1 : FVec Ideal S1x15 .f32) (w2 : FVec Ideal S15x15 .f32)
    (b2 : FVec Ideal S1x15 .f32) :
    k0_pay1 x w1 b1 w2 b2 = shapeCast S1x1x32 (actions (sums2 (sums1 x w1 b1) w2 b2)) shapeCasts_S32_S1x1x32 := rfl

/-- The equality test of two small numbers' words. -/
theorem word_eq_iff (n p : Fin 225) : BitVec.ofNat 32 n.1 = BitVec.ofNat 32 p.1 ↔ n = p := by
  constructor
  · intro h
    have h' := congrArg BitVec.toNat h
    simp only [BitVec.toNat_ofNat] at h'
    exact Fin.ext (by omega)
  · rintro rfl
    rfl

/-- One place. -/
theorem hits_at (v : IVec S32x8 32) (a : Fin 32) (k : Fin 8) (n p : Fin 225) (h : v (ix2 a k) = BitVec.ofNat 32 p.1) :
    hits v (ix3 a k n) = if n = p then 1#1 else 0#1 := by
  unfold hits
  pointwise
  rw [h]
  show BitVec.ofBool (decide (BitVec.ofNat 32 n.1 = BitVec.ofNat 32 p.1)) = _
  by_cases c : n = p
  · rw [if_pos c, decide_eq_true ((word_eq_iff n p).mpr c)]
    rfl
  · rw [if_neg c, decide_eq_false fun e => c ((word_eq_iff n p).mp e)]
    rfl

/-- The sum over all positions with one place chosen is the number at that place. -/
theorem sum_hits (f : Fin 225 → EReal) (i : Fin 225 → BitVec 1) (p : Fin 225) (h : ∀ n, i n = if n = p then 1#1 else 0#1) :
    ∑ n, (Scalar.select (i n) (f n) (0 : EReal) : EReal) = f p := by
  rw [Finset.sum_eq_single p]
  · rw [h, if_pos rfl]
    rfl
  · intro n _ hn
    rw [h, if_neg hn]
    rfl
  · exact fun c => absurd (Finset.mem_univ _) c

/-- A chosen patch's number. -/
theorem chosen_at (h : FVec Ideal S32x225x5 .f32) (i : IVec S32x8x225 1) (w : FVec Ideal S5x3 .f32) (b : FVec Ideal S1x3 .f32)
    (a : Fin 32) (k : Fin 8) (o : Fin 3) (p : Fin 225) (hi : ∀ n, i (ix3 a k n) = if n = p then 1#1 else 0#1) :
    chosen h i w b (ix3 a k o)
      = ((∑ x : Fin 5, (max (h (ix3 a p x)) 0 * w (ix2 x o) : EReal)) + b (ix2 0 o) : EReal) := by
  have e : ∀ x : Fin 5, ∑ n, (Scalar.select (i (ix3 a k n)) (h (ix3 a n x)) (0 : EReal) : EReal) = h (ix3 a p x) := fun x =>
    sum_hits (fun n => h (ix3 a n x)) (fun n => i (ix3 a k n)) p hi
  unfold chosen k0_pay29 k0_pay30
  pointwise
  simp only [e]

/-- A number in an image's row. -/
theorem flat_at (y : FVec Ideal S32x8x3 .f32) (a : Fin 32) (m : Fin 24) :
    flat y (ix2 a m) = y (ix3 a ⟨m.1 / 3, by omega⟩ ⟨m.1 % 3, by omega⟩) := by
  unfold flat
  pointwise
  obtain ⟨m, hm⟩ := m
  interval_cases m <;> simp <;> rfl

/-- The kernel's quotient of a patch number by 25. -/
theorem kquot_word : ∀ n : Fin 225,
    Scalar.select (IntOp.andi
        (IntOp.cmpi CmpIPredicate.ne
          (IntOp.subi (BitVec.setWidth 32 (IntOp.cmpi CmpIPredicate.sgt (BitVec.ofNat 32 n.1) 0#32))
            (BitVec.setWidth 32 (IntOp.cmpi CmpIPredicate.slt (BitVec.ofNat 32 n.1) 0#32)))
          (Scalar.subi (Scalar.extui (Scalar.cmpi CmpIPredicate.sgt 25#32 0#32))
            (Scalar.extui (Scalar.cmpi CmpIPredicate.slt 25#32 0#32))))
        (IntOp.cmpi CmpIPredicate.ne (IntOp.remsi ArithUnit.vector (BitVec.ofNat 32 n.1) 25#32) 0#32))
      (IntOp.subi (IntOp.divsi ArithUnit.vector (BitVec.ofNat 32 n.1) 25#32) 1#32)
      (IntOp.divsi ArithUnit.vector (BitVec.ofNat 32 n.1) 25#32) = BitVec.ofNat 32 (n.1 / 25) := by
  decide +kernel

/-- The kernel's remainder of a patch number by 25. -/
theorem krem_word : ∀ n : Fin 225,
    IntOp.remsi ArithUnit.vector (BitVec.ofNat 32 n.1) (Scalar.select (Scalar.cmpi CmpIPredicate.eq 25#32 0#32) 1#32 25#32)
      = BitVec.ofNat 32 (n.1 % 25) := by
  decide +kernel

/-- A remainder that is not negative is kept. -/
theorem krem_kept : ∀ n : Fin 225,
    Scalar.select (IntOp.andi
        (IntOp.xori (IntOp.cmpi CmpIPredicate.slt (BitVec.ofNat 32 (n.1 % 25)) 0#32)
          (Scalar.cmpi CmpIPredicate.slt (Scalar.select (Scalar.cmpi CmpIPredicate.eq 25#32 0#32) 1#32 25#32) 0#32))
        (IntOp.cmpi CmpIPredicate.ne (BitVec.ofNat 32 (n.1 % 25)) 0#32))
      (IntOp.addi (BitVec.ofNat 32 (n.1 % 25)) (Scalar.select (Scalar.cmpi CmpIPredicate.eq 25#32 0#32) 1#32 25#32))
      (BitVec.ofNat 32 (n.1 % 25)) = BitVec.ofNat 32 (n.1 % 25) := by
  decide +kernel

/-- The row number of a patch. -/
theorem rowOf_at (v : IVec S32x8 32) (a : Fin 32) (k : Fin 8) (n : Fin 225) (h : v (ix2 a k) = BitVec.ofNat 32 n.1) :
    rowOf v (ix2 a k) = BitVec.ofNat 32 (n.1 / 25) := by
  unfold rowOf k0_pay32 k0_pay33 k0_pay34
  pointwise
  simp only [h]
  exact kquot_word n

/-- The remainder of a patch number. -/
theorem remOf_at (v : IVec S32x8 32) (a : Fin 32) (k : Fin 8) (n : Fin 225) (h : v (ix2 a k) = BitVec.ofNat 32 n.1) :
    remOf v (ix2 a k) = BitVec.ofNat 32 (n.1 % 25) := by
  unfold remOf
  pointwise
  simp only [h]
  exact krem_word n

/-- The column number of a patch. -/
theorem colOf_at (r : IVec S32x8 32) (a : Fin 32) (k : Fin 8) (n : Fin 225) (h : r (ix2 a k) = BitVec.ofNat 32 (n.1 % 25)) :
    colOf r (ix2 a k) = BitVec.ofNat 32 (n.1 % 25) := by
  unfold colOf
  pointwise
  simp only [h]
  exact krem_kept n

/-- A feature: a row's position, a column's position or an extracted number. -/
theorem features_at (r c : IVec S32x8 32) (e : FVec Ideal S32x24 .f32) (a : Fin 32) (m : Fin 40) :
    features r c e (ix2 a m) = if h : m.1 < 16 then
      (FloatOps.sitofp (F := Ideal) .f32 (if h' : m.1 < 8 then IntOp.addi (IntOp.muli (r (ix2 a ⟨m.1, h'⟩)) 4#32) 4#32
        else IntOp.addi (IntOp.muli (c (ix2 a ⟨m.1 - 8, by omega⟩)) 4#32) 4#32) * ((1 / 64 : ℝ) : EReal) : EReal)
      else e (ix2 a ⟨m.1 - 16, by omega⟩) := by
  unfold features
  pointwise
  simp only [ofBits_inv_64]

/-- A sum of the first layer. -/
theorem sums0_at (x : FVec Ideal S32x40 .f32) (w : FVec Ideal S40x20 .f32) (b : FVec Ideal S1x20 .f32) (a : Fin 32) (m : Fin 20) :
    sums0 x w b (ix2 a m) = ((∑ k : Fin 40, (x (ix2 a k) * w (ix2 k m) : EReal)) + b (ix2 0 m) : EReal) := by
  unfold sums0
  pointwise

/-- A sum of the second layer. -/
theorem sums1_at (x : FVec Ideal S32x20 .f32) (w : FVec Ideal S20x15 .f32) (b : FVec Ideal S1x15 .f32) (a : Fin 32) (m : Fin 15) :
    sums1 x w b (ix2 a m) = ((∑ k : Fin 20, (Ideal.logistic (x (ix2 a k)) * w (ix2 k m) : EReal)) + b (ix2 0 m) : EReal) := by
  unfold sums1
  pointwise

/-- A logit. -/
theorem sums2_at (x : FVec Ideal S32x15 .f32) (w : FVec Ideal S15x15 .f32) (b : FVec Ideal S1x15 .f32) (a : Fin 32) (m : Fin 15) :
    sums2 x w b (ix2 a m) = ((∑ k : Fin 15, (Ideal.logistic (x (ix2 a k)) * w (ix2 k m) : EReal)) + b (ix2 0 m) : EReal) := by
  unfold sums2
  pointwise

/-- A row's greatest logit. -/
theorem logitTop_at (l : FVec Ideal S32x15 .f32) (a : Fin 32) :
    logitTop l (ix2 a 0) = (top (fun k : Fin 15 => (l (ix2 a k) : EReal)) : EReal) := by
  rw [← max_last2 l 0xFF800000#32 ofBits_bot reduces_S32x15_S32 (.inl rfl) rfl a]
  unfold logitTop
  generalize multiReduction .maximumf [1] S32 l 0xFF800000#32 reduces_S32x15_S32 (.inl rfl) rfl = w
  pointwise

/-- One hit. -/
theorem logitHits_at (l : FVec Ideal S32x15 .f32) (u : FVec Ideal S32x1 .f32) (a : Fin 32) (k : Fin 15) :
    logitHits l u (ix2 a k) = if (u (ix2 a 0) : EReal) ≤ l (ix2 a k) then BitVec.ofNat 32 k.1 else BitVec.ofNat 32 15 := by
  unfold logitHits
  pointwise

/-- The action of an image: the first greatest logit. -/
theorem actions_at (l : FVec Ideal S32x15 .f32) (a : Fin 32) :
    actions l (ix1 a) = BitVec.ofNat 32 (firstMax (by decide) (fun k : Fin 15 => (l (ix2 a k) : EReal))).1 := by
  refine first_last2 (by decide) (by decide) _ _ _ rfl a fun k => ?_
  rw [logitHits_at, logitTop_at]

end Cert.KernelIdeal.Block

end
-- ==== Proof.KerValue.lean ====
/- A block of the kernel as a whole: what its one store writes, in the stages, and each image's action. -/
module

public import proofs.«01_k».proof.Proof.KerConv
public import proofs.«01_k».proof.Proof.KerVotes
public import proofs.«01_k».proof.Proof.KerTail

@[expose] public section

set_option maxRecDepth 16384

noncomputable section

namespace Cert.KernelIdeal.Block

open Idealize.ShloMosaic Cert.KernelIdeal Cert.KernelIdeal.Gen Cert.Agent

/-- The scaled queries among the outputs. -/
def queries (y : FVec Ideal S32x225x11 .f32) : FVec Ideal S32x225x3 .f32 :=
  mulf (extractStridedSlice S32x225x3 ![0, 0, 0] y slices_S32x225x11_o0_0_0_S32x225x3)
    (broadcast S32x225x3 (Named.named κ "inv_sqrt_147" 0x3DA8EA8C#32 : Ideal .f32))

/-- The keys among the outputs. -/
def keyPart (y : FVec Ideal S32x225x11 .f32) : FVec Ideal S32x225x3 .f32 :=
  extractStridedSlice S32x225x3 ![0, 0, 3] y slices_S32x225x11_o0_0_3_S32x225x3

/-- The first extraction layer among the outputs. -/
def extracts (y : FVec Ideal S32x225x11 .f32) : FVec Ideal S32x225x5 .f32 :=
  extractStridedSlice S32x225x5 ![0, 0, 6] y slices_S32x225x11_o0_0_6_S32x225x5

/-- The outputs of a block, from its windows. -/
def projected (x0 : Vec Ideal S32x16x768 .f32) (x1 : Vec Ideal S192x315 .f32) (x2 : Vec Ideal S7x315x165 .f32) (x3 : Vec Ideal S1x165 .f32) :
    FVec Ideal S32x225x11 .f32 :=
  outputs (taps (k0_pay2 (View.ld x0 r0_0)) (View.ld x1 r0_1) (View.ld x2 r0_2) (View.ld x2 r0_3) (View.ld x2 r0_4) (View.ld x2 r0_5)
    (View.ld x2 r0_6) (View.ld x2 r0_7) (View.ld x2 r0_8)) (View.ld x3 r0_9)

/-- The chosen patches of a block, from its outputs. -/
def choices (y : FVec Ideal S32x225x11 .f32) (x4 : Vec Ideal S225x225 .f32) : IVec S32x8 32 :=
  picks (votes (queries y) (keyPart y) (View.ld x4 r0_10))

/-- The logits of a block, from its outputs and its chosen patches. -/
def logits (y : FVec Ideal S32x225x11 .f32) (v : IVec S32x8 32) (x5 : Vec Ideal S5x3 .f32) (x6 : Vec Ideal S1x3 .f32) (x7 : Vec Ideal S40x20 .f32) (x8 : Vec Ideal S1x20 .f32) (x9 : Vec Ideal S20x15 .f32) (x10 : Vec Ideal S1x15 .f32) (x11 : Vec Ideal S15x15 .f32) (x12 : Vec Ideal S1x15 .f32) :
    FVec Ideal S32x15 .f32 :=
  sums2 (sums1 (sums0 (features (rowOf v) (colOf (remOf v)) (flat (chosen (extracts y) (hits v) (View.ld x5 r0_11) (View.ld x6 r0_12))))
    (View.ld x7 r0_13) (View.ld x8 r0_14)) (View.ld x9 r0_15) (View.ld x10 r0_16)) (View.ld x11 r0_17) (View.ld x12 r0_16)

/-- The words of the eight choices. -/
theorem pay57_eq (x0 : Vec Ideal S32x16x768 .f32) (x1 : Vec Ideal S192x315 .f32) (x2 : Vec Ideal S7x315x165 .f32) (x3 : Vec Ideal S1x165 .f32) (x4 : Vec Ideal S225x225 .f32) (x5 : Vec Ideal S5x3 .f32) (x6 : Vec Ideal S1x3 .f32) (x7 : Vec Ideal S40x20 .f32) (x8 : Vec Ideal S1x20 .f32) (x9 : Vec Ideal S20x15 .f32) (x10 : Vec Ideal S1x15 .f32) (x11 : Vec Ideal S15x15 .f32) (x12 : Vec Ideal S1x15 .f32) :
    k0_pay57 x0 x1 x2 x3 x4 x5 x6 x7 x8 x9 x10 x11 x12 = choices (projected x0 x1 x2 x3) x4 := by
  unfold k0_pay57
  rfl

/-- The places of the eight choices. -/
theorem pay28_eq (x0 : Vec Ideal S32x16x768 .f32) (x1 : Vec Ideal S192x315 .f32) (x2 : Vec Ideal S7x315x165 .f32) (x3 : Vec Ideal S1x165 .f32) (x4 : Vec Ideal S225x225 .f32) (x5 : Vec Ideal S5x3 .f32) (x6 : Vec Ideal S1x3 .f32) (x7 : Vec Ideal S40x20 .f32) (x8 : Vec Ideal S1x20 .f32) (x9 : Vec Ideal S20x15 .f32) (x10 : Vec Ideal S1x15 .f32) (x11 : Vec Ideal S15x15 .f32) (x12 : Vec Ideal S1x15 .f32) :
    k0_pay28 (k0_pay46 x0 x1 x2 x3 x4 x5 x6 x7 x8 x9 x10 x11 x12) (k0_pay47 x0 x1 x2 x3 x4 x5 x6 x7 x8 x9 x10 x11 x12) (k0_pay50 x0 x1 x2 x3 x4 x5 x6 x7 x8 x9 x10 x11 x12)
      (k0_pay51 x0 x1 x2 x3 x4 x5 x6 x7 x8 x9 x10 x11 x12) (k0_pay52 x0 x1 x2 x3 x4 x5 x6 x7 x8 x9 x10 x11 x12) (k0_pay53 x0 x1 x2 x3 x4 x5 x6 x7 x8 x9 x10 x11 x12)
      (k0_pay54 x0 x1 x2 x3 x4 x5 x6 x7 x8 x9 x10 x11 x12) (k0_pay55 x0 x1 x2 x3 x4 x5 x6 x7 x8 x9 x10 x11 x12) (k0_pay56 x0 x1 x2 x3 x4 x5 x6 x7 x8 x9 x10 x11 x12)
      = hits (k0_pay57 x0 x1 x2 x3 x4 x5 x6 x7 x8 x9 x10 x11 x12) := rfl

/-- What a block's store leaves in its window. -/
theorem out_eq (x0 : Vec Ideal S32x16x768 .f32) (x1 : Vec Ideal S192x315 .f32) (x2 : Vec Ideal S7x315x165 .f32) (x3 : Vec Ideal S1x165 .f32) (x4 : Vec Ideal S225x225 .f32) (x5 : Vec Ideal S5x3 .f32) (x6 : Vec Ideal S1x3 .f32) (x7 : Vec Ideal S40x20 .f32) (x8 : Vec Ideal S1x20 .f32) (x9 : Vec Ideal S20x15 .f32) (x10 : Vec Ideal S1x15 .f32) (x11 : Vec Ideal S15x15 .f32) (x12 : Vec Ideal S1x15 .f32) :
    out0_13 x0 x1 x2 x3 x4 x5 x6 x7 x8 x9 x10 x11 x12 = View.canon [⟨r0_18, shapeCast S1x1x32 (actions (logits (projected x0 x1 x2 x3)
      (choices (projected x0 x1 x2 x3) x4) x5 x6 x7 x8 x9 x10 x11 x12)) shapeCasts_S32_S1x1x32⟩] := by
  unfold out0_13
  rw [pay28_eq, pay35_eq, pay57_eq, pay31_eq, pay1_eq]
  rfl

/-- A query. -/
theorem queries_at (y : FVec Ideal S32x225x11 .f32) (b : Fin 32) (n : Fin 225) (a : Fin 3) :
    queries y (ix3 b n a) = (y (ix3 b n ⟨a.1, by omega⟩) * ((Real.sqrt 147)⁻¹ : ℝ) : EReal) := by
  unfold queries
  pointwise
  rw [← named_root]

/-- A key. -/
theorem keyPart_at (y : FVec Ideal S32x225x11 .f32) (b : Fin 32) (n : Fin 225) (a : Fin 3) :
    keyPart y (ix3 b n a) = y (ix3 b n ⟨3 + a.1, by omega⟩) := by
  unfold keyPart
  pointwise

/-- A number of the first extraction layer. -/
theorem extracts_at (y : FVec Ideal S32x225x11 .f32) (b : Fin 32) (n : Fin 225) (a : Fin 5) :
    extracts y (ix3 b n a) = y (ix3 b n ⟨6 + a.1, by omega⟩) := by
  unfold extracts
  pointwise

/-- An output, given what the windows hold: the scaled pixels against the weights, plus the bias. -/
theorem projected_at (x0 : Vec Ideal S32x16x768 .f32) (x1 : Vec Ideal S192x315 .f32) (x2 : Vec Ideal S7x315x165 .f32) (x3 : Vec Ideal S1x165 .f32)
    (v : Fin 11 → Fin 147 → EReal) (c : Fin 11 → EReal)
    (hs : ∀ d k h y, (x1 (ix2 y (spot d k h)) : EReal) = if y = place k d h then 1 else 0)
    (hw : ∀ y d k h (o : Fin 11) (c : Fin 15), (x2 (ix3 y (spot d k h) ⟨o.1 * 15 + c.1, by omega⟩) : EReal) = if k = c then v o (pixel h y d) else 0)
    (hb : ∀ (o : Fin 11) (k : Fin 15), (x3 (ix2 0 ⟨o.1 * 15 + k.1, by omega⟩) : EReal) = c o)
    (a : Fin 32) (n : Fin 225) (o : Fin 11) :
    projected x0 x1 x2 x3 (ix3 a n o)
      = ((∑ t : Fin 147, (x0 (ix3 a ⟨t.1 / 7 % 7 / 4 + n.1 / 15, by omega⟩ ⟨t.1 / 7 % 7 % 4 * 192 + ((4 * (n.1 % 15) + t.1 % 7) * 3 + t.1 / 49), by omega⟩) *
        ((1 / 255 : ℝ) : EReal) * v o t : EReal)) + c o : EReal) := by
  have e := taps_at (k0_pay2 (View.ld x0 r0_0)) (View.ld x1 r0_1)
    (fun y => match y with
      | 0 => View.ld x2 r0_2 | 1 => View.ld x2 r0_3 | 2 => View.ld x2 r0_4 | 3 => View.ld x2 r0_5
      | 4 => View.ld x2 r0_6 | 5 => View.ld x2 r0_7 | 6 => View.ld x2 r0_8)
    (View.ld x3 r0_9) v c (fun d k h y => (by pointwise : View.ld x1 r0_1 (ix2 y (spot d k h)) = x1 (ix2 y (spot d k h))).trans (hs d k h y))
    (fun y d k h o c => by
      refine Eq.trans ?_ (hw y d k h o c)
      fin_cases y <;> pointwise)
    (fun o k => (by pointwise : View.ld x3 r0_9 (ix2 0 ⟨o.1 * 15 + k.1, by omega⟩) = x3 (ix2 0 ⟨o.1 * 15 + k.1, by omega⟩)).trans (hb o k)) a n o
  refine e.trans ?_
  congr 1
  refine Finset.sum_congr rfl fun t _ => ?_
  congr 1
  unfold pix k0_pay2 place
  pointwise
  rw [← named_255]

end Cert.KernelIdeal.Block

end
-- ==== Proof.RefAt.lean ====
/- The reference's stages read at one index: the patches, the projections, the scores, the votes and the chosen
   patch numbers. -/
module

public import proofs.«01_k».proof.Proof.RefStages
public import proofs.«01_k».proof.Proof.Attention
public import proofs.«01_k».proof.Proof.TopRounds
public import proofs.«01_k».proof.Proof.Consts
public import Idealize.ShloMosaic.Lib.Pointwise
public import Idealize.ShloMosaic.Lib.SortFacts

@[expose] public section

set_option maxRecDepth 16384

noncomputable section

namespace Cert.ReferenceIdeal.Stage

open Idealize.ShloMosaic Idealize.ShloMosaic.StableHlo Cert.ReferenceIdeal Cert.ReferenceIdeal.Gen Cert.Agent

/-- The scaled observation at one index. -/
theorem refScaled_at (x : Arr S1024x64x64x3 .f32) (j : S1024x64x64x3.Idx) :
    refScaled x j = ((x j : EReal) * ((1 / 255 : ℝ) : EReal) : EReal) := by
  unfold refScaled
  pointwise
  exact div_255 _

/-- The row stack at one index. -/
theorem refRows_at (x : Arr S1024x64x64x3 .f32) (b : Fin 1024) (r : Fin 15) (dy : Fin 7) (c : Fin 64) (h : Fin 3) :
    refRows x (ix5 b r dy c h) = x (ix4 b ⟨4 * r.1 + dy.1, by omega⟩ c h) := by
  unfold refRows
  pointwise
  fin_cases dy <;> simp [add_comm]

/-- The tap stack at one index. -/
theorem refTaps_at (x : Arr S1024x15x7x64x3 .f32) (b : Fin 1024) (r : Fin 15) (dy : Fin 7) (c : Fin 15) (dx : Fin 7)
    (h : Fin 3) :
    refTaps x (ix6 b r dy c dx h) = x (ix5 b r dy ⟨4 * c.1 + dx.1, by omega⟩ h) := by
  unfold refTaps
  pointwise
  fin_cases dx <;> simp [add_comm]

/-- A patch's number `t`: the channel outermost, then the row, then the column. -/
theorem refPatches_at (x : Arr S1024x15x7x15x7x3 .f32) (b : Fin 1024) (p : Fin 225) (t : Fin 147) :
    refPatches x (ix3 b p t) = x (ix6 b ⟨p.1 / 15, by omega⟩ ⟨t.1 / 7 % 7, by omega⟩ ⟨p.1 % 15, by omega⟩
      ⟨t.1 % 7, by omega⟩ ⟨t.1 / 49, by omega⟩) := by
  unfold refPatches
  pointwise

/-- A projection at one index: the product of the patch with the weights, and the bias. -/
theorem refProj_at (p : Arr S1024x225x147 .f32) (w : Arr S3x147 .f32) (c : Arr S3 .f32) (b : Fin 1024) (i : Fin 225)
    (o : Fin 3) :
    refProj p w c (ix3 b i o) = ((∑ t : Fin 147, (p (ix3 b i t) * w (ix2 o t) : EReal)) + c (ix1 o) : EReal) := by
  unfold refProj
  pointwise

/-- A score at one index; the keys are reread as three rows of 225. -/
theorem refScores_at (q k : Arr S1024x225x3 .f32) (b : Fin 1024) (i n : Fin 225) :
    refScores q k (ix3 b i n) = ((∑ a : Fin 3, (q (ix3 b i a)
      * k (ix3 b ⟨a.1 * 75 + n.1 / 3, by omega⟩ ⟨n.1 % 3, by omega⟩) : EReal)) * ((Real.sqrt 147)⁻¹ : ℝ) : EReal) := by
  unfold refScores
  pointwise
  exact div_root _

/-- A row's maximum over the last of three axes. -/
theorem hostMax_last3 {n0 n1 n2 : ℕ} (x : FVec Ideal ⟨3, ![n0, n1, n2]⟩ .f32) (c : FVec Ideal S_ .f32)
    (hc : ∀ j, c j = (⊥ : EReal)) (h : (⟨3, ![n0, n1, n2]⟩ : Shape).ReducesTo [2] ⟨2, ![n0, n1]⟩) (b : Fin n0)
    (i : Fin n1) :
    Host.reduce (FloatOps.maximumf (F := Ideal) (φ := .f32)) x c h h_S_ (ix2 b i)
      = (top (fun k : Fin n2 => (x (ix3 b i k) : EReal)) : EReal) := by
  simp only [pointwise]
  rw [hc]
  rfl

/-- A row's maximum over the last of two axes. -/
theorem hostMax_last2 {n0 n1 : ℕ} (x : FVec Ideal ⟨2, ![n0, n1]⟩ .f32) (c : FVec Ideal S_ .f32)
    (hc : ∀ j, c j = (⊥ : EReal)) (h : (⟨2, ![n0, n1]⟩ : Shape).ReducesTo [1] ⟨1, ![n0]⟩) (b : Fin n0) :
    Host.reduce (FloatOps.maximumf (F := Ideal) (φ := .f32)) x c h h_S_ (ix1 b)
      = (top (fun k : Fin n1 => (x (ix2 b k) : EReal)) : EReal) := by
  simp only [pointwise]
  rw [hc]
  rfl

/-- A row's greatest score. -/
theorem refRowTop_at (s : Arr S1024x225x225 .f32) (b : Fin 1024) (i : Fin 225) :
    refRowTop s (ix2 b i) = (top (fun k => (s (ix3 b i k) : EReal)) : EReal) :=
  hostMax_last3 s _ (fun _ => ofBits_bot) _ b i

/-- The floor at −∞ changes nothing. -/
theorem refFloor_at (m : Arr S1024x225 .f32) (j : S1024x225.Idx) : refFloor m j = m j := by
  unfold refFloor
  pointwise
  rw [ofBits_bot]
  exact max_eq_right bot_le

/-- A shifted exponential at one index. -/
theorem refShifted_at (s : Arr S1024x225x225 .f32) (m : Arr S1024x225 .f32) (b : Fin 1024) (i n : Fin 225) :
    refShifted s m (ix3 b i n) = (Ideal.exp (s (ix3 b i n) - m (ix2 b i)) : EReal) := by
  unfold refShifted
  pointwise

/-- An exponential at one index. -/
theorem refExps_at (s : Arr S1024x225x225 .f32) (b : Fin 1024) (i n : Fin 225) :
    refExps s (ix3 b i n) = (Ideal.exp (s (ix3 b i n) - top (fun k => (s (ix3 b i k) : EReal))) : EReal) := by
  unfold refExps
  rw [refShifted_at, refFloor_at, refRowTop_at]

/-- The votes at one index. -/
theorem refVotes_at' (s : Arr S1024x225x225 .f32) (b : Fin 1024) (n : Fin 225) :
    refVotes s (ix2 b n) = (∑ i : Fin 225, Ideal.div (s (ix3 b i n)) (∑ k : Fin 225, (s (ix3 b i k) : EReal)) : EReal) := by
  unfold refVotes
  pointwise

/-- The votes at one index: the softmax rows added. -/
theorem refVotes_at (s : Arr S1024x225x225 .f32) (b : Fin 1024) (n : Fin 225) :
    refVotes (refExps s) (ix2 b n) = (∑ i : Fin 225, soft (fun k => (s (ix3 b i k) : EReal)) n : EReal) := by
  rw [refVotes_at']
  simp only [refExps_at, soft]

/-- The comparison of the sort, as a truth value. -/
theorem cmp_gt (x y : EReal) :
    (FloatOps.cmpfTotal (F := Ideal) (φ := .f32) .gt x y == 1#1) = decide (y < x) := by
  by_cases h : y < x
  · have : FloatOps.cmpfTotal (F := Ideal) (φ := .f32) .gt x y = 1#1 := by
      show BitVec.ofBool (decide (y < x)) = _
      simp [h]
    simp [this, h]
  · have : FloatOps.cmpfTotal (F := Ideal) (φ := .f32) .gt x y = 0#1 := by
      show BitVec.ofBool (decide (y < x)) = _
      simp [h]
    simp [this, h]

/-- The second result of the sort of a row of votes with the column numbers. -/
theorem sort_at (v : Arr S1024x225 .f32) (b : Fin 1024) (j : Fin 225) :
    (Host.sort2 S1024x225 1 (fun l r => FloatOps.cmpfTotal (F := Ideal) (φ := .f32) .gt l.1 r.1) v
      (iotaInDim S1024x225 32 1)).2 (ix2 b j) = BitVec.ofNat 32 (sorted (fun n => (v (ix2 b n) : EReal)) j).1 := by
  have ha : ∀ k : Fin 225, (ix2 b j : S1024x225.Idx).along 1 k = ix2 b k := by
    intro k; funext a; fin_cases a <;> rfl
  have hb : (fun k k' : Fin 225 => FloatOps.cmpfTotal (F := Ideal) (φ := .f32) .gt
      (v ((ix2 b j : S1024x225.Idx).along 1 k)) (v ((ix2 b j : S1024x225.Idx).along 1 k')) == 1#1)
      = fun k k' => decide ((v (ix2 b k') : EReal) < v (ix2 b k)) := by
    funext k k'
    rw [ha, ha]
    exact cmp_gt _ _
  unfold Host.sort2
  rw [dif_pos (by decide)]
  show iotaInDim S1024x225 32 1 ((ix2 b j : S1024x225.Idx).along 1 (sortedFrom (fun k k' : Fin 225 =>
    FloatOps.cmpfTotal (F := Ideal) (φ := .f32) .gt
      (v ((ix2 b j : S1024x225.Idx).along 1 k)) (v ((ix2 b j : S1024x225.Idx).along 1 k')) == 1#1) j)) = _
  rw [hb]
  exact (congrArg (iotaInDim S1024x225 32 1) (ha _)).trans rfl

/-- The `k`-th chosen patch: the `k`-th in the order of falling votes. -/
theorem refIdx_at (v : Arr S1024x225 .f32) (b : Fin 1024) (k : Fin 8) :
    refIdx v (ix2 b k) = BitVec.ofNat 32 (sorted (fun n => (v (ix2 b n) : EReal)) ⟨k.1, by omega⟩).1 := by
  rw [← sort_at]
  unfold refIdx Host.topK
  generalize hs : Host.sort2 S1024x225 1 (fun l r => FloatOps.cmpfTotal (F := Ideal) (φ := .f32) .gt l.1 r.1) v
      (iotaInDim S1024x225 32 1) = p
  show extractStridedSlice S1024x8 (fun _ => 0) (Host.sort2 S1024x225 1 (fun l r => FloatOps.cmpfTotal (F := Ideal) (φ := .f32) .gt l.1 r.1) v
      (iotaInDim S1024x225 32 1)).2 sliceFits_S1024x225_S1024x8 _ = _
  rw [hs]
  pointwise

end Cert.ReferenceIdeal.Stage

end
-- ==== Proof.ArgMax.lean ====
/- The reference's choice of the greatest entry: a fold over (value, position) pairs that keeps the greater value and,
   of equal values, the lesser position. -/
module

public import proofs.«01_k».proof.Proof.RefStages
public import proofs.«01_k».proof.Proof.TopRounds
public import Idealize.ShloMosaic.Lib.Pointwise
public import Idealize.ShloMosaic.PureOps.Ideal.Laws

@[expose] public section

set_option maxRecDepth 16384

noncomputable section

namespace Cert.Agent

open Idealize.ShloMosaic Cert.ReferenceIdeal Cert.ReferenceIdeal.Gen

open scoped Classical in
/-- One step of the fold keeps the first pair if its value is greater, or the values are equal and its position is
    less. -/
theorem reducer_eq (a b : EReal × BitVec 32) :
    reducer_argmax_f32_i32 (F := Ideal) a b = if b.1 < a.1 ∨ (a.1 = b.1 ∧ a.2.slt b.2 = true) then a else b := by
  obtain ⟨x, i⟩ := a
  obtain ⟨y, j⟩ := b
  have h1 : FloatOps.cmpf (F := Ideal) (φ := .f32) .ogt x y = BitVec.ofBool (decide (y < x)) := rfl
  have h2 : FloatOps.cmpf (F := Ideal) (φ := .f32) .une x x = BitVec.ofBool (decide (x ≠ x)) := rfl
  have h3 : FloatOps.cmpf (F := Ideal) (φ := .f32) .oeq x y = BitVec.ofBool (decide (x = y)) := rfl
  have h4 : IntOp.cmpi .slt i j = BitVec.ofBool (i.slt j) := rfl
  unfold reducer_argmax_f32_i32
  simp only [h1, h2, h3, h4]
  by_cases hxy : y < x
  · have hne : x ≠ y := hxy.ne'
    simp [hxy, hne, IntOp.ori, IntOp.andi, Scalar.select]
  · by_cases he : x = y
    · subst he
      cases hs : i.slt j <;> simp [hs, IntOp.ori, IntOp.andi, Scalar.select]
    · simp [hxy, he, IntOp.ori, IntOp.andi, Scalar.select]

/-- `p` is as good as `q`: a greater value, or the same value at no later a position. -/
def Good (p q : EReal × BitVec 32) : Prop := q.1 < p.1 ∨ (p.1 = q.1 ∧ p.2.toInt ≤ q.2.toInt)

/-- A pair is as good as itself. -/
theorem Good.refl (p : EReal × BitVec 32) : Good p p := Or.inr ⟨rfl, le_rfl⟩

/-- As good as, chained. -/
theorem Good.trans {p q r : EReal × BitVec 32} (h : Good p q) (h' : Good q r) : Good p r := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- One step gives one of its two pairs, and one as good as both. -/
theorem reducer_good (a b : EReal × BitVec 32) :
    (reducer_argmax_f32_i32 (F := Ideal) a b = a ∨ reducer_argmax_f32_i32 (F := Ideal) a b = b)
      ∧ Good (reducer_argmax_f32_i32 (F := Ideal) a b) a ∧ Good (reducer_argmax_f32_i32 (F := Ideal) a b) b := by
  rw [reducer_eq]
  split_ifs with h
  · refine ⟨Or.inl rfl, Good.refl a, ?_⟩
    rcases h with h | ⟨h, k⟩
    · exact Or.inl h
    · exact Or.inr ⟨h, (BitVec.slt_iff_toInt_lt.mp k).le⟩
  · refine ⟨Or.inr rfl, ?_, Good.refl b⟩
    rw [not_or, not_lt] at h
    rcases h.1.lt_or_eq with k | k
    · exact Or.inl k
    · refine Or.inr ⟨k.symm, ?_⟩
      by_contra hc
      exact h.2 ⟨k, BitVec.slt_iff_toInt_lt.mpr (not_le.mp hc)⟩

/-- The fold over a list gives one of the pairs, and one as good as each. -/
theorem foldl_good (l : List (EReal × BitVec 32)) (p : EReal × BitVec 32) :
    (l.foldl (reducer_argmax_f32_i32 (F := Ideal)) p ∈ p :: l)
      ∧ ∀ q ∈ p :: l, Good (l.foldl (reducer_argmax_f32_i32 (F := Ideal)) p) q := by
  induction l generalizing p with
  | nil => simpa using Good.refl p
  | cons a l ih =>
    obtain ⟨hm, hg⟩ := ih (reducer_argmax_f32_i32 (F := Ideal) p a)
    obtain ⟨hs, hp, ha⟩ := reducer_good p a
    rw [List.foldl_cons]
    have h0 := hg _ List.mem_cons_self
    refine ⟨?_, fun q hq => ?_⟩
    · rcases List.mem_cons.mp hm with h | h
      · rw [h]
        rcases hs with h | h <;> rw [h] <;> simp
      · simp [h]
    · rcases List.mem_cons.mp hq with h | h
      · exact h ▸ h0.trans hp
      · rcases List.mem_cons.mp h with h | h
        · exact h ▸ h0.trans ha
        · exact hg q (List.mem_cons_of_mem _ h)

/-- The pairs of row `b`. -/
theorem mem_fiber {n0 n1 : ℕ} (x : FVec Ideal ⟨2, ![n0, n1]⟩ .f32) (y : IVec ⟨2, ![n0, n1]⟩ 32)
    (h : (⟨2, ![n0, n1]⟩ : Shape).ReducesTo [1] ⟨1, ![n0]⟩) (b : Fin n0) (p : EReal × BitVec 32) :
    p ∈ Host.argReduceFiber x y h (ix1 b) ↔ ∃ k : Fin n1, p = (x (ix2 b k), y (ix2 b k)) := by
  unfold Host.argReduceFiber
  rw [List.mem_map]
  constructor
  · rintro ⟨n, hn, rfl⟩
    obtain ⟨k, hk⟩ := (h.fiber_r2_a1 _ _).mp (of_decide_eq_true (List.mem_filter.mp hn).2)
    exact ⟨k, by rw [← hk]; rfl⟩
  · rintro ⟨k, rfl⟩
    refine ⟨(⟨2, ![n0, n1]⟩ : Shape).rowMajor (ix2 b k), ?_, by simp⟩
    rw [List.mem_filter]
    refine ⟨List.mem_finRange _, decide_eq_true ?_⟩
    rw [Equiv.symm_apply_apply]
    exact (h.fiber_r2_a1 _ _).mpr ⟨k, rfl⟩

/-- The position that the reference's greatest-entry search gives for a row is the first greatest one. -/
theorem argReduce_at {n0 n1 : ℕ} (hn : 0 < n1) (hb : n1 < 2 ^ 31) (x : FVec Ideal ⟨2, ![n0, n1]⟩ .f32)
    (y : IVec ⟨2, ![n0, n1]⟩ 32) (u : FVec Ideal S_ .f32) (v : IVec S_ 32)
    (h : (⟨2, ![n0, n1]⟩ : Shape).ReducesTo [1] ⟨1, ![n0]⟩) (b : Fin n0)
    (hy : ∀ k : Fin n1, y (ix2 b k) = BitVec.ofNat 32 k.1) (hu : ∀ j, u j = (⊥ : EReal))
    (hx : ∀ k : Fin n1, (⊥ : EReal) < x (ix2 b k)) :
    (Host.argReduce (reducer_argmax_f32_i32 (F := Ideal)) x y u v h h_S_ (ix1 b)).2
      = BitVec.ofNat 32 (firstMax hn (fun k => (x (ix2 b k) : EReal))).1 := by
  have hint : ∀ k : Fin n1, (BitVec.ofNat 32 k.1).toInt = k.1 := by
    intro k
    have := k.2
    rw [BitVec.toInt_ofNat', Int.bmod_eq_of_le] <;> omega
  rw [Ideal.argReduce_eq_reduce2, Host.reduce2_eq_foldl_fiber]
  obtain ⟨hm, hg⟩ := foldl_good (Host.argReduceFiber x y h (ix1 b)) (u (Shape.Idx.first h_S_), v (Shape.Idx.first h_S_))
  generalize hr : (Host.argReduceFiber x y h (ix1 b)).foldl (reducer_argmax_f32_i32 (F := Ideal))
    (u (Shape.Idx.first h_S_), v (Shape.Idx.first h_S_)) = r at hm hg ⊢
  have hk : ∀ k : Fin n1, Good r (x (ix2 b k), y (ix2 b k)) := fun k =>
    hg _ (List.mem_cons_of_mem _ ((mem_fiber x y h b _).mpr ⟨k, rfl⟩))
  have hmem : ∃ k : Fin n1, r = (x (ix2 b k), y (ix2 b k)) := by
    rcases List.mem_cons.mp hm with e | e
    · exfalso
      have h0 := hk ⟨0, hn⟩
      have hx0 := hx ⟨0, hn⟩
      rw [e] at h0
      rcases h0 with h0 | ⟨h0, _⟩
      · simp only [hu] at h0
        exact absurd h0 (not_lt.mpr hx0.le)
      · simp only [hu] at h0
        exact absurd h0 hx0.ne
    · exact (mem_fiber x y h b r).mp e
  obtain ⟨k, rfl⟩ := hmem
  rw [firstMax_eq hn (i := k) ?_]
  · exact hy k
  · refine ⟨fun j => ?_, fun j hj => ?_⟩
    · rcases hk j with e | ⟨e, _⟩
      · exact e.le
      · exact e.ge
    · rcases hk j with e | ⟨_, e⟩
      · exact e
      · exfalso
        have e' : (y (ix2 b k)).toInt ≤ (y (ix2 b j)).toInt := e
        rw [hy, hy, hint, hint] at e'
        have : j.1 < k.1 := hj
        omega

end Cert.Agent

end
-- ==== Proof.RefAt2.lean ====
/- The reference's stages read at one index: the chosen patches, the controller and the action. -/
module

public import proofs.«01_k».proof.Proof.RefAt
public import proofs.«01_k».proof.Proof.ArgMax

@[expose] public section

set_option maxRecDepth 16384

noncomputable section

namespace Cert.ReferenceIdeal.Stage

open Idealize.ShloMosaic Idealize.ShloMosaic.StableHlo Cert.ReferenceIdeal Cert.ReferenceIdeal.Gen Cert.Agent

/-- The host's quotient of a patch number by 25, rounded down. -/
theorem quot_word : ∀ n : Fin 225,
    Scalar.select (IntOp.andi
        (IntOp.cmpi CmpIPredicate.ne
          (if BitVec.ofNat 32 n.1 = 0 then (0 : BitVec 32) else if (BitVec.ofNat 32 n.1).msb = true then -1 else 1)
          (if 25#32 = 0 then (0 : BitVec 32) else if (25#32).msb = true then -1 else 1))
        (IntOp.cmpi CmpIPredicate.ne (IntOp.remsi ArithUnit.host (BitVec.ofNat 32 n.1) 25#32) 0#32))
      (IntOp.subi (IntOp.divsi ArithUnit.host (BitVec.ofNat 32 n.1) 25#32) 1#32)
      (IntOp.divsi ArithUnit.host (BitVec.ofNat 32 n.1) 25#32) = BitVec.ofNat 32 (n.1 / 25) := by
  decide +kernel

/-- The host's remainder of a patch number by 25. -/
theorem rem_word : ∀ n : Fin 225,
    IntOp.remsi ArithUnit.host (BitVec.ofNat 32 n.1) (Scalar.select (IntOp.cmpi CmpIPredicate.eq 25#32 0#32) 1#32 25#32)
      = BitVec.ofNat 32 (n.1 % 25) := by
  decide +kernel

/-- A remainder that is not negative is kept. -/
theorem rem_kept : ∀ n : Fin 225,
    Scalar.select (IntOp.andi
        (IntOp.cmpi CmpIPredicate.ne (IntOp.cmpi CmpIPredicate.slt (BitVec.ofNat 32 (n.1 % 25)) 0#32)
          (IntOp.cmpi CmpIPredicate.slt (Scalar.select (IntOp.cmpi CmpIPredicate.eq 25#32 0#32) 1#32 25#32) 0#32))
        (IntOp.cmpi CmpIPredicate.ne (BitVec.ofNat 32 (n.1 % 25)) 0#32))
      (IntOp.addi (BitVec.ofNat 32 (n.1 % 25)) (Scalar.select (IntOp.cmpi CmpIPredicate.eq 25#32 0#32) 1#32 25#32))
      (BitVec.ofNat 32 (n.1 % 25)) = BitVec.ofNat 32 (n.1 % 25) := by
  decide +kernel

/-- The row number of a patch. -/
theorem refRow_at (i : Arr S1024x8 .i32) (b : Fin 1024) (k : Fin 8) (n : Fin 225) (h : i (ix2 b k) = BitVec.ofNat 32 n.1) :
    refRow i (ix2 b k) = BitVec.ofNat 32 (n.1 / 25) := by
  unfold refRow
  pointwise
  simp only [h]
  exact quot_word n

/-- The remainder of a patch number. -/
theorem refRem_at (i : Arr S1024x8 .i32) (b : Fin 1024) (k : Fin 8) (n : Fin 225) (h : i (ix2 b k) = BitVec.ofNat 32 n.1) :
    refRem i (ix2 b k) = BitVec.ofNat 32 (n.1 % 25) := by
  unfold refRem
  pointwise
  simp only [h]
  exact rem_word n

/-- The column number of a patch. -/
theorem refCol_at (i : Arr S1024x8 .i32) (b : Fin 1024) (k : Fin 8) (n : Fin 225) (h : i (ix2 b k) = BitVec.ofNat 32 n.1) :
    refCol (refRem i) (ix2 b k) = BitVec.ofNat 32 (n.1 % 25) := by
  have hr := refRem_at i b k n h
  unfold refCol
  pointwise
  simp only [hr]
  exact rem_kept n

/-- A number below 2³¹ is not a negative word, so adding an axis length to negative positions keeps it. -/
theorem wrap_word (n : ℕ) (hn : n < 2 ^ 31) (m : BitVec 32) :
    Scalar.select (IntOp.cmpi CmpIPredicate.slt (BitVec.ofNat 32 n) 0#32) (IntOp.addi (BitVec.ofNat 32 n) m)
      (BitVec.ofNat 32 n) = BitVec.ofNat 32 n := by
  have h : IntOp.cmpi CmpIPredicate.slt (BitVec.ofNat 32 n) 0#32 = BitVec.ofBool ((BitVec.ofNat 32 n).slt 0#32) := rfl
  have hs : (BitVec.ofNat 32 n).slt 0#32 = false := by
    rw [BitVec.slt_zero_eq_msb, BitVec.msb_eq_decide]
    simp only [decide_eq_false_iff_not, BitVec.toNat_ofNat]
    omega
  rw [h, hs]
  rfl

/-- The image number of a pair. -/
theorem refPairs_image (i : Arr S1024x8 .i32) (r : Fin 8192) :
    refPairs i (ix2 r 0) = BitVec.ofNat 32 (r.1 / 8) := by
  unfold refPairs
  pointwise
  exact wrap_word _ (by omega) _

/-- The patch number of a pair. -/
theorem refPairs_patch (i : Arr S1024x8 .i32) (b : Fin 1024) (k : Fin 8) (n : Fin 225)
    (h : i (ix2 b k) = BitVec.ofNat 32 n.1) :
    refPairs i (ix2 ⟨b.1 * 8 + k.1, by omega⟩ 1) = BitVec.ofNat 32 n.1 := by
  unfold refPairs
  pointwise
  rw [h]
  exact wrap_word _ (by omega) _

/-- The gather of the chosen patches. -/
abbrev pairDims := gather_S1024x225x147_S8192x2_S8192x147_1_01_n_n_01_1_11147

/-- The place of a start index's first part. -/
theorem pairDims_image (r : Fin 8192) (t : Fin 147) : pairDims.siIdx (ix2 r t) ⟨0, by decide⟩ = ix2 r 0 := by
  funext b
  refine Fin.ext ?_
  match b with
  | ⟨0, _⟩ => rfl
  | ⟨1, _⟩ => rfl

/-- The place of a start index's second part. -/
theorem pairDims_patch (r : Fin 8192) (t : Fin 147) : pairDims.siIdx (ix2 r t) ⟨1, by decide⟩ = ix2 r 1 := by
  funext b
  refine Fin.ext ?_
  match b with
  | ⟨0, _⟩ => rfl
  | ⟨1, _⟩ => rfl

/-- The number of a small word. -/
theorem clamp_word (n N : ℕ) (h : n < N) (hN : N ≤ 2 ^ 31) : min (BitVec.ofNat 32 n).toInt.toNat (N - 1) = n := by
  have : (BitVec.ofNat 32 n).toInt = n := by rw [BitVec.toInt_ofNat', Int.bmod_eq_of_le] <;> omega
  rw [this]
  omega

/-- The gather reads the patch that a pair names. -/
theorem gather_pair (p : Arr S1024x225x147 .f32) (i : Arr S8192x2 .i32) (r : Fin 8192) (b : Fin 1024) (n : Fin 225)
    (t : Fin 147) (hb : i (ix2 r 0) = BitVec.ofNat 32 b.1) (hn : i (ix2 r 1) = BitVec.ofNat 32 n.1) :
    Host.gather pairDims p i (ix2 r t) = p (ix3 b n t) := by
  unfold Host.gather
  refine congrArg p (funext fun a => Fin.ext ?_)
  show pairDims.start (ix2 r t) i a + pairDims.batchCoord (ix2 r t) a + pairDims.offCoord (ix2 r t) a = _
  rw [GatherDims.batchCoord_eq_zero _ _ _ List.not_mem_nil]
  match a with
  | ⟨0, _⟩ =>
    show pairDims.start (ix2 r t) i (0 : Fin 3) + 0 + pairDims.offCoord (ix2 r t) (0 : Fin 3) = b.1
    rw [GatherDims.offCoord_eq_zero _ _ _ (show (0 : Fin 3) ∉ pairDims.sKept by decide)]
    unfold GatherDims.start
    rw [dif_pos (show (0 : Fin 3) ∈ pairDims.startIndexMap by decide)]
    have e := pairDims_image r t
    show min (i (pairDims.siIdx (ix2 r t) ⟨0, _⟩)).toInt.toNat (1024 - 1) = b.1
    rw [e, hb]
    exact clamp_word _ _ b.2 (by decide)
  | ⟨1, _⟩ =>
    show pairDims.start (ix2 r t) i (1 : Fin 3) + 0 + pairDims.offCoord (ix2 r t) (1 : Fin 3) = n.1
    rw [GatherDims.offCoord_eq_zero _ _ _ (show (1 : Fin 3) ∉ pairDims.sKept by decide)]
    unfold GatherDims.start
    rw [dif_pos (show (1 : Fin 3) ∈ pairDims.startIndexMap by decide)]
    have e := pairDims_patch r t
    show min (i (pairDims.siIdx (ix2 r t) ⟨1, _⟩)).toInt.toNat (225 - 1) = n.1
    rw [e, hn]
    exact clamp_word _ _ n.2 (by decide)
  | ⟨2, _⟩ =>
    show pairDims.start (ix2 r t) i (2 : Fin 3) + 0 + pairDims.offCoord (ix2 r t) (2 : Fin 3) = t.1
    unfold GatherDims.start
    rw [dif_neg (show (2 : Fin 3) ∉ pairDims.startIndexMap by decide)]
    show 0 + 0 + t.1 = t.1
    omega

/-- A number of a chosen patch. -/
theorem refChosen_at (p : Arr S1024x225x147 .f32) (i : Arr S8192x2 .i32) (b : Fin 1024) (k : Fin 8) (n : Fin 225) (t : Fin 147)
    (hb : i (ix2 ⟨b.1 * 8 + k.1, by omega⟩ 0) = BitVec.ofNat 32 b.1)
    (hn : i (ix2 ⟨b.1 * 8 + k.1, by omega⟩ 1) = BitVec.ofNat 32 n.1) :
    refChosen p i (ix3 b k t) = p (ix3 b n t) := by
  unfold refChosen
  pointwise
  exact gather_pair p i _ b n t hb hn

/-- An extracted number: the first layer of the chosen patch, its positive part, the second layer. -/
theorem refExtract_at (p : Arr S1024x8x147 .f32) (w : Arr S5x147 .f32) (c : Arr S5 .f32) (u : Arr S3x5 .f32)
    (d : Arr S3 .f32) (b : Fin 1024) (m : Fin 24) :
    refExtract p w c u d (ix2 b m) = ((∑ o : Fin 5, (max (((∑ t : Fin 147, (p (ix3 b ⟨m.1 / 3, by omega⟩ t) * w (ix2 o t) : EReal)) + c (ix1 o) : EReal)) 0 * u (ix2 ⟨m.1 % 3, by omega⟩ o) : EReal))
      + d (ix1 ⟨m.1 % 3, by omega⟩) : EReal) := by
  unfold refExtract
  pointwise

/-- A feature: a row's position, a column's position or an extracted number. -/
theorem refFeatures_at (r c : Arr S1024x8 .i32) (e : Arr S1024x24 .f32) (b : Fin 1024) (m : Fin 40) :
    refFeatures r c e (ix2 b m) = if h : m.1 < 16 then
      (FloatOps.sitofp (F := Ideal) .f32 (if h' : m.1 < 8 then IntOp.addi (IntOp.muli (r (ix2 b ⟨m.1, h'⟩)) 4#32) 4#32
        else IntOp.addi (IntOp.muli (c (ix2 b ⟨m.1 - 8, by omega⟩)) 4#32) 4#32) * ((1 / 64 : ℝ) : EReal) : EReal)
      else e (ix2 b ⟨m.1 - 16, by omega⟩) := by
  unfold refFeatures
  pointwise
  by_cases h : m.1 < 16
  · rw [dif_pos h, dif_pos h]
    exact div_64 _
  · rw [dif_neg h, dif_neg h]

/-- The first layer of the controller at one index. -/
theorem refLayer0_at (x : Arr S1024x40 .f32) (w : Arr S20x40 .f32) (c : Arr S20 .f32) (b : Fin 1024) (m : Fin 20) :
    refLayer0 x w c (ix2 b m) = (Ideal.logistic ((∑ k : Fin 40, (x (ix2 b k) * w (ix2 m k) : EReal)) + c (ix1 m)) : EReal) := by
  unfold refLayer0 Ideal.logistic
  pointwise

/-- The second layer of the controller at one index. -/
theorem refLayer1_at (x : Arr S1024x20 .f32) (w : Arr S15x20 .f32) (c : Arr S15 .f32) (b : Fin 1024) (m : Fin 15) :
    refLayer1 x w c (ix2 b m) = (Ideal.logistic ((∑ k : Fin 20, (x (ix2 b k) * w (ix2 m k) : EReal)) + c (ix1 m)) : EReal) := by
  unfold refLayer1 Ideal.logistic
  pointwise

/-- A logit. -/
theorem refLogits_at (x : Arr S1024x15 .f32) (w : Arr S15x15 .f32) (c : Arr S15 .f32) (b : Fin 1024) (m : Fin 15) :
    refLogits x w c (ix2 b m) = ((∑ k : Fin 15, (x (ix2 b k) * w (ix2 m k) : EReal)) + c (ix1 m) : EReal) := by
  unfold refLogits
  pointwise

/-- An image's greatest logit. -/
theorem refRowTop15_at (s : Arr S1024x15 .f32) (b : Fin 1024) :
    refRowTop15 s (ix1 b) = (top (fun k => (s (ix2 b k) : EReal)) : EReal) :=
  hostMax_last2 s _ (fun _ => ofBits_bot) _ b

/-- The floor at −∞ changes nothing. -/
theorem refFloor15_at (m : Arr S1024 .f32) (j : S1024.Idx) : refFloor15 m j = m j := by
  unfold refFloor15
  pointwise
  rw [ofBits_bot]
  exact max_eq_right bot_le

/-- A shifted exponential of a logit. -/
theorem refShifted15_at (s : Arr S1024x15 .f32) (m : Arr S1024 .f32) (b : Fin 1024) (n : Fin 15) :
    refShifted15 s m (ix2 b n) = (Ideal.exp (s (ix2 b n) - m (ix1 b)) : EReal) := by
  unfold refShifted15
  pointwise

/-- A quotient by the row's sum. -/
theorem refSoft15_at' (e : Arr S1024x15 .f32) (b : Fin 1024) (n : Fin 15) :
    refSoft15 e (ix2 b n) = (Ideal.div (e (ix2 b n)) (∑ k : Fin 15, (e (ix2 b k) : EReal)) : EReal) := by
  unfold refSoft15
  pointwise

/-- A softmax of the logits at one index. -/
theorem refSoft15_at (s : Arr S1024x15 .f32) (b : Fin 1024) (n : Fin 15) :
    refSoft15 (refExps15 s) (ix2 b n) = (soft (fun k => (s (ix2 b k) : EReal)) n : EReal) := by
  have h : ∀ k, refExps15 s (ix2 b k) = (Ideal.exp (s (ix2 b k) - top (fun k => (s (ix2 b k) : EReal))) : EReal) := by
    intro k
    unfold refExps15
    rw [refShifted15_at, refFloor15_at, refRowTop15_at]
  rw [refSoft15_at', h]
  simp only [h, soft]

/-- The action of an image with finite logits: the first greatest logit. -/
theorem refAction_row (s : Arr S1024x15 .f32) (b : Fin 1024) (hs : ∀ k, Fin' (s (ix2 b k) : EReal)) :
    refBest (refSoft15 (refExps15 s)) (ix1 b)
      = BitVec.ofNat 32 (firstMax (by decide) (fun k : Fin 15 => (s (ix2 b k) : EReal))).1 := by
  have hsoft : (fun k : Fin 15 => (refSoft15 (refExps15 s) (ix2 b k) : EReal)) = soft (fun k => (s (ix2 b k) : EReal)) :=
    funext fun k => refSoft15_at s b k
  rw [← firstMax_soft (by decide) _ hs, ← hsoft]
  refine argReduce_at (by decide) (by decide) _ _ _ _ _ b (fun k => rfl) (fun _ => ofBits_bot) fun k => ?_
  rw [refSoft15_at]
  exact lt_of_lt_of_le EReal.bot_lt_zero (soft_nonneg (by decide) _ hs k)

/-- The result: image `32 i + a` at (i, 0, a). -/
theorem refOut_at (a : Arr S1024 .i32) (i : Fin 32) (k : Fin 32) :
    refOut a (ix3 i 0 k) = a (ix1 ⟨i.1 * 32 + k.1, by omega⟩) := by
  unfold refOut
  pointwise

end Cert.ReferenceIdeal.Stage

end
-- ==== Proof.Choice.lean ====
/- The votes that the patches of one image receive, and the patches chosen by them. -/
module

public import proofs.«01_k».proof.Proof.Rows

@[expose] public section

noncomputable section

namespace Cert.Agent

open Idealize.ShloMosaic

/-- The score of patch `i` against column `m`: the query against the reshaped keys, scaled. -/
def scoreOf (q k : Fin 225 → Fin 3 → EReal) (i m : Fin 225) : EReal :=
  (∑ a : Fin 3, q i a * k ⟨a.1 * 75 + m.1 / 3, by omega⟩ ⟨m.1 % 3, by omega⟩) * ((Real.sqrt 147)⁻¹ : ℝ)

/-- The votes for patch `n`: its softmax weights summed over all patches. -/
def voteOf (q k : Fin 225 → Fin 3 → EReal) (n : Fin 225) : EReal := ∑ i : Fin 225, soft (fun m => scoreOf q k i m) n

/-- The patch chosen in place `j`. -/
def choice (q k : Fin 225 → Fin 3 → EReal) (j : Fin 8) : Fin 225 := sorted (voteOf q k) ⟨j.1, by omega⟩

/-- Queries each of whose three places is finite at every patch, or holds the same number at every patch. -/
def Level (q : Fin 225 → Fin 3 → EReal) : Prop := ∀ a, (∀ i, Fin' (q i a)) ∨ ∃ x, ∀ i, q i a = x

/-- The scores of two patches against one column are infinite together. -/
theorem score_alike (q k : Fin 225 → Fin 3 → EReal) (hq : Level q) (hk : ∀ i a, Fin' (k i a)) (i j m : Fin 225) :
    Alike (scoreOf q k i m) (scoreOf q k j m) := by
  have h : ∀ a : Fin 3, Alike (q i a * k ⟨a.1 * 75 + m.1 / 3, by omega⟩ ⟨m.1 % 3, by omega⟩)
      (q j a * k ⟨a.1 * 75 + m.1 / 3, by omega⟩ ⟨m.1 % 3, by omega⟩) := fun a => by
    rcases hq a with f | ⟨x, f⟩
    · exact Alike.of_fin ((f i).mul (hk _ _)) ((f j).mul (hk _ _))
    · rw [f i, f j]
      exact Alike.refl _
  unfold scoreOf
  rw [Fin.sum_univ_three, Fin.sum_univ_three]
  exact (((h 0).add (h 1)).add (h 2)).scale _ (inv_pos.mpr (Real.sqrt_pos.mpr (by norm_num)))

/-- The scores of all patches are rows that a softmax can weigh, or none is. -/
theorem score_rows (q k : Fin 225 → Fin 3 → EReal) (hq : Level q) (hk : ∀ i a, Fin' (k i a)) :
    (∀ i, Plain (scoreOf q k i)) ∨ ∀ i, ¬ Plain (scoreOf q k i) := by
  have h : ∀ i, Plain (scoreOf q k i) ↔ Plain (scoreOf q k 0) := fun i => plain_alike _ _ fun m => score_alike q k hq hk i 0 m
  by_cases c : Plain (scoreOf q k 0)
  · exact .inl fun i => (h i).mpr c
  · exact .inr fun i => fun e => c ((h i).mp e)

/-- A positive factor on every query is a factor on the score. -/
theorem scaled_score (q k : Fin 225 → Fin 3 → EReal) (i m : Fin 225) :
    ∑ a : Fin 3, q i a * ((Real.sqrt 147)⁻¹ : ℝ) * k ⟨a.1 * 75 + m.1 / 3, by omega⟩ ⟨m.1 % 3, by omega⟩ = scoreOf q k i m := by
  have hc : (0 : EReal) ≤ (((Real.sqrt 147)⁻¹ : ℝ) : EReal) := EReal.coe_nonneg.mpr (inv_nonneg.mpr (Real.sqrt_nonneg _))
  unfold scoreOf
  simp only [fun a : Fin 3 => mul_right_comm (q i a) (((Real.sqrt 147)⁻¹ : ℝ) : EReal) (k ⟨a.1 * 75 + m.1 / 3, by omega⟩ ⟨m.1 % 3, by omega⟩)]
  rw [Fin.sum_univ_three, Fin.sum_univ_three, EReal.right_distrib_of_nonneg_of_ne_top hc (EReal.coe_ne_top _),
    EReal.right_distrib_of_nonneg_of_ne_top hc (EReal.coe_ne_top _)]

/-- The eight rounds of the first greatest vote, the votes being the kernel's, choose the patches of the sorted votes. -/
theorem pick_choice (q k : Fin 225 → Fin 3 → EReal) (hq : Level q) (hk : ∀ i a, Fin' (k i a)) (j : Fin 8) :
    pick (by decide) (fun n : Fin 225 => ∑ i : Fin 225, weigh (scoreOf q k i) n) j.1 = choice q k j :=
  pick_weigh (by decide) (by decide) _ (score_rows q k hq hk) _ _

end Cert.Agent

end
-- ==== Proof.RefVal.lean ====
/- The reference's stages in terms of the arguments: patches, projections, chosen patches. -/
module

public import proofs.«01_k».proof.Proof.RefAt2
public import proofs.«01_k».proof.Proof.RefRun
public import proofs.«01_k».proof.Proof.Choice

@[expose] public section

set_option maxRecDepth 16384

noncomputable section

namespace Cert.ReferenceIdeal.Stage

open Idealize.ShloMosaic Cert.ReferenceIdeal Cert.ReferenceIdeal.Gen Cert.Agent

/-- A pixel of a patch, scaled: row and column of the patch's corner plus the pixel's own. -/
def pixelOf (x : Arr S1024x64x64x3 .f32) (b : Fin 1024) (n : Fin 225) (t : Fin 147) : EReal :=
  x (ix4 b ⟨4 * (n.1 / 15) + t.1 / 7 % 7, by omega⟩ ⟨4 * (n.1 % 15) + t.1 % 7, by omega⟩ ⟨t.1 / 49, by omega⟩) * ((1 / 255 : ℝ) : EReal)

/-- A projection of a patch: its pixels weighed, plus the bias. -/
def lineOf (x : Arr S1024x64x64x3 .f32) (w : Fin 147 → EReal) (c : EReal) (b : Fin 1024) (n : Fin 225) : EReal :=
  (∑ t : Fin 147, pixelOf x b n t * w t) + c

/-- The patches' pixels. -/
theorem patches_pixel (x : Arr S1024x64x64x3 .f32) (b : Fin 1024) (n : Fin 225) (t : Fin 147) :
    refPatches (refTaps (refRows (refScaled x))) (ix3 b n t) = pixelOf x b n t := by
  rw [refPatches_at, refTaps_at, refRows_at, refScaled_at]
  rfl

/-- A projection's numbers. -/
theorem proj_line (x : Arr S1024x64x64x3 .f32) (w : Arr S3x147 .f32) (c : Arr S3 .f32) (b : Fin 1024) (n : Fin 225) (o : Fin 3) :
    refProj (refPatches (refTaps (refRows (refScaled x)))) w c (ix3 b n o) = lineOf x (fun t => w (ix2 o t)) (c (ix1 o)) b n := by
  rw [refProj_at]
  simp only [patches_pixel]
  rfl

/-- The chosen patches. -/
theorem indices_choice (x : Arr S1024x64x64x3 .f32) (wq : Arr S3x147 .f32) (bq : Arr S3 .f32) (wk : Arr S3x147 .f32) (bk : Arr S3 .f32)
    (b : Fin 1024) (j : Fin 8) :
    refIndices x wq bq wk bk (ix2 b j) = BitVec.ofNat 32 (choice
      (fun n o => lineOf x (fun t => wq (ix2 o t)) (bq (ix1 o)) b n)
      (fun n o => lineOf x (fun t => wk (ix2 o t)) (bk (ix1 o)) b n) j).1 := by
  unfold refIndices
  rw [refIdx_at]
  unfold choice
  congr 3
  funext n
  rw [refVotes_at]
  refine Finset.sum_congr rfl fun i _ => ?_
  congr 1
  funext m
  rw [refScores_at]
  simp only [proj_line]
  rfl

/-- An extracted number of a chosen patch. -/
theorem extract_line (x : Arr S1024x64x64x3 .f32) (i : Arr S1024x8 .i32) (w : Arr S5x147 .f32) (c : Arr S5 .f32) (u : Arr S3x5 .f32)
    (d : Arr S3 .f32) (b : Fin 1024) (p : Fin 8 → Fin 225) (h : ∀ j, i (ix2 b j) = BitVec.ofNat 32 (p j).1) (m : Fin 24) :
    refExtract (refChosen (refPatches (refTaps (refRows (refScaled x)))) (refPairs i)) w c u d (ix2 b m)
      = ((∑ o : Fin 5, (max (lineOf x (fun t => w (ix2 o t)) (c (ix1 o)) b (p ⟨m.1 / 3, by omega⟩)) 0 * u (ix2 ⟨m.1 % 3, by omega⟩ o) : EReal))
        + d (ix1 ⟨m.1 % 3, by omega⟩) : EReal) := by
  rw [refExtract_at]
  have e : ∀ t, refChosen (refPatches (refTaps (refRows (refScaled x)))) (refPairs i) (ix3 b ⟨m.1 / 3, by omega⟩ t)
      = pixelOf x b (p ⟨m.1 / 3, by omega⟩) t := by
    intro t
    rw [refChosen_at _ _ b ⟨m.1 / 3, by omega⟩ (p ⟨m.1 / 3, by omega⟩) t ((refPairs_image i _).trans (congrArg (BitVec.ofNat 32) (by
      simp only []
      omega))) (refPairs_patch i b _ _ (h _)), patches_pixel]
  simp only [e]
  rfl

/-- A projection with finite arguments is finite. -/
theorem lineOf_fin (x : Arr S1024x64x64x3 .f32) (w : Fin 147 → EReal) (c : EReal) (hx : ∀ j, Fin' (x j)) (hw : ∀ t, Fin' (w t)) (hc : Fin' c)
    (b : Fin 1024) (n : Fin 225) : Fin' (lineOf x w c b n) :=
  (Fin'.sum _ fun t => ((hx _).mul (Fin'.coe _)).mul (hw t)).add hc

/-- Projections of finite pixels by finite weights are finite at every patch, or all their infinite bias. -/
theorem lineOf_level (x : Arr S1024x64x64x3 .f32) (w : Fin 147 → EReal) (c : EReal) (hx : ∀ j, Fin' (x j)) (hw : ∀ t, Fin' (w t)) (b : Fin 1024) :
    (∀ n, Fin' (lineOf x w c b n)) ∨ ∃ z, ∀ n, lineOf x w c b n = z := by
  have h : ∀ n, Fin' (∑ t : Fin 147, pixelOf x b n t * w t) := fun n => Fin'.sum _ fun t => ((hx _).mul (Fin'.coe _)).mul (hw t)
  unfold lineOf
  induction c with
  | coe r => exact .inl fun n => (h n).add (Fin'.coe r)
  | bot => exact .inr ⟨⊥, fun n => EReal.add_bot _⟩
  | top =>
    refine .inr ⟨⊤, fun n => ?_⟩
    obtain ⟨r, hr⟩ := h n
    rw [hr]
    exact EReal.coe_add_top r

/-- Logits with finite last parameters are finite. -/
theorem logits_fin (y : Arr S1024x20 .f32) (w1 : Arr S15x20 .f32) (b1 : Arr S15 .f32) (w2 : Arr S15x15 .f32) (b2 : Arr S15 .f32)
    (hw : ∀ j, Fin' (w2 j)) (hb : ∀ j, Fin' (b2 j)) (b : Fin 1024) (k : Fin 15) :
    Fin' (refLogits (refLayer1 y w1 b1) w2 b2 (ix2 b k)) := by
  rw [refLogits_at]
  refine Fin'.add (Fin'.sum _ fun o => Fin'.mul ?_ (hw _)) (hb _)
  rw [refLayer1_at]
  exact logistic_fin _

/-- An action. -/
theorem action_at (l : Arr S1024x15 .f32) (i a : Fin 32) (h : ∀ k, Fin' (l (ix2 ⟨i.1 * 32 + a.1, by omega⟩ k) : EReal)) :
    refAction l (ix3 i 0 a)
      = BitVec.ofNat 32 (firstMax (by decide) (fun k : Fin 15 => (l (ix2 ⟨i.1 * 32 + a.1, by omega⟩ k) : EReal))).1 := by
  unfold refAction
  rw [refOut_at]
  exact refAction_row l _ h

end Cert.ReferenceIdeal.Stage

end
-- ==== Proof.Match.lean ====
/- One image's way through the kernel's block against the same image's way through the reference. -/
module

public import proofs.«01_k».proof.Proof.KerValue
public import proofs.«01_k».proof.Proof.RefVal

@[expose] public section

set_option maxRecDepth 16384

noncomputable section

namespace Cert.Match

open Idealize.ShloMosaic Cert.Agent Cert.KernelIdeal.Block Cert.ReferenceIdeal.Stage

/-- The block's chosen patches are the choices of its queries and keys. -/
theorem choices_at (y : FVec Ideal Cert.KernelIdeal.S32x225x11 .f32) (x4 : Vec Ideal Cert.KernelIdeal.S225x225 .f32)
    (hp : ∀ m n, (x4 (ix2 m n) : EReal) = if m = column n then 1 else 0) (a : Fin 32) (q k : Fin 225 → Fin 3 → EReal)
    (hq : ∀ n o, y (ix3 a n ⟨o.1, by omega⟩) = q n o) (hk : ∀ n o, y (ix3 a n ⟨3 + o.1, by omega⟩) = k n o)
    (fq : Level q) (fk : ∀ n o, Fin' (k n o)) (j : Fin 8) :
    choices y x4 (ix2 a j) = BitVec.ofNat 32 (choice q k j).1 := by
  unfold choices
  rw [picks_at, ← pick_choice q k fq fk j]
  congr 3
  funext n
  have eq : ∀ i o, queries y (ix3 a i o) = q i o * (((Real.sqrt 147)⁻¹ : ℝ) : EReal) := fun i o => by
    rw [queries_at, hq]
  have ek : ∀ i o, keyPart y (ix3 a i o) = k i o := fun i o => by
    rw [keyPart_at, hk]
  rw [votes_at (queries y) (keyPart y) _ (fun m n => (by pointwise : View.ld x4 Cert.KernelIdeal.Gen.r0_10 (ix2 m n) = x4 (ix2 m n)).trans (hp m n)) a]
  refine Finset.sum_congr rfl fun i _ => ?_
  congr 1
  funext m
  rw [← scaled_score q k i m]
  refine Finset.sum_congr rfl fun o _ => ?_
  rw [eq, ek]

/-- The block's features are the reference's, from the same choices and the same extracted numbers. -/
theorem features_eq (v : IVec Cert.KernelIdeal.S32x8 32) (e : FVec Ideal Cert.KernelIdeal.S32x24 .f32)
    (i : IVec Cert.ReferenceIdeal.S1024x8 32) (e' : FVec Ideal Cert.ReferenceIdeal.S1024x24 .f32) (a : Fin 32) (b : Fin 1024) (p : Fin 8 → Fin 225)
    (hv : ∀ j, v (ix2 a j) = BitVec.ofNat 32 (p j).1) (hi : ∀ j, i (ix2 b j) = BitVec.ofNat 32 (p j).1)
    (he : ∀ m, e (ix2 a m) = e' (ix2 b m)) (m : Fin 40) :
    features (rowOf v) (colOf (remOf v)) e (ix2 a m) = refFeatures (refRow i) (refCol (refRem i)) e' (ix2 b m) := by
  rw [features_at, refFeatures_at]
  have hr : ∀ j, rowOf v (ix2 a j) = refRow i (ix2 b j) := fun j =>
    (rowOf_at v a j (p j) (hv j)).trans (refRow_at i b j (p j) (hi j)).symm
  have hc : ∀ j, colOf (remOf v) (ix2 a j) = refCol (refRem i) (ix2 b j) := fun j =>
    (colOf_at (remOf v) a j (p j) (remOf_at v a j (p j) (hv j))).trans (refCol_at i b j (p j) (hi j)).symm
  simp only [hr, hc, he]

/-- The block's extracted numbers are the reference's. -/
theorem extract_eq (y : FVec Ideal Cert.KernelIdeal.S32x225x11 .f32) (v : IVec Cert.KernelIdeal.S32x8 32) (x5 : FVec Ideal Cert.KernelIdeal.S5x3 .f32)
    (x6 : FVec Ideal Cert.KernelIdeal.S1x3 .f32) (x : FVec Ideal Cert.ReferenceIdeal.S1024x64x64x3 .f32) (i : IVec Cert.ReferenceIdeal.S1024x8 32)
    (we : FVec Ideal Cert.ReferenceIdeal.S5x147 .f32) (be : FVec Ideal Cert.ReferenceIdeal.S5 .f32) (wf : FVec Ideal Cert.ReferenceIdeal.S3x5 .f32)
    (bf : FVec Ideal Cert.ReferenceIdeal.S3 .f32) (a : Fin 32) (b : Fin 1024) (p : Fin 8 → Fin 225)
    (hv : ∀ j, v (ix2 a j) = BitVec.ofNat 32 (p j).1) (hi : ∀ j, i (ix2 b j) = BitVec.ofNat 32 (p j).1)
    (hy : ∀ n (o : Fin 5), y (ix3 a n ⟨6 + o.1, by omega⟩) = lineOf x (fun t => we (ix2 o t)) (be (ix1 o)) b n)
    (h5 : ∀ s o, x5 (ix2 s o) = wf (ix2 o s)) (h6 : ∀ o, x6 (ix2 0 o) = bf (ix1 o)) (m : Fin 24) :
    flat (chosen (extracts y) (hits v) x5 x6) (ix2 a m)
      = refExtract (refChosen (refPatches (refTaps (refRows (refScaled x)))) (refPairs i)) we be wf bf (ix2 b m) := by
  rw [flat_at, chosen_at _ _ _ _ _ _ _ (p ⟨m.1 / 3, by omega⟩) (fun n => hits_at v a _ n _ (hv _)), extract_line x i we be wf bf b p hi m, h6]
  congr 1
  refine Finset.sum_congr rfl fun o _ => ?_
  rw [extracts_at, hy, h5]

/-- The block's logits are the reference's. -/
theorem logits_eq (y : FVec Ideal Cert.KernelIdeal.S32x225x11 .f32) (v : IVec Cert.KernelIdeal.S32x8 32) (x5 : Vec Ideal Cert.KernelIdeal.S5x3 .f32)
    (x6 : Vec Ideal Cert.KernelIdeal.S1x3 .f32) (x7 : Vec Ideal Cert.KernelIdeal.S40x20 .f32) (x8 : Vec Ideal Cert.KernelIdeal.S1x20 .f32)
    (x9 : Vec Ideal Cert.KernelIdeal.S20x15 .f32) (x10 : Vec Ideal Cert.KernelIdeal.S1x15 .f32) (x11 : Vec Ideal Cert.KernelIdeal.S15x15 .f32)
    (x12 : Vec Ideal Cert.KernelIdeal.S1x15 .f32) (x : FVec Ideal Cert.ReferenceIdeal.S1024x64x64x3 .f32) (i : IVec Cert.ReferenceIdeal.S1024x8 32)
    (we : FVec Ideal Cert.ReferenceIdeal.S5x147 .f32) (be : FVec Ideal Cert.ReferenceIdeal.S5 .f32) (wf : FVec Ideal Cert.ReferenceIdeal.S3x5 .f32)
    (bf : FVec Ideal Cert.ReferenceIdeal.S3 .f32) (w0 : FVec Ideal Cert.ReferenceIdeal.S20x40 .f32) (b0 : FVec Ideal Cert.ReferenceIdeal.S20 .f32)
    (w1 : FVec Ideal Cert.ReferenceIdeal.S15x20 .f32) (b1 : FVec Ideal Cert.ReferenceIdeal.S15 .f32) (w2 : FVec Ideal Cert.ReferenceIdeal.S15x15 .f32)
    (b2 : FVec Ideal Cert.ReferenceIdeal.S15 .f32) (a : Fin 32) (b : Fin 1024) (p : Fin 8 → Fin 225)
    (hv : ∀ j, v (ix2 a j) = BitVec.ofNat 32 (p j).1) (hi : ∀ j, i (ix2 b j) = BitVec.ofNat 32 (p j).1)
    (hy : ∀ n (o : Fin 5), y (ix3 a n ⟨6 + o.1, by omega⟩) = lineOf x (fun t => we (ix2 o t)) (be (ix1 o)) b n)
    (h5 : ∀ s o, x5 (ix2 s o) = wf (ix2 o s)) (h6 : ∀ o, x6 (ix2 0 o) = bf (ix1 o))
    (h7 : ∀ s o, x7 (ix2 s o) = w0 (ix2 o s)) (h8 : ∀ o, x8 (ix2 0 o) = b0 (ix1 o))
    (h9 : ∀ s o, x9 (ix2 s o) = w1 (ix2 o s)) (h10 : ∀ o, x10 (ix2 0 o) = b1 (ix1 o))
    (h11 : ∀ s o, x11 (ix2 s o) = w2 (ix2 o s)) (h12 : ∀ o, x12 (ix2 0 o) = b2 (ix1 o)) (m : Fin 15) :
    logits y v x5 x6 x7 x8 x9 x10 x11 x12 (ix2 a m) = refController i x we be wf bf w0 b0 w1 b1 w2 b2 (ix2 b m) := by
  have g5 : ∀ s o, View.ld x5 Cert.KernelIdeal.Gen.r0_11 (ix2 s o) = wf (ix2 o s) := fun s o =>
    (by pointwise : View.ld x5 Cert.KernelIdeal.Gen.r0_11 (ix2 s o) = x5 (ix2 s o)).trans (h5 s o)
  have g6 : ∀ o, View.ld x6 Cert.KernelIdeal.Gen.r0_12 (ix2 0 o) = bf (ix1 o) := fun o =>
    (by pointwise : View.ld x6 Cert.KernelIdeal.Gen.r0_12 (ix2 0 o) = x6 (ix2 0 o)).trans (h6 o)
  have g7 : ∀ s o, View.ld x7 Cert.KernelIdeal.Gen.r0_13 (ix2 s o) = w0 (ix2 o s) := fun s o =>
    (by pointwise : View.ld x7 Cert.KernelIdeal.Gen.r0_13 (ix2 s o) = x7 (ix2 s o)).trans (h7 s o)
  have g8 : ∀ o, View.ld x8 Cert.KernelIdeal.Gen.r0_14 (ix2 0 o) = b0 (ix1 o) := fun o =>
    (by pointwise : View.ld x8 Cert.KernelIdeal.Gen.r0_14 (ix2 0 o) = x8 (ix2 0 o)).trans (h8 o)
  have g9 : ∀ s o, View.ld x9 Cert.KernelIdeal.Gen.r0_15 (ix2 s o) = w1 (ix2 o s) := fun s o =>
    (by pointwise : View.ld x9 Cert.KernelIdeal.Gen.r0_15 (ix2 s o) = x9 (ix2 s o)).trans (h9 s o)
  have g10 : ∀ o, View.ld x10 Cert.KernelIdeal.Gen.r0_16 (ix2 0 o) = b1 (ix1 o) := fun o =>
    (by pointwise : View.ld x10 Cert.KernelIdeal.Gen.r0_16 (ix2 0 o) = x10 (ix2 0 o)).trans (h10 o)
  have g11 : ∀ s o, View.ld x11 Cert.KernelIdeal.Gen.r0_17 (ix2 s o) = w2 (ix2 o s) := fun s o =>
    (by pointwise : View.ld x11 Cert.KernelIdeal.Gen.r0_17 (ix2 s o) = x11 (ix2 s o)).trans (h11 s o)
  have g12 : ∀ o, View.ld x12 Cert.KernelIdeal.Gen.r0_16 (ix2 0 o) = b2 (ix1 o) := fun o =>
    (by pointwise : View.ld x12 Cert.KernelIdeal.Gen.r0_16 (ix2 0 o) = x12 (ix2 0 o)).trans (h12 o)
  unfold logits refController
  rw [sums2_at, refLogits_at, g12]
  refine congrArg (· + b2 (ix1 m)) (Finset.sum_congr rfl fun s _ => ?_)
  rw [g11, sums1_at, refLayer1_at, g10]
  refine congrArg (fun z => Ideal.logistic (z + b1 (ix1 s)) * w2 (ix2 m s)) (Finset.sum_congr rfl fun r _ => ?_)
  rw [g9, sums0_at, refLayer0_at, g8]
  refine congrArg (fun z => Ideal.logistic (z + b0 (ix1 r)) * w1 (ix2 s r)) (Finset.sum_congr rfl fun k _ => ?_)
  rw [g7, features_eq v _ i _ a b p hv hi (extract_eq y v _ _ x i we be wf bf a b p hv hi hy g5 g6)]

end Cert.Match

end
-- ==== Proof.KerBlocks.lean ====
/- What every block of the kernel reads: each window's entries in terms of the arguments. -/
module

public import proofs.«01_k».proof.Proof.KerConv
public import proofs.«01_k».proof.Proof.KerVotes
public import proofs.«01_k».proof.Proof.KerTail
public import proofs.«01_k».proof.Proof.Gen.KernelIdeal.Value

@[expose] public section

set_option maxRecDepth 16384

noncomputable section

namespace Cert.KernelIdeal.Block

open Idealize.ShloMosaic Idealize.ShloMosaic.TcCoe Cert.KernelIdeal Cert.KernelIdeal.Gen Cert.Agent

variable (m : (b : Loc nD τ sig) → Buf (Elt Ideal) b)

/-- Every window's block index at every step. -/
theorem idx : ∀ t : Fin cfg0.N, win0_0.index t = ![t.1, 0, 0] ∧ win0_1.index t = ![0, 0] ∧ win0_2.index t = ![0, 0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![t.1, 0, 0] :=
  (by decide +kernel : ∀ t : Fin grid0.N, _)

/-- The image pixels of a block. -/
theorem obs_at (c : Dev nD) (t : Fin cfg0.N) (a : Fin 32) (r : Fin 16) (k : Fin 768) :
    iblk m c 0 t (ix3 a r k) = m ((c : Thread nD τ).loc main_arg0)
      (ix4 ⟨t.1 * 32 + a.1, by have : t.1 < 32 := t.2; omega⟩ ⟨4 * r.1 + k.1 / 192, by omega⟩ ⟨k.1 % 192 / 3, by omega⟩ ⟨k.1 % 3, by omega⟩) := by
  blk_ext! [iblk, V, idx t]

/-- The picking table, as the words it holds. -/
theorem sel_at (c : Dev nD) (t : Fin cfg0.N) (y : Fin 192) (x : Fin 315) :
    iblk m c 1 t (ix2 y x) = (FloatOps.ofBits .f32 (lit0t (y.1 * 315 + x.1)) : Ideal .f32) := by
  have h : iblk m c 1 t (ix2 y x) = V m c main_cst (ix2 y x) := by
    blk_ext! [iblk, idx t]
  rw [h]
  entry_read
  have e : (S192x315.rowMajor (ix2 y x)).1 = y.1 * 315 + x.1 := by
    exact Shape.rowMajor_val_two _
  exact congrArg (fun i => (FloatOps.ofBits .f32 (lit0t i) : Ideal .f32)) e

/-- The reordering table, as the words it holds. -/
theorem perm_at (c : Dev nD) (t : Fin cfg0.N) (y : Fin 225) (x : Fin 225) :
    iblk m c 4 t (ix2 y x) = (FloatOps.ofBits .f32 (lit1t (y.1 * 225 + x.1)) : Ideal .f32) := by
  have h : iblk m c 4 t (ix2 y x) = V m c main_cst_0 (ix2 y x) := by
    blk_ext! [iblk, idx t]
  rw [h]
  entry_read
  have e : (S225x225.rowMajor (ix2 y x)).1 = y.1 * 225 + x.1 := by
    exact Shape.rowMajor_val_two _
  exact congrArg (fun i => (FloatOps.ofBits .f32 (lit1t i) : Ideal .f32)) e

/-- The extraction's second weights, turned. -/
theorem we2_at (c : Dev nD) (t : Fin cfg0.N) (x : Fin 5) (o : Fin 3) :
    iblk m c 5 t (ix2 x o) = m ((c : Thread nD τ).loc main_arg7) (ix2 o x) := by
  blk_ext! [iblk, V, idx t]

/-- The extraction's second biases. -/
theorem be2_at (c : Dev nD) (t : Fin cfg0.N) (o : Fin 3) :
    iblk m c 6 t (ix2 0 o) = m ((c : Thread nD τ).loc main_arg8) (ix1 o) := by
  blk_ext! [iblk, V, idx t]

/-- The controller's first layer's weights, turned. -/
theorem w0_at (c : Dev nD) (t : Fin cfg0.N) (x : Fin 40) (o : Fin 20) :
    iblk m c 7 t (ix2 x o) = m ((c : Thread nD τ).loc main_arg9) (ix2 o x) := by
  blk_ext! [iblk, V, idx t]

/-- The controller's first layer's biases. -/
theorem b0_at (c : Dev nD) (t : Fin cfg0.N) (o : Fin 20) :
    iblk m c 8 t (ix2 0 o) = m ((c : Thread nD τ).loc main_arg10) (ix1 o) := by
  blk_ext! [iblk, V, idx t]

/-- The controller's second layer's weights, turned. -/
theorem w1_at (c : Dev nD) (t : Fin cfg0.N) (x : Fin 20) (o : Fin 15) :
    iblk m c 9 t (ix2 x o) = m ((c : Thread nD τ).loc main_arg11) (ix2 o x) := by
  blk_ext! [iblk, V, idx t]

/-- The controller's second layer's biases. -/
theorem b1_at (c : Dev nD) (t : Fin cfg0.N) (o : Fin 15) :
    iblk m c 10 t (ix2 0 o) = m ((c : Thread nD τ).loc main_arg12) (ix1 o) := by
  blk_ext! [iblk, V, idx t]

/-- The controller's last layer's weights, turned. -/
theorem w2_at (c : Dev nD) (t : Fin cfg0.N) (x : Fin 15) (o : Fin 15) :
    iblk m c 11 t (ix2 x o) = m ((c : Thread nD τ).loc main_arg13) (ix2 o x) := by
  blk_ext! [iblk, V, idx t]

/-- The controller's last layer's biases. -/
theorem b2_at (c : Dev nD) (t : Fin cfg0.N) (o : Fin 15) :
    iblk m c 12 t (ix2 0 o) = m ((c : Thread nD τ).loc main_arg14) (ix1 o) := by
  blk_ext! [iblk, V, idx t]

/-- The projections' weights side by side: queries, keys, first extraction layer. -/
def weights (wq wk : FVec Ideal S3x147 .f32) (we : FVec Ideal S5x147 .f32) (o : Fin 11) (t : Fin 147) : EReal :=
  if h : o.1 < 3 then wq (ix2 ⟨o.1, h⟩ t) else if h' : o.1 - 3 < 3 then wk (ix2 ⟨o.1 - 3, h'⟩ t) else we (ix2 ⟨o.1 - 3 - 3, by omega⟩ t)

/-- Their biases. -/
def biases (bq bk : FVec Ideal S3 .f32) (be : FVec Ideal S5 .f32) (o : Fin 11) : EReal :=
  if h : o.1 < 3 then bq (ix1 ⟨o.1, h⟩) else if h' : o.1 - 3 < 3 then bk (ix1 ⟨o.1 - 3, h'⟩) else be (ix1 ⟨o.1 - 3 - 3, by omega⟩)

/-- The biases, each fifteen times. -/
theorem bias_at (c : Dev nD) (t : Fin cfg0.N) (o : Fin 11) (k : Fin 15) :
    iblk m c 3 t (ix2 0 ⟨o.1 * 15 + k.1, by omega⟩) = biases (m ((c : Thread nD τ).loc main_arg2))
      (m ((c : Thread nD τ).loc main_arg4)) (m ((c : Thread nD τ).loc main_arg6)) o := by
  have h : iblk m c 3 t (ix2 0 ⟨o.1 * 15 + k.1, by omega⟩) = V m c main_v15 (ix2 0 ⟨o.1 * 15 + k.1, by omega⟩) := by
    blk_ext! [iblk, idx t]
  rw [h]
  entry_read
  pointwise
  rfl

/-- The unit table, as the words it holds. -/
theorem unit_word : ∀ k c : Fin 15, lit2 (S15x15.rowMajor (ix2 k c)) = if k = c then 0x3F800000#32 else 0x00000000#32 := by
  decide +kernel

/-- The word of the number one. -/
theorem ofBits_one' : Ideal.ofBits FTy.f32 0x3F800000#32 = (1 : EReal) := by
  pointwise

/-- The word of zero. -/
theorem ofBits_zero' : Ideal.ofBits FTy.f32 0x00000000#32 = (0 : EReal) := by
  pointwise

/-- The spread weights, as the products that make them. -/
theorem weight_read (c : Dev nD) (t : Fin cfg0.N) (y : Fin 7) (x : Fin 315) (c' : Fin 15) (o : Fin 11) :
    (iblk m c 2 t (ix3 y x ⟨o.1 * 15 + c'.1, by omega⟩) : EReal) =
      weights (m ((c : Thread nD τ).loc main_arg1)) (m ((c : Thread nD τ).loc main_arg3)) (m ((c : Thread nD τ).loc main_arg5)) o
        ⟨x.1 % 3 * 49 + (y.1 * 7 + x.1 / 45), by omega⟩ * Ideal.ofBits FTy.f32 (lit2 (S15x15.rowMajor (ix2 ⟨x.1 / 3 % 15, by omega⟩ c'))) := by
  have e : iblk m c 2 t (ix3 y x ⟨o.1 * 15 + c'.1, by omega⟩) = V m c main_v11 (ix3 y x ⟨o.1 * 15 + c'.1, by omega⟩) := by
    blk_ext! [iblk, idx t]
  rw [e]
  entry_read
  pointwise
  rfl

/-- The spread weights: a patch column's taps weigh only their own patch column. -/
theorem weight_at (c : Dev nD) (t : Fin cfg0.N) (y : Fin 7) (d : Fin 7) (k c' : Fin 15) (h : Fin 3) (o : Fin 11) :
    (iblk m c 2 t (ix3 y (spot d k h) ⟨o.1 * 15 + c'.1, by omega⟩) : EReal) = if k = c' then
      weights (m ((c : Thread nD τ).loc main_arg1)) (m ((c : Thread nD τ).loc main_arg3)) (m ((c : Thread nD τ).loc main_arg5)) o (pixel h y d)
      else 0 := by
  refine (weight_read m c t y (spot d k h) c' o).trans ?_
  have e1 : (spot d k h).1 % 3 = h.1 := by
    simp only [spot]
    omega
  have e2 : (spot d k h).1 / 45 = d.1 := by
    simp only [spot]
    omega
  have e3 : (⟨(spot d k h).1 / 3 % 15, by omega⟩ : Fin 15) = k := Fin.ext (by
    simp only [spot]
    omega)
  have e4 : (⟨(spot d k h).1 % 3 * 49 + (y.1 * 7 + (spot d k h).1 / 45), by omega⟩ : Fin 147) = pixel h y d := Fin.ext (by
    simp only [e1, e2, pixel])
  rw [e3, e4, unit_word]
  by_cases q : k = c'
  · rw [if_pos q, if_pos q, ofBits_one', mul_one]
  · rw [if_neg q, if_neg q, ofBits_zero', mul_zero]

end Cert.KernelIdeal.Block

end
-- ==== Proof.Tables.lean ====
/- Checking a table of words against a rule, stretch by stretch. -/
module

public import proofs.«01_k».proof.Proof.KerRounds

@[expose] public section

set_option maxRecDepth 16384

noncomputable section

namespace Cert.KernelIdeal.Block

open Idealize.ShloMosaic Cert.KernelIdeal Cert.KernelIdeal.Gen Cert.Agent

/-- Whether `p` holds at all of `s, …, s + n - 1`. -/
def holdsOn (p : ℕ → Bool) (s : ℕ) : ℕ → Bool
  | 0 => true
  | n + 1 => p (s + n) && holdsOn p s n

/-- A stretch that was checked holds at each of its positions. -/
theorem holdsOn_spec (p : ℕ → Bool) (s : ℕ) : ∀ n, holdsOn p s n = true → ∀ k, k < n → p (s + k) = true
  | 0, _, k, hk => absurd hk (Nat.not_lt_zero k)
  | n + 1, h, k, hk => by
    have h' : p (s + n) = true ∧ holdsOn p s n = true := by
      simpa [holdsOn] using h
    rcases Nat.lt_succ_iff_lt_or_eq.mp hk with c | c
    · exact holdsOn_spec p s n h'.2 k c
    · rw [c]
      exact h'.1

/-- A table checked on `m` stretches of `n` entries follows the rule at each entry. -/
theorem table_rule (t rule : ℕ → ℕ) (m n : ℕ) (hn : 0 < n)
    (h : ∀ c : Fin m, holdsOn (fun i => Nat.beq (t i) (rule i)) (c.1 * n) n = true) (i : ℕ) (hi : i < m * n) : t i = rule i := by
  have e := holdsOn_spec _ _ _ (h ⟨i / n, Nat.div_lt_of_lt_mul (by rwa [Nat.mul_comm] at hi)⟩) (i % n) (Nat.mod_lt i hn)
  have q : i / n * n + i % n = i := Nat.div_add_mod' i n
  simp only [q] at e
  exact Nat.eq_of_beq_eq_true e

end Cert.KernelIdeal.Block

end
-- ==== Proof.PermTable.lean ====
/- The table that puts the votes back in order. -/
module

public import proofs.«01_k».proof.Proof.Tables

@[expose] public section

set_option maxRecDepth 16384

noncomputable section

namespace Cert.KernelIdeal.Block

open Idealize.ShloMosaic Cert.KernelIdeal Cert.KernelIdeal.Gen Cert.Agent

/-- The rule: row `75 c + m` has its 1.0 in column `3 m + c`, and zeros elsewhere. -/
def permRule (i : ℕ) : ℕ := bif Nat.beq (3 * (i / 225 % 75) + i / 225 / 75) (i % 225) then 0x3F800000 else 0

set_option maxHeartbeats 1600000 in
/-- The table follows the rule on every stretch of one row. -/
theorem perm_rows : ∀ c : Fin 225, holdsOn (fun i => Nat.beq (lit1t i).toNat (permRule i)) (c.1 * 225) 225 = true := by
  intro c
  fin_cases c <;> decide +kernel

/-- The table follows the rule. -/
theorem perm_rule (i : ℕ) (hi : i < 50625) : (lit1t i).toNat = permRule i :=
  table_rule (fun i => (lit1t i).toNat) permRule 225 225 (by decide) perm_rows i hi

end Cert.KernelIdeal.Block

end
-- ==== Proof.SelTable.lean ====
/- The table that picks the pixel columns of every tap. -/
module

public import proofs.«01_k».proof.Proof.Tables

@[expose] public section

set_option maxRecDepth 16384

noncomputable section

namespace Cert.KernelIdeal.Block

open Idealize.ShloMosaic Cert.KernelIdeal Cert.KernelIdeal.Gen Cert.Agent

/-- The rule: column `45 dx + 3 c + h` has its 1.0 in row `(4 c + dx) 3 + h`, and zeros elsewhere. -/
def selRule (i : ℕ) : ℕ :=
  bif Nat.beq ((4 * (i % 315 % 45 / 3) + i % 315 / 45) * 3 + i % 315 % 3) (i / 315) then 0x3F800000 else 0

set_option maxHeartbeats 1600000 in
/-- The table follows the rule on every stretch of one row. -/
theorem sel_rows : ∀ c : Fin 192, holdsOn (fun i => Nat.beq (lit0t i).toNat (selRule i)) (c.1 * 315) 315 = true := by
  intro c
  fin_cases c <;> decide +kernel

/-- The table follows the rule. -/
theorem sel_rule (i : ℕ) (hi : i < 60480) : (lit0t i).toNat = selRule i :=
  table_rule (fun i => (lit0t i).toNat) selRule 192 315 (by decide) sel_rows i hi

end Cert.KernelIdeal.Block

end
-- ==== Proof.Picks.lean ====
/- The two picking tables as the blocks read them, entry by entry. -/
module

public import proofs.«01_k».proof.Proof.KerBlocks
public import proofs.«01_k».proof.Proof.PermTable
public import proofs.«01_k».proof.Proof.SelTable

@[expose] public section

set_option maxRecDepth 16384

noncomputable section

namespace Cert.KernelIdeal.Block

open Idealize.ShloMosaic Idealize.ShloMosaic.TcCoe Cert.KernelIdeal Cert.KernelIdeal.Gen Cert.Agent

variable (m : (b : Loc nD τ sig) → Buf (Elt Ideal) b)

/-- A word that is the word of one or of zero, as a number. -/
theorem word_value (w : BitVec 32) (b : Bool) (h : w.toNat = bif b then 0x3F800000 else 0) :
    (FloatOps.ofBits .f32 w : Ideal .f32) = if b = true then (1 : EReal) else 0 := by
  cases b
  · have e : w = 0x00000000#32 := BitVec.eq_of_toNat_eq (by simpa using h)
    rw [e]
    exact ofBits_zero'
  · have e : w = 0x3F800000#32 := BitVec.eq_of_toNat_eq (by simpa using h)
    rw [e]
    exact ofBits_one'

/-- The picking table has its ones at the places of the taps. -/
theorem sel_spot (c : Dev nD) (t : Fin cfg0.N) (d : Fin 7) (k : Fin 15) (h : Fin 3) (y : Fin 192) :
    (iblk m c 1 t (ix2 y (spot d k h)) : EReal) = if y = place k d h then (1 : EReal) else (0 : EReal) := by
  refine (sel_at m c t y (spot d k h)).trans ?_
  refine (word_value _ _ (sel_rule _ (by omega))).trans (if_congr ?_ rfl rfl)
  rw [Nat.beq_eq, Fin.ext_iff]
  simp only [spot, place]
  have e1 : (y.1 * 315 + (d.1 * 45 + (k.1 * 3 + h.1))) / 315 = y.1 := by omega
  have e2 : (y.1 * 315 + (d.1 * 45 + (k.1 * 3 + h.1))) % 315 = d.1 * 45 + (k.1 * 3 + h.1) := by omega
  have e3 : (d.1 * 45 + (k.1 * 3 + h.1)) % 45 = k.1 * 3 + h.1 := by omega
  have e4 : (d.1 * 45 + (k.1 * 3 + h.1)) / 45 = d.1 := by omega
  have e5 : (d.1 * 45 + (k.1 * 3 + h.1)) % 3 = h.1 := by omega
  rw [e1, e2, e3, e4, e5]
  omega

/-- The reordering table has its ones at the columns of the keys. -/
theorem perm_column (c : Dev nD) (t : Fin cfg0.N) (y x : Fin 225) :
    (iblk m c 4 t (ix2 y x) : EReal) = if y = column x then (1 : EReal) else (0 : EReal) := by
  refine (perm_at m c t y x).trans ?_
  refine (word_value _ _ (perm_rule _ (by omega))).trans (if_congr ?_ rfl rfl)
  rw [Nat.beq_eq, Fin.ext_iff]
  simp only [column]
  have e1 : (y.1 * 225 + x.1) / 225 = y.1 := by omega
  have e2 : (y.1 * 225 + x.1) % 225 = x.1 := by omega
  rw [e1, e2]
  have := y.2
  omega

end Cert.KernelIdeal.Block

end
-- ==== Proof.KerOut.lean ====
/- The kernel's result array, once its windows are read and its tables are known: the reference's. -/
module

public import proofs.«01_k».proof.Proof.Match
public import proofs.«01_k».proof.Proof.Picks
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen Cert.Agent

variable (m : (b : Loc nD τ sig) → Buf (Elt Ideal) b)

/-- The image that a block's image is. -/
def image (t : Fin cfg0.N) (a : Fin 32) : Fin 1024 := ⟨t.1 * 32 + a.1, by have : t.1 < 32 := t.2; omega⟩

/-- A block's projections are the lines of its images' patches. -/
theorem projected_line (c : Dev nD) (t : Fin cfg0.N) (a : Fin 32) (n : Fin 225) (o : Fin 11) :
    projected (iblk m c 0 t) (iblk m c 1 t) (iblk m c 2 t) (iblk m c 3 t) (ix3 a n o)
      = Cert.ReferenceIdeal.Stage.lineOf (m ((c : Thread nD τ).loc main_arg0))
        (weights (m ((c : Thread nD τ).loc main_arg1)) (m ((c : Thread nD τ).loc main_arg3)) (m ((c : Thread nD τ).loc main_arg5)) o)
        (biases (m ((c : Thread nD τ).loc main_arg2)) (m ((c : Thread nD τ).loc main_arg4)) (m ((c : Thread nD τ).loc main_arg6)) o)
        (image t a) n := by
  refine (projected_at _ _ _ _ _ _ (fun d k h y => sel_spot m c t d k h y) (fun y d k h o c' => weight_at m c t y d k c' h o)
    (fun o k => bias_at m c t o k) a n o).trans ?_
  unfold Cert.ReferenceIdeal.Stage.lineOf
  refine congrArg (· + biases _ _ _ o) (Finset.sum_congr rfl fun s _ => ?_)
  refine congrArg (fun z : EReal => z * ((1 / 255 : ℝ) : EReal) * weights _ _ _ o s) ?_
  refine (obs_at m c t a _ _).trans (congrArg _ ?_)
  have e0 : s.1 / 7 % 7 < 7 := Nat.mod_lt _ (by decide)
  have e1 : s.1 % 7 < 7 := Nat.mod_lt _ (by decide)
  have e2 : s.1 / 49 < 3 := by omega
  have e3 : 4 * (n.1 % 15) + s.1 % 7 < 64 := by omega
  have e4 : ∀ r p h : ℕ, p < 64 → h < 3 → (r * 192 + (p * 3 + h)) / 192 = r ∧ (r * 192 + (p * 3 + h)) % 192 / 3 = p ∧
      (r * 192 + (p * 3 + h)) % 3 = h := fun r p h hp hh => by
    have : (r * 192 + (p * 3 + h)) % 192 = p * 3 + h := by omega
    rw [this]
    omega
  obtain ⟨g1, g2, g3⟩ := e4 (s.1 / 7 % 7 % 4) _ _ e3 e2
  unfold image
  congr 1
  · refine Fin.ext ?_
    show 4 * (s.1 / 7 % 7 / 4 + n.1 / 15) + (s.1 / 7 % 7 % 4 * 192 + ((4 * (n.1 % 15) + s.1 % 7) * 3 + s.1 / 49)) / 192 = 4 * (n.1 / 15) + s.1 / 7 % 7
    rw [g1]
    omega
  · exact Fin.ext g2
  · exact Fin.ext g3

/-- The query part of a block's projections. -/
theorem query_line (c : Dev nD) (t : Fin cfg0.N) (a : Fin 32) (n : Fin 225) (o : Fin 3) :
    projected (iblk m c 0 t) (iblk m c 1 t) (iblk m c 2 t) (iblk m c 3 t) (ix3 a n ⟨o.1, by omega⟩)
      = Cert.ReferenceIdeal.Stage.lineOf (m ((c : Thread nD τ).loc main_arg0))
        (fun s => m ((c : Thread nD τ).loc main_arg1) (ix2 o s)) (m ((c : Thread nD τ).loc main_arg2) (ix1 o)) (image t a) n := by
  refine (projected_line m c t a n _).trans ?_
  unfold weights biases
  simp only [dif_pos o.2]

/-- The key part of a block's projections. -/
theorem key_line (c : Dev nD) (t : Fin cfg0.N) (a : Fin 32) (n : Fin 225) (o : Fin 3) :
    projected (iblk m c 0 t) (iblk m c 1 t) (iblk m c 2 t) (iblk m c 3 t) (ix3 a n ⟨3 + o.1, by omega⟩)
      = Cert.ReferenceIdeal.Stage.lineOf (m ((c : Thread nD τ).loc main_arg0))
        (fun s => m ((c : Thread nD τ).loc main_arg3) (ix2 o s)) (m ((c : Thread nD τ).loc main_arg4) (ix1 o)) (image t a) n := by
  refine (projected_line m c t a n _).trans ?_
  unfold weights biases
  have e : 3 + o.1 - 3 = o.1 := by omega
  simp only [dif_neg (show ¬ 3 + o.1 < 3 by omega), e, dif_pos o.2]

/-- The extraction part of a block's projections. -/
theorem extract_part (c : Dev nD) (t : Fin cfg0.N) (a : Fin 32) (n : Fin 225) (o : Fin 5) :
    projected (iblk m c 0 t) (iblk m c 1 t) (iblk m c 2 t) (iblk m c 3 t) (ix3 a n ⟨6 + o.1, by omega⟩)
      = Cert.ReferenceIdeal.Stage.lineOf (m ((c : Thread nD τ).loc main_arg0))
        (fun s => m ((c : Thread nD τ).loc main_arg5) (ix2 o s)) (m ((c : Thread nD τ).loc main_arg6) (ix1 o)) (image t a) n := by
  refine (projected_line m c t a n _).trans ?_
  unfold weights biases
  have e : 6 + o.1 - 3 - 3 = o.1 := by omega
  simp only [dif_neg (show ¬ 6 + o.1 < 3 by omega), dif_neg (show ¬ 6 + o.1 - 3 < 3 by omega), e, Fin.eta]

/-- The finiteness that the claim asks of the arguments. -/
def FiniteArgs (c : Dev nD) : Prop :=
  (∀ j, Fin' (m ((c : Thread nD τ).loc main_arg0) j)) ∧ (∀ j, Fin' (m ((c : Thread nD τ).loc main_arg1) j)) ∧
  (∀ j, Fin' (m ((c : Thread nD τ).loc main_arg3) j)) ∧ (∀ j, Fin' (m ((c : Thread nD τ).loc main_arg4) j)) ∧ (∀ j, Fin' (m ((c : Thread nD τ).loc main_arg13) j)) ∧
  (∀ j, Fin' (m ((c : Thread nD τ).loc main_arg14) j))

/-- The reference's result from the kernel's arguments. -/
def wanted (c : Dev nD) : Cert.ReferenceIdeal.Stage.Arr S32x1x32 .i32 :=
  Cert.ReferenceIdeal.Stage.refAll (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The patches that an image chooses. -/
def picked (c : Dev nD) (b : Fin 1024) (j : Fin 8) : Fin 225 :=
  choice
    (fun n o => Cert.ReferenceIdeal.Stage.lineOf (m ((c : Thread nD τ).loc main_arg0))
      (fun s => m ((c : Thread nD τ).loc main_arg1) (ix2 o s)) (m ((c : Thread nD τ).loc main_arg2) (ix1 o)) b n)
    (fun n o => Cert.ReferenceIdeal.Stage.lineOf (m ((c : Thread nD τ).loc main_arg0))
      (fun s => m ((c : Thread nD τ).loc main_arg3) (ix2 o s)) (m ((c : Thread nD τ).loc main_arg4) (ix1 o)) b n) j

/-- A block chooses those patches. -/
theorem block_choices (c : Dev nD) (hf : FiniteArgs m c) (t : Fin cfg0.N) (a : Fin 32) (j : Fin 8) :
    choices (projected (iblk m c 0 t) (iblk m c 1 t) (iblk m c 2 t) (iblk m c 3 t)) (iblk m c 4 t) (ix2 a j)
      = BitVec.ofNat 32 (picked m c (image t a) j).1 := by
  obtain ⟨f0, f1, f3, f4, -, -⟩ := hf
  exact Cert.Match.choices_at _ _ (fun y x => perm_column m c t y x) a _ _ (fun n o => query_line m c t a n o)
    (fun n o => key_line m c t a n o) (fun o => Cert.ReferenceIdeal.Stage.lineOf_level _ _ _ f0 (fun _ => f1 _) _)
    (fun n o => Cert.ReferenceIdeal.Stage.lineOf_fin _ _ _ f0 (fun _ => f3 _) (f4 _) _ _) j

/-- The reference's logits from the kernel's arguments. -/
def wantedLogits (c : Dev nD) : Cert.ReferenceIdeal.Stage.Arr Cert.ReferenceIdeal.S1024x15 .f32 :=
  Cert.ReferenceIdeal.Stage.refController
    (Cert.ReferenceIdeal.Stage.refIndices (m ((c : Thread nD τ).loc main_arg0)) (m ((c : Thread nD τ).loc main_arg1))
      (m ((c : Thread nD τ).loc main_arg2)) (m ((c : Thread nD τ).loc main_arg3)) (m ((c : Thread nD τ).loc main_arg4)))
    (m ((c : Thread nD τ).loc main_arg0)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- A block's logits are the reference's. -/
theorem block_logits (c : Dev nD) (hf : FiniteArgs m c) (t : Fin cfg0.N) (a : Fin 32) (k : Fin 15) :
    logits (projected (iblk m c 0 t) (iblk m c 1 t) (iblk m c 2 t) (iblk m c 3 t))
      (choices (projected (iblk m c 0 t) (iblk m c 1 t) (iblk m c 2 t) (iblk m c 3 t)) (iblk m c 4 t))
      (iblk m c 5 t) (iblk m c 6 t) (iblk m c 7 t) (iblk m c 8 t) (iblk m c 9 t) (iblk m c 10 t) (iblk m c 11 t) (iblk m c 12 t) (ix2 a k)
      = wantedLogits m c (ix2 (image t a) k) := by
  have hv := block_choices m c hf t a
  have hy := extract_part m c t a
  generalize projected (iblk m c 0 t) (iblk m c 1 t) (iblk m c 2 t) (iblk m c 3 t) = y at hv hy ⊢
  generalize choices y (iblk m c 4 t) = v at hv ⊢
  exact Cert.Match.logits_eq y v (iblk m c 5 t) (iblk m c 6 t) (iblk m c 7 t) (iblk m c 8 t) (iblk m c 9 t) (iblk m c 10 t) (iblk m c 11 t)
    (iblk m c 12 t) _ _ _ _ _ _ _ _ _ _ _ _ a (image t a) (picked m c (image t a)) hv
    (fun j => Cert.ReferenceIdeal.Stage.indices_choice _ _ _ _ _ (image t a) j) hy
    (we2_at m c t) (be2_at m c t) (w0_at m c t) (b0_at m c t) (w1_at m c t) (b1_at m c t) (w2_at m c t) (b2_at m c t) k

/-- The reference's logits are finite. -/
theorem wanted_fin (c : Dev nD) (hf : FiniteArgs m c) (b : Fin 1024) (k : Fin 15) : Fin' (wantedLogits m c (ix2 b k)) := by
  obtain ⟨-, -, -, -, f13, f14⟩ := hf
  exact Cert.ReferenceIdeal.Stage.logits_fin _ _ _ _ _ f13 f14 b k

/-- A block's actions are the reference's. -/
theorem block_actions (c : Dev nD) (hf : FiniteArgs m c) (t : Fin cfg0.N) (i a : Fin 32) (hi : i.1 = t.1) :
    actions (logits (projected (iblk m c 0 t) (iblk m c 1 t) (iblk m c 2 t) (iblk m c 3 t))
      (choices (projected (iblk m c 0 t) (iblk m c 1 t) (iblk m c 2 t) (iblk m c 3 t)) (iblk m c 4 t))
      (iblk m c 5 t) (iblk m c 6 t) (iblk m c 7 t) (iblk m c 8 t) (iblk m c 9 t) (iblk m c 10 t) (iblk m c 11 t) (iblk m c 12 t)) (ix1 a)
      = wanted m c (ix3 i 0 a) := by
  have eb : (⟨i.1 * 32 + a.1, by omega⟩ : Fin 1024) = image t a := Fin.ext (by simp only [image, hi])
  refine (actions_at _ a).trans ?_
  rw [show (fun k : Fin 15 => logits _ _ _ _ _ _ _ _ _ _ (ix2 a k)) = fun k => wantedLogits m c (ix2 (image t a) k) from
    funext fun k => block_logits m c hf t a k, ← eb]
  exact (Cert.ReferenceIdeal.Stage.action_at (wantedLogits m c) i a fun k => wanted_fin m c hf _ k).symm

/-- The kernel's result array is the reference's. -/
theorem result_eq (c : Dev nD) (hf : FiniteArgs m c) : (dats m 0 c).arrAt 13 cfg0.N = wanted m c := by
  refine (dats m 0 c).arrAt_eq_of_covers 13 _ (by decide +kernel) fun t ht y => ?_
  blk_simp
  rw [after0_13, out_eq]
  frame_out
  have hz : ∀ z : S1x1x32.Idx, shapeCast S1x1x32 (actions (logits (projected (iblk m c 0 t) (iblk m c 1 t) (iblk m c 2 t) (iblk m c 3 t))
      (choices (projected (iblk m c 0 t) (iblk m c 1 t) (iblk m c 2 t) (iblk m c 3 t)) (iblk m c 4 t))
      (iblk m c 5 t) (iblk m c 6 t) (iblk m c 7 t) (iblk m c 8 t) (iblk m c 9 t) (iblk m c 10 t) (iblk m c 11 t) (iblk m c 12 t)))
      shapeCasts_S32_S1x1x32 z = wanted m c (ix3 ⟨t.1, t.2⟩ 0 (z 2)) := fun z => by
    refine Eq.trans ?_ (block_actions m c hf t ⟨t.1, t.2⟩ (z 2) rfl)
    pointwise
  refine (hz y).trans (congrArg _ ?_)
  funext k
  refine Fin.ext ?_
  fin_vals k with hk
  · obtain rfl : k = 0 := Fin.ext hk
    blk_simp [idx t]
  · obtain rfl : k = 1 := Fin.ext hk
    blk_simp [idx t]
    rfl
  · obtain rfl : k = 2 := Fin.ext hk
    blk_simp [idx t]

end Cert.KernelIdeal.Block

end
-- ==== Proof.Finite.lean ====
/- What the precondition says: the six arguments that it names hold numbers, no infinity. -/
module

public import proofs.«01_k».proof.Defs
public import proofs.«01_k».proof.Proof.Gen.Pre_finite_args
public import proofs.«01_k».proof.Proof.KerOut
public import Idealize.ShloMosaic.Lib.ReduceAll

@[expose] public section

noncomputable section

namespace Cert.Finite

open Idealize.ShloMosaic Cert.Agent

/-- A magnitude that compares below the word of infinity belongs to a number. -/
theorem fin_of_lt (x : Ideal .f32) (h : FloatOps.cmpf .olt (FloatOps.hostAbsf x) (FloatOps.ofBits .f32 0x7F800000#32 : Ideal .f32) = 1#1) : Fin' x := by
  have e : Ideal.ofBits .f32 0x7F800000#32 = ⊤ := by
    simp [Ideal.ofBits, Ideal.ieee]
  have l : max (x : EReal) (-(x : EReal)) < Ideal.ofBits .f32 0x7F800000#32 := by
    by_contra n
    refine absurd h ?_
    show BitVec.ofBool (decide (max (x : EReal) (-(x : EReal)) < Ideal.ofBits .f32 0x7F800000#32)) ≠ 1#1
    rw [decide_eq_false n]
    decide
  rw [e, max_lt_iff] at l
  refine ⟨EReal.toReal x, (EReal.coe_toReal l.1.ne ?_).symm⟩
  rintro rfl
  exact absurd l.2 (by simp)

/-- Two bits whose conjunction is one are one. -/
theorem and_one (x y : BitVec 1) (h : IntOp.andi x y = 1#1) : x = 1#1 ∧ y = 1#1 := by
  revert x y
  decide

/-- An argument whose bit of the precondition is one holds numbers. -/
theorem fin_of_all {s t u : Shape} {axes : List (Fin s.rank)} [Subsingleton t.Idx] (x : FVec Ideal s .f32) (hb : Cert.Pre_finite_args.S_.BroadcastsInDim s ![])
    (init : u.Idx → BitVec 1) (h : s.ReducesTo axes t) (hu : 0 < u.numel) (j : t.Idx)
    (e : Host.reduce IntOp.andi (cmpf .olt (Host.absf x) (broadcastInDim s ![] hb (constant Cert.Pre_finite_args.S_ .f32 0x7F800000#32))) init h hu j = 1#1)
    (i : s.Idx) : Fin' (x i) :=
  fin_of_lt _ (Host.reduce_andi_all _ _ h hu j e i)

/-- The precondition gives the finiteness that the kernel's value needs. -/
theorem finiteArgs (m : (ℓ : Loc Cert.KernelIdeal.nD Cert.KernelIdeal.τ Cert.KernelIdeal.sig) → Buf (Elt Ideal) ℓ)
    (h : Cert.Pre_KernelIdeal_finite_args m) (c : Dev Cert.KernelIdeal.nD) : Cert.KernelIdeal.Block.FiniteArgs m c := by
  have e := congrFun (h c) ix0
  obtain ⟨e, h14⟩ := and_one _ _ e
  obtain ⟨e, h13⟩ := and_one _ _ e
  obtain ⟨e, h4⟩ := and_one _ _ e
  obtain ⟨e, h3⟩ := and_one _ _ e
  obtain ⟨h0, h1⟩ := and_one _ _ e
  exact ⟨fin_of_all _ _ _ _ _ _ h0, fin_of_all _ _ _ _ _ _ h1, fin_of_all _ _ _ _ _ _ h3,
    fin_of_all _ _ _ _ _ _ h4, fin_of_all _ _ _ _ _ _ h13, fin_of_all _ _ _ _ _ _ h14⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_args
public import proofs.«01_k».proof.Proof.RefRun
public import proofs.«01_k».proof.Proof.KerOut
public import proofs.«01_k».proof.Proof.Finite
public import Idealize.ShloMosaic.Adequacy
public import Idealize.ShloMosaic.Init

@[expose] public section

noncomputable section

namespace Cert.Proof

open Idealize.ShloMosaic Idealize.SL.Sem

/-- The claim. -/
theorem claim : Cert.Claim := by
  refine ⟨Cert.Kernel.Gen.facts, Cert.KernelIdeal.Gen.facts, Cert.ReferenceIdeal.Gen.facts, Cert.Pre_finite_args.Gen.facts,
    ?_, ?_, ?_, ?_, ?_, ?_, ?_⟩
  · intro m g _
    run_from Cert.Kernel.Gen.frame m g
  · intro m g _
    run_from Cert.KernelIdeal.Gen.frame m g
  · intro m g _
    run_from Cert.KernelIdeal.Gen.frame m g
  · intro m g _
    exact (θ_run _ _ _).mono (fun r h => ⟨fun c => (h c).2, sem_eq_zero_of_no_sems (by decide) r.2⟩)
      (Cert.ReferenceIdeal.Stage.run m g)
  · intro m g _
    exact (θ_run _ _ _).mono (fun r h => ⟨fun c => (h c).2, sem_eq_zero_of_no_sems (by decide) r.2⟩)
      (Cert.ReferenceIdeal.Stage.run m g)
  · exact ⟨IdealRules.named_const.statement _ _ _ _ _ rfl, IdealRules.named_const.statement _ _ _ _ _ rfl⟩
  · intro m g m' g' hpre hargs
    refine ⟨fun c => Cert.KernelIdeal.Block.wanted m c, ?_, ?_⟩
    · exact (θ_run _ _ _).mono (fun r h c => ⟨(h c).1.trans (Cert.KernelIdeal.Block.result_eq m c (Cert.Finite.finiteArgs m hpre c)), (h c).2⟩)
        (Cert.KernelIdeal.Value.run_blocks m g)
    · refine (θ_run _ _ _).mono (fun r h c => ⟨(h c).1.trans ?_, (h c).2⟩) (Cert.ReferenceIdeal.Stage.run m' g')
      obtain ⟨a0, a1, a2, a3, a4, a5, a6, a7, a8, a9, a10, a11, a12, a13, a14⟩ := hargs c
      rw [a0, a1, a2, a3, a4, a5, a6, a7, a8, a9, a10, a11, a12, a13, a14]
      rfl

end Cert.Proof

end
